-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3DE995B3#32 (((10610843 / 134217728) * (Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S1x1792x24x160 : Shape := ⟨4, ![1, 1792, 24, 160]⟩
abbrev S24 : Shape := ⟨1, ![24]⟩
abbrev S1x1792x6x160 : Shape := ⟨4, ![1, 1792, 6, 160]⟩
abbrev S6 : Shape := ⟨1, ![6]⟩
abbrev S1x24x1792 : Shape := ⟨3, ![1, 24, 1792]⟩
abbrev S1x1792 : Shape := ⟨2, ![1, 1792]⟩
abbrev S_ : Shape := ⟨0, ![]⟩
abbrev S1 : Shape := ⟨1, ![1]⟩
abbrev S2 : Shape := ⟨1, ![2]⟩

class Facts : Prop where
  bcast_S_S1x1792 : S_.BroadcastsInDim S1x1792 (![] : Fin 0 → Fin S1x1792.rank)
  reducesTo_S1x1792_S_d0_1 : S1x1792.ReducesTo [0, 1] S_
  h_S_ : 0 < S_.numel
  bcast_S_S6 : S_.BroadcastsInDim S6 (![] : Fin 0 → Fin S6.rank)
  reducesTo_S6_S_d0 : S6.ReducesTo [0] S_
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S1x1792x24x160 .fp8e4m3) (main_arg1 : FVec F S24 .f32) (main_arg2 : FVec F S1x1792x6x160 .fp8e4m3) (main_arg3 : FVec F S6 .f32) (main_arg4 : FVec F S1x1792x6x160 .fp8e4m3) (main_arg5 : FVec F S6 .f32) (main_arg6 : FVec F S1x1792x24x160 .bf16) (main_arg7 : FVec F S1x24x1792 .f32) (main_arg8 : FVec F S1x1792x24x160 .fp8e5m2) (main_arg9 : FVec F S1x1792 .f32) (main_arg10 : IVec S1x1792 32) : IVec S2 1 :=
  let main_cst : FVec F S_ .f32 := constant S_ .f32 0x00000000#32
  let main_v0 : FVec F S1x1792 .f32 := broadcastInDim S1x1792 ![] bcast_S_S1x1792 main_cst
  let main_v1 : IVec S1x1792 1 := cmpf .oge main_arg9 main_v0
  let main_cst_0 : FVec F S_ .f32 := constant S_ .f32 0x7F800000#32
  let main_v2 : FVec F S1x1792 .f32 := broadcastInDim S1x1792 ![] bcast_S_S1x1792 main_cst_0
  let main_v3 : IVec S1x1792 1 := cmpf .olt main_arg9 main_v2
  let main_v4 : IVec S1x1792 1 := andi main_v1 main_v3
  let main_c : IVec S_ 1 := constantI S_ 1 1#1
  let main_v5 : IVec S_ 1 := (fun x v => Host.reduce IntOp.andi x v reducesTo_S1x1792_S_d0_1 h_S_) main_v4 main_c
  let main_cst_1 : FVec F S_ .f32 := constant S_ .f32 0x00000000#32
  let main_v6 : FVec F S6 .f32 := broadcastInDim S6 ![] bcast_S_S6 main_cst_1
  let main_v7 : IVec S6 1 := cmpf .oge main_arg5 main_v6
  let main_cst_2 : FVec F S_ .f32 := constant S_ .f32 0x7F800000#32
  let main_v8 : FVec F S6 .f32 := broadcastInDim S6 ![] bcast_S_S6 main_cst_2
  let main_v9 : IVec S6 1 := cmpf .olt main_arg5 main_v8
  let main_v10 : IVec S6 1 := andi main_v7 main_v9
  let main_c_3 : IVec S_ 1 := constantI S_ 1 1#1
  let main_v11 : IVec S_ 1 := (fun x v => Host.reduce IntOp.andi x v reducesTo_S6_S_d0 h_S_) main_v10 main_c_3
  let main_v12 : IVec S1 1 := broadcastInDim S1 ![] bcast_S_S1 main_v5
  let main_v13 : IVec S1 1 := broadcastInDim S1 ![] bcast_S_S1 main_v11
  let main_v14 : IVec S2 1 := (fun a b => concatenate S2 0 [⟨S1, a⟩, ⟨S1, b⟩] concatenates_S1_S1_S2_d0) main_v12 main_v13
  main_v14
-- ==== Kernel.lean ====
abbrev S1x1792x24x160 : Shape := ⟨4, ![1, 1792, 24, 160]⟩
abbrev S24 : Shape := ⟨1, ![24]⟩
abbrev S1x1792x6x160 : Shape := ⟨4, ![1, 1792, 6, 160]⟩
abbrev S6 : Shape := ⟨1, ![6]⟩
abbrev S1x24x1792 : Shape := ⟨3, ![1, 24, 1792]⟩
abbrev S1x1792 : Shape := ⟨2, ![1, 1792]⟩
abbrev S80 : Shape := ⟨1, ![80]⟩
abbrev S_ : Shape := ⟨0, ![]⟩
abbrev S1792 : Shape := ⟨1, ![1792]⟩
abbrev S80x1 : Shape := ⟨2, ![80, 1]⟩
abbrev S80x1792 : Shape := ⟨2, ![80, 1792]⟩
abbrev S1x24x160x1792 : Shape := ⟨4, ![1, 24, 160, 1792]⟩
abbrev S24x160x1792 : Shape := ⟨3, ![24, 160, 1792]⟩
abbrev S1x6x160x1792 : Shape := ⟨4, ![1, 6, 160, 1792]⟩
abbrev S6x160x1792 : Shape := ⟨3, ![6, 160, 1792]⟩
abbrev S6x4x1792 : Shape := ⟨3, ![6, 4, 1792]⟩
abbrev S4x160x1792 : Shape := ⟨3, ![4, 160, 1792]⟩
abbrev S1x160x1792 : Shape := ⟨3, ![1, 160, 1792]⟩
abbrev S1x4x1792 : Shape := ⟨3, ![1, 4, 1792]⟩
abbrev S7x1024x256 : Shape := ⟨3, ![7, 1024, 256]⟩
abbrev S7x1024x128 : Shape := ⟨3, ![7, 1024, 128]⟩
abbrev S7x160x1024 : Shape := ⟨3, ![7, 160, 1024]⟩
abbrev S256x1792 : Shape := ⟨2, ![256, 1792]⟩
abbrev S160x1792 : Shape := ⟨2, ![160, 1792]⟩
abbrev S2x1024x256 : Shape := ⟨3, ![2, 1024, 256]⟩
abbrev S1 : Shape := ⟨1, ![1]⟩
abbrev S96x1792 : Shape := ⟨2, ![96, 1792]⟩
abbrev S1x256 : Shape := ⟨2, ![1, 256]⟩
abbrev S1x160x256 : Shape := ⟨3, ![1, 160, 256]⟩
abbrev S160x256 : Shape := ⟨2, ![160, 256]⟩
abbrev S8x256 : Shape := ⟨2, ![8, 256]⟩
abbrev S256 : Shape := ⟨1, ![256]⟩
abbrev S96x256 : Shape := ⟨2, ![96, 256]⟩
abbrev S256x256 : Shape := ⟨2, ![256, 256]⟩
abbrev S1x256x256 : Shape := ⟨3, ![1, 256, 256]⟩
abbrev S1x1x256 : Shape := ⟨3, ![1, 1, 256]⟩
abbrev S1x128 : Shape := ⟨2, ![1, 128]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S1x160x1024 : Shape := ⟨3, ![1, 160, 1024]⟩
abbrev S160x1024 : Shape := ⟨2, ![160, 1024]⟩
abbrev S1x1024x256 : Shape := ⟨3, ![1, 1024, 256]⟩
abbrev S1024x256 : Shape := ⟨2, ![1024, 256]⟩
abbrev S80x256 : Shape := ⟨2, ![80, 256]⟩

abbrev nBuf : Space → Nat
  | .hbm => 56
  | .vmem => 35
  | .smem => 3
  | _ => 0

abbrev bufTy : (tb : Table) → Fin (tcTables nBuf tb) → BufTy
  | .hbm, ⟨0, _⟩ => ⟨S1x1792x24x160, .fp8e4m3⟩
  | .hbm, ⟨1, _⟩ => ⟨S24, .f32⟩
  | .hbm, ⟨2, _⟩ => ⟨S1x1792x6x160, .fp8e4m3⟩
  | .hbm, ⟨3, _⟩ => ⟨S6, .f32⟩
  | .hbm, ⟨4, _⟩ => ⟨S1x1792x6x160, .fp8e4m3⟩
  | .hbm, ⟨5, _⟩ => ⟨S6, .f32⟩
  | .hbm, ⟨6, _⟩ => ⟨S1x1792x24x160, .bf16⟩
  | .hbm, ⟨7, _⟩ => ⟨S1x24x1792, .f32⟩
  | .hbm, ⟨8, _⟩ => ⟨S1x1792x24x160, .fp8e5m2⟩
  | .hbm, ⟨9, _⟩ => ⟨S1x1792, .f32⟩
  | .hbm, ⟨10, _⟩ => ⟨S1x1792, .i32⟩
  | .hbm, ⟨11, _⟩ => ⟨S80, .f32⟩
  | .hbm, ⟨12, _⟩ => ⟨S_, .f32⟩
  | .hbm, ⟨13, _⟩ => ⟨S80, .f32⟩
  | .hbm, ⟨14, _⟩ => ⟨S80, .f32⟩
  | .hbm, ⟨15, _⟩ => ⟨S_, .f32⟩
  | .hbm, ⟨16, _⟩ => ⟨S80, .f32⟩
  | .hbm, ⟨17, _⟩ => ⟨S80, .f32⟩
  | .hbm, ⟨18, _⟩ => ⟨S_, .f32⟩
  | .hbm, ⟨19, _⟩ => ⟨S80, .f32⟩
  | .hbm, ⟨20, _⟩ => ⟨S80, .f32⟩
  | .hbm, ⟨21, _⟩ => ⟨S_, .f32⟩
  | .hbm, ⟨22, _⟩ => ⟨S80, .f32⟩
  | .hbm, ⟨23, _⟩ => ⟨S80, .f32⟩
  | .hbm, ⟨24, _⟩ => ⟨S_, .f32⟩
  | .hbm, ⟨25, _⟩ => ⟨S80, .f32⟩
  | .hbm, ⟨26, _⟩ => ⟨S80, .f32⟩
  | .hbm, ⟨27, _⟩ => ⟨S1792, .i32⟩
  | .hbm, ⟨28, _⟩ => ⟨S1792, .f32⟩
  | .hbm, ⟨29, _⟩ => ⟨S1x1792, .f32⟩
  | .hbm, ⟨30, _⟩ => ⟨S80x1, .f32⟩
  | .hbm, ⟨31, _⟩ => ⟨S80x1792, .f32⟩
  | .hbm, ⟨32, _⟩ => ⟨S80x1792, .f32⟩
  | .hbm, ⟨33, _⟩ => ⟨S80x1792, .f32⟩
  | .hbm, ⟨34, _⟩ => ⟨S80x1792, .f32⟩
  | .hbm, ⟨35, _⟩ => ⟨S80x1792, .f32⟩
  | .hbm, ⟨36, _⟩ => ⟨S1x24x160x1792, .fp8e4m3⟩
  | .hbm, ⟨37, _⟩ => ⟨S24x160x1792, .fp8e4m3⟩
  | .hbm, ⟨38, _⟩ => ⟨S1x6x160x1792, .fp8e4m3⟩
  | .hbm, ⟨39, _⟩ => ⟨S6x160x1792, .fp8e4m3⟩
  | .hbm, ⟨40, _⟩ => ⟨S1x6x160x1792, .fp8e4m3⟩
  | .hbm, ⟨41, _⟩ => ⟨S6x160x1792, .fp8e4m3⟩
  | .hbm, ⟨42, _⟩ => ⟨S1x24x160x1792, .fp8e5m2⟩
  | .hbm, ⟨43, _⟩ => ⟨S24x160x1792, .fp8e5m2⟩
  | .hbm, ⟨44, _⟩ => ⟨S1x24x160x1792, .bf16⟩
  | .hbm, ⟨45, _⟩ => ⟨S24x160x1792, .bf16⟩
  | .hbm, ⟨46, _⟩ => ⟨S6x4x1792, .f32⟩
  | .hbm, ⟨47, _⟩ => ⟨S24x160x1792, .bf16⟩
  | .hbm, ⟨48, _⟩ => ⟨S6x160x1792, .bf16⟩
  | .hbm, ⟨49, _⟩ => ⟨S6x160x1792, .bf16⟩
  | .hbm, ⟨50, _⟩ => ⟨S1x24x160x1792, .bf16⟩
  | .hbm, ⟨51, _⟩ => ⟨S1x1792x24x160, .bf16⟩
  | .hbm, ⟨52, _⟩ => ⟨S1x6x160x1792, .bf16⟩
  | .hbm, ⟨53, _⟩ => ⟨S1x1792x6x160, .bf16⟩
  | .hbm, ⟨54, _⟩ => ⟨S1x6x160x1792, .bf16⟩
  | .hbm, ⟨55, _⟩ => ⟨S1x1792x6x160, .bf16⟩
  | .local _ .vmem, ⟨0, _⟩ => ⟨S4x160x1792, .fp8e4m3⟩
  | .local _ .vmem, ⟨1, _⟩ => ⟨S4x160x1792, .fp8e4m3⟩
  | .local _ .vmem, ⟨2, _⟩ => ⟨S1x160x1792, .fp8e4m3⟩
  | .local _ .vmem, ⟨3, _⟩ => ⟨S1x160x1792, .fp8e4m3⟩
  | .local _ .vmem, ⟨4, _⟩ => ⟨S1x160x1792, .fp8e4m3⟩
  | .local _ .vmem, ⟨5, _⟩ => ⟨S1x160x1792, .fp8e4m3⟩
  | .local _ .vmem, ⟨6, _⟩ => ⟨S4x160x1792, .fp8e5m2⟩
  | .local _ .vmem, ⟨7, _⟩ => ⟨S4x160x1792, .fp8e5m2⟩
  | .local _ .vmem, ⟨8, _⟩ => ⟨S4x160x1792, .bf16⟩
  | .local _ .vmem, ⟨9, _⟩ => ⟨S4x160x1792, .bf16⟩
  | .local _ .vmem, ⟨10, _⟩ => ⟨S1x4x1792, .f32⟩
  | .local _ .vmem, ⟨11, _⟩ => ⟨S1x4x1792, .f32⟩
  | .local _ .vmem, ⟨12, _⟩ => ⟨S1x1792, .f32⟩
  | .local _ .vmem, ⟨13, _⟩ => ⟨S80x1792, .f32⟩
  | .local _ .vmem, ⟨14, _⟩ => ⟨S80x1792, .f32⟩
  | .local _ .vmem, ⟨15, _⟩ => ⟨S4x160x1792, .bf16⟩
  | .local _ .vmem, ⟨16, _⟩ => ⟨S4x160x1792, .bf16⟩
  | .local _ .vmem, ⟨17, _⟩ => ⟨S1x160x1792, .bf16⟩
  | .local _ .vmem, ⟨18, _⟩ => ⟨S1x160x1792, .bf16⟩
  | .local _ .vmem, ⟨19, _⟩ => ⟨S1x160x1792, .bf16⟩
  | .local _ .vmem, ⟨20, _⟩ => ⟨S1x160x1792, .bf16⟩
  | .local _ .vmem, ⟨21, _⟩ => ⟨S7x1024x256, .fp8e4m3⟩
  | .local _ .vmem, ⟨22, _⟩ => ⟨S7x1024x256, .bf16⟩
  | .local _ .vmem, ⟨23, _⟩ => ⟨S7x1024x128, .f32⟩
  | .local _ .vmem, ⟨24, _⟩ => ⟨S7x1024x128, .f32⟩
  | .local _ .vmem, ⟨25, _⟩ => ⟨S7x160x1024, .bf16⟩
  | .local _ .vmem, ⟨26, _⟩ => ⟨S7x160x1024, .bf16⟩
  | .local _ .vmem, ⟨27, _⟩ => ⟨S256x1792, .fp8e4m3⟩
  | .local _ .vmem, ⟨28, _⟩ => ⟨S256x1792, .bf16⟩
  | .local _ .vmem, ⟨29, _⟩ => ⟨S160x1792, .bf16⟩
  | .local _ .vmem, ⟨30, _⟩ => ⟨S4x160x1792, .f32⟩
  | .local _ .vmem, ⟨31, _⟩ => ⟨S160x1792, .f32⟩
  | .local _ .vmem, ⟨32, _⟩ => ⟨S160x1792, .f32⟩
  | .local _ .vmem, ⟨33, _⟩ => ⟨S2x1024x256, .bf16⟩
  | .local _ .vmem, ⟨34, _⟩ => ⟨S2x1024x256, .bf16⟩
  | .local _ .smem, ⟨0, _⟩ => ⟨S24, .f32⟩
  | .local _ .smem, ⟨1, _⟩ => ⟨S6, .f32⟩
  | .local _ .smem, ⟨2, _⟩ => ⟨S6, .f32⟩
  | _, _ => ⟨S1x1792x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_scratch13 : Ref sig .tc := ⟨.vmem, 34, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![6], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) (c0_i32 : BitVec 32) : Fin 1 → Nat :=
  let arg0 : BitVec 32 := BitVec.ofNat 32 (i 0).val
  let c4_i32 : BitVec 32 := 4#32
  let v36 : BitVec 32 := Scalar.muli arg0 c4_i32
  let v37 : BitVec 32 := Scalar.addi v36 c0_i32
  let v38 : Index := Scalar.indexCast v37
  ![v38.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x160x1792 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x160x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x160x1792 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x160x1792 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x160x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S80x1792 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S80x1792 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x160x1792 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x160x1792 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x160x1792 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "log2e" => some (((Real.log 2)⁻¹ : ℝ) : EReal)
  | "sm_log2e" => some (((10610843 / 134217728) * (Real.log 2)⁻¹ : ℝ) : EReal)
  | _ => none
-- ==== ReferenceIdeal.lean ====
abbrev S1x1792x24x160 : Shape := ⟨4, ![1, 1792, 24, 160]⟩
abbrev S24 : Shape := ⟨1, ![24]⟩
abbrev S1x1792x6x160 : Shape := ⟨4, ![1, 1792, 6, 160]⟩
abbrev S6 : Shape := ⟨1, ![6]⟩
abbrev S1x24x1792 : Shape := ⟨3, ![1, 24, 1792]⟩
abbrev S1x1792 : Shape := ⟨2, ![1, 1792]⟩
abbrev S1792x24x160 : Shape := ⟨3, ![1792, 24, 160]⟩
abbrev S1792x6x160 : Shape := ⟨3, ![1792, 6, 160]⟩
abbrev S24x1792 : Shape := ⟨2, ![24, 1792]⟩
abbrev S1792 : Shape := ⟨1, ![1792]⟩
abbrev S1792x1x1 : Shape := ⟨3, ![1792, 1, 1]⟩
abbrev S6x4x1792 : Shape := ⟨3, ![6, 4, 1792]⟩
abbrev S6x4 : Shape := ⟨2, ![6, 4]⟩
abbrev S6x1 : Shape := ⟨2, ![6, 1]⟩
abbrev S_ : Shape := ⟨0, ![]⟩
abbrev S6x4x1x1 : Shape := ⟨4, ![6, 4, 1, 1]⟩
abbrev S1792x6x4x160 : Shape := ⟨4, ![1792, 6, 4, 160]⟩
abbrev S6x1792x1792x4 : Shape := ⟨4, ![6, 1792, 1792, 4]⟩
abbrev S6x4x1792x1792 : Shape := ⟨4, ![6, 4, 1792, 1792]⟩
abbrev S1792x1 : Shape := ⟨2, ![1792, 1]⟩
abbrev S1792x1792 : Shape := ⟨2, ![1792, 1792]⟩
abbrev S6x4x1792x1 : Shape := ⟨4, ![6, 4, 1792, 1]⟩
abbrev S6x1x1x1 : Shape := ⟨4, ![6, 1, 1, 1]⟩
abbrev S1x1x1792x1 : Shape := ⟨4, ![1, 1, 1792, 1]⟩
abbrev S6x1x1792x1 : Shape := ⟨4, ![6, 1, 1792, 1]⟩
abbrev S80 : Shape := ⟨1, ![80]⟩
abbrev S1x80 : Shape := ⟨2, ![1, 80]⟩
abbrev S1792x80 : Shape := ⟨2, ![1792, 80]⟩
abbrev S1792x1x80 : Shape := ⟨3, ![1792, 1, 80]⟩
abbrev S1x24x1 : Shape := ⟨3, ![1, 24, 1]⟩
abbrev S6x160x4x1792 : Shape := ⟨4, ![6, 160, 4, 1792]⟩
abbrev S6x1x1 : Shape := ⟨3, ![6, 1, 1]⟩
abbrev S1x6x1x1 : Shape := ⟨4, ![1, 6, 1, 1]⟩
abbrev S6x160x1792 : Shape := ⟨3, ![6, 160, 1792]⟩
abbrev S1792x24x80 : Shape := ⟨3, ![1792, 24, 80]⟩
abbrev S1792x6x80 : Shape := ⟨3, ![1792, 6, 80]⟩

abbrev nBuf : Space → Nat
  | .hbm => 163
  | .vmem => 8
  | .smem => 0
  | _ => 0

abbrev hbmTy0_0 (i : Nat) : BufTy := match i % 128 with
  | 0 => ⟨S1x1792x24x160, .fp8e4m3⟩
  | 1 => ⟨S24, .f32⟩
  | 2 => ⟨S1x1792x6x160, .fp8e4m3⟩
  | 3 => ⟨S6, .f32⟩
  | 4 => ⟨S1x1792x6x160, .fp8e4m3⟩
  | 5 => ⟨S6, .f32⟩
  | 6 => ⟨S1x1792x24x160, .bf16⟩
  | 7 => ⟨S1x24x1792, .f32⟩
  | 8 => ⟨S1x1792x24x160, .fp8e5m2⟩
  | 9 => ⟨S1x1792, .f32⟩
  | 10 => ⟨S1x1792, .i32⟩
  | 11 => ⟨S1x1792x24x160, .bf16⟩
  | 12 => ⟨S1x1792x6x160, .bf16⟩
  | 13 => ⟨S1x1792x6x160, .bf16⟩
  | 14 => ⟨S1x1792x24x160, .bf16⟩
  | 15 => ⟨S1792x24x160, .bf16⟩
  | 16 => ⟨S1792x6x160, .bf16⟩
  | 17 => ⟨S1792x6x160, .bf16⟩
  | 18 => ⟨S1792x24x160, .bf16⟩
  | 19 => ⟨S1792x24x160, .bf16⟩
  | 20 => ⟨S24x1792, .f32⟩
  | 21 => ⟨S1792, .f32⟩
  | 22 => ⟨S1792x24x160, .f32⟩
  | 23 => ⟨S1792x1x1, .f32⟩
  | 24 => ⟨S1792x24x160, .f32⟩
  | 25 => ⟨S1792x24x160, .f32⟩
  | 26 => ⟨S1792x24x160, .f32⟩
  | 27 => ⟨S24x1792, .f32⟩
  | 28 => ⟨S6x4x1792, .f32⟩
  | 29 => ⟨S6x4, .f32⟩
  | 30 => ⟨S6x1, .f32⟩
  | 31 => ⟨S6x4, .f32⟩
  | 32 => ⟨S6x4, .f32⟩
  | 33 => ⟨S_, .f32⟩
  | 34 => ⟨S6x4, .f32⟩
  | 35 => ⟨S6x4, .f32⟩
  | 36 => ⟨S6x4x1x1, .f32⟩
  | 37 => ⟨S1792x6x4x160, .bf16⟩
  | 38 => ⟨S1792x6x4x160, .bf16⟩
  | 39 => ⟨S6x1792x1792x4, .f32⟩
  | 40 => ⟨S6x4x1792x1792, .f32⟩
  | 41 => ⟨S6x4x1792x1792, .f32⟩
  | 42 => ⟨S6x4x1792x1792, .f32⟩
  | 43 => ⟨S1792, .i32⟩
  | 44 => ⟨S1x1792, .i32⟩
  | 45 => ⟨S1792x1, .i32⟩
  | 46 => ⟨S1792x1792, .i32⟩
  | 47 => ⟨S1792x1792, .i32⟩
  | 48 => ⟨S1792x1792, .i1⟩
  | 49 => ⟨S_, .f32⟩
  | 50 => ⟨S_, .f32⟩
  | 51 => ⟨S6x4x1792x1792, .i1⟩
  | 52 => ⟨S6x4x1792x1792, .f32⟩
  | 53 => ⟨S6x4x1792x1792, .f32⟩
  | 54 => ⟨S6x4x1792, .f32⟩
  | 55 => ⟨S6x4x1792x1, .f32⟩
  | 56 => ⟨S6x4x1792x1792, .f32⟩
  | 57 => ⟨S6x4x1792x1792, .f32⟩
  | 58 => ⟨S6x4x1792x1792, .f32⟩
  | 59 => ⟨S6x1792x1792x4, .f32⟩
  | 60 => ⟨S6x4x1792x1792, .f32⟩
  | 61 => ⟨S1792x1, .f32⟩
  | 62 => ⟨S6x1x1x1, .f32⟩
  | 63 => ⟨S1x1x1792x1, .f32⟩
  | 64 => ⟨S6x1x1792x1, .f32⟩
  | 65 => ⟨S6x1x1792x1, .f32⟩
  | 66 => ⟨S6x1x1792x1, .f32⟩
  | 67 => ⟨S6x4x1792x1792, .f32⟩
  | 68 => ⟨S6x4x1792x1792, .f32⟩
  | 69 => ⟨S6x4x1792x1, .f32⟩
  | 70 => ⟨S6x4x1792x1792, .f32⟩
  | 71 => ⟨S6x4x1792x1792, .f32⟩
  | 72 => ⟨S6x4x1792x1792, .f32⟩
  | 73 => ⟨S80, .f32⟩
  | 74 => ⟨S_, .f32⟩
  | 75 => ⟨S80, .f32⟩
  | 76 => ⟨S80, .f32⟩
  | 77 => ⟨S_, .f32⟩
  | 78 => ⟨S80, .f32⟩
  | 79 => ⟨S80, .f32⟩
  | 80 => ⟨S_, .f32⟩
  | 81 => ⟨S80, .f32⟩
  | 82 => ⟨S80, .f32⟩
  | 83 => ⟨S_, .f32⟩
  | 84 => ⟨S80, .f32⟩
  | 85 => ⟨S80, .f32⟩
  | 86 => ⟨S_, .f32⟩
  | 87 => ⟨S80, .f32⟩
  | 88 => ⟨S80, .f32⟩
  | 89 => ⟨S1792, .i32⟩
  | 90 => ⟨S1792, .f32⟩
  | 91 => ⟨S1792x1, .f32⟩
  | 92 => ⟨S1x80, .f32⟩
  | 93 => ⟨S1792x80, .f32⟩
  | 94 => ⟨S1792x80, .f32⟩
  | 95 => ⟨S1792x80, .f32⟩
  | 96 => ⟨S1792x80, .f32⟩
  | 97 => ⟨S1792x1x80, .f32⟩
  | 98 => ⟨S1792x80, .f32⟩
  | 99 => ⟨S1792x1x80, .f32⟩
  | 100 => ⟨S24, .bf16⟩
  | 101 => ⟨S1x24x1, .bf16⟩
  | 102 => ⟨S1792x24x160, .bf16⟩
  | 103 => ⟨S1792x24x160, .bf16⟩
  | 104 => ⟨S1792x6x4x160, .bf16⟩
  | 105 => ⟨S1792, .f32⟩
  | 106 => ⟨S1792, .bf16⟩
  | 107 => ⟨S1792x1x1, .bf16⟩
  | 108 => ⟨S1792x24x160, .bf16⟩
  | 109 => ⟨S1792x24x160, .bf16⟩
  | 110 => ⟨S1792x6x4x160, .bf16⟩
  | 111 => ⟨S6x4x1792x1792, .bf16⟩
  | 112 => ⟨S6x160x4x1792, .f32⟩
  | 113 => ⟨S1792x6x4x160, .f32⟩
  | 114 => ⟨S_, .f32⟩
  | 115 => ⟨S6, .f32⟩
  | 116 => ⟨S6, .f32⟩
  | 117 => ⟨S6x1x1, .f32⟩
  | 118 => ⟨S1x6x1x1, .f32⟩
  | 119 => ⟨S1792x6x4x160, .f32⟩
  | 120 => ⟨S1792x6x4x160, .f32⟩
  | 121 => ⟨S6x4x1792x1792, .bf16⟩
  | 122 => ⟨S6x160x1792, .f32⟩
  | 123 => ⟨S1792x6x160, .f32⟩
  | 124 => ⟨S_, .f32⟩
  | 125 => ⟨S1792x6x160, .f32⟩
  | 126 => ⟨S1792x6x160, .f32⟩
  | 127 => ⟨S6x4x1792x1792, .bf16⟩
  | _ => ⟨S1x1792x24x160, .fp8e4m3⟩

abbrev hbmTy0_1 (i : Nat) : BufTy := match i % 128 with
  | 0 => ⟨S6x160x1792, .f32⟩
  | 1 => ⟨S1792x6x160, .f32⟩
  | 2 => ⟨S1792x24x160, .f32⟩
  | 3 => ⟨S1792x24x80, .f32⟩
  | 4 => ⟨S1792x24x80, .f32⟩
  | 5 => ⟨S1792x24x80, .f32⟩
  | 6 => ⟨S1792x24x80, .f32⟩
  | 7 => ⟨S1792x24x80, .f32⟩
  | 8 => ⟨S1792x24x80, .f32⟩
  | 9 => ⟨S1792x24x80, .f32⟩
  | 10 => ⟨S1792x24x80, .f32⟩
  | 11 => ⟨S1792x24x80, .f32⟩
  | 12 => ⟨S1792x24x80, .f32⟩
  | 13 => ⟨S1792x24x80, .f32⟩
  | 14 => ⟨S1792x24x80, .f32⟩
  | 15 => ⟨S1792x24x160, .f32⟩
  | 16 => ⟨S1792x24x160, .bf16⟩
  | 17 => ⟨S1792x6x80, .f32⟩
  | 18 => ⟨S1792x6x80, .f32⟩
  | 19 => ⟨S1792x6x80, .f32⟩
  | 20 => ⟨S1792x6x80, .f32⟩
  | 21 => ⟨S1792x6x80, .f32⟩
  | 22 => ⟨S1792x6x80, .f32⟩
  | 23 => ⟨S1792x6x80, .f32⟩
  | 24 => ⟨S1792x6x80, .f32⟩
  | 25 => ⟨S1792x6x80, .f32⟩
  | 26 => ⟨S1792x6x80, .f32⟩
  | 27 => ⟨S1792x6x80, .f32⟩
  | 28 => ⟨S1792x6x80, .f32⟩
  | 29 => ⟨S1792x6x160, .f32⟩
  | 30 => ⟨S1792x6x160, .bf16⟩
  | 31 => ⟨S1x1792x24x160, .bf16⟩
  | 32 => ⟨S1x1792x6x160, .bf16⟩
  | 33 => ⟨S1x1792x6x160, .f32⟩
  | 34 => ⟨S1x1792x6x160, .bf16⟩
  | _ => ⟨S1x1792x24x160, .fp8e4m3⟩

abbrev hbmTy (i : Nat) : BufTy := match i / 128 with
  | 0 => hbmTy0_0 i
  | 1 => hbmTy0_1 i
  | _ => ⟨S1x1792x24x160, .fp8e4m3⟩

abbrev bufTy : (tb : Table) → Fin (tcTables nBuf tb) → BufTy
  | .hbm, ⟨i, _⟩ => hbmTy i
  | .local _ .vmem, ⟨0, _⟩ => ⟨S1x1792x24x160, .fp8e4m3⟩
  | .local _ .vmem, ⟨1, _⟩ => ⟨S1x1792x6x160, .fp8e4m3⟩
  | .local _ .vmem, ⟨2, _⟩ => ⟨S1x1792x6x160, .fp8e4m3⟩
  | .local _ .vmem, ⟨3, _⟩ => ⟨S1x1792x24x160, .fp8e5m2⟩
  | .local _ .vmem, ⟨4, _⟩ => ⟨S1x1792x24x160, .bf16⟩
  | .local _ .vmem, ⟨5, _⟩ => ⟨S1x1792x6x160, .bf16⟩
  | .local _ .vmem, ⟨6, _⟩ => ⟨S1x1792x6x160, .bf16⟩
  | .local _ .vmem, ⟨7, _⟩ => ⟨S1x1792x24x160, .bf16⟩
  | _, _ => ⟨S1x1792x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_0 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_1 : Ref sig .tc := ⟨.hbm, 74, rfl⟩
abbrev main_v55 : Ref sig .tc := ⟨.hbm, 75, rfl⟩
abbrev main_v56 : Ref sig .tc := ⟨.hbm, 76, rfl⟩
abbrev main_cst_2 : Ref sig .tc := ⟨.hbm, 77, rfl⟩
abbrev main_v57 : Ref sig .tc := ⟨.hbm, 78, rfl⟩
abbrev main_v58 : Ref sig .tc := ⟨.hbm, 79, rfl⟩
abbrev main_cst_3 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_6 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_7 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x1792x24x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1792x6x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1792x6x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792x24x160 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792x24x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1792x6x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1792x6x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1792x24x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.Payloads.lean ====
/- The values the body stores, each as a function of the arrays it loads before it. -/
module

public import proofs.«01_k».proof.Proof.Gen.KernelIdeal

@[expose] public section

set_option synthInstance.maxSize 4096

noncomputable section

namespace Cert.KernelIdeal.Body

open Idealize.ShloMosaic Idealize.SL.Sem
open Cert.KernelIdeal Facts₀ Facts

variable {F : FTy → Type} [FloatOps F] [Named F]

/-- The value scale the kernel divides by: one where the scale is zero. -/
def vsEff (v3 : Elt F .f32) : F .f32 :=
  have cst : F .f32 := Scalar.ofBits .f32 0x00000000#32
  have v4 : BitVec 1 := Scalar.cmpf .oeq v3 cst
  have cst_0 : F .f32 := Scalar.ofBits .f32 0x3F800000#32
  have v5 : F .f32 := Scalar.select v4 cst_0 v3
  v5

/-- The reciprocal of the value scale the kernel divides by. -/
def invVs (v3 : Elt F .f32) : F .f32 :=
  have cst_1 : F .f32 := Scalar.ofBits .f32 0x3F800000#32
  have cst : F .f32 := Scalar.ofBits .f32 0x00000000#32
  have v4 : BitVec 1 := Scalar.cmpf .oeq v3 cst
  have cst_0 : F .f32 := Scalar.ofBits .f32 0x3F800000#32
  have v5 : F .f32 := Scalar.select v4 cst_0 v3
  have v6 : F .f32 := Scalar.divf cst_1 v5
  v6

/-- The keys in bfloat16. -/
def payKb (v7 : Vec F S1x160x1792 .fp8e4m3) : FVec F S160x1792 .bf16 :=
  have v8 : FVec F S160x1792 .fp8e4m3 := shapeCast S160x1792 v7 shapeCasts_S1x160x1792_S160x1792
  have v9 : FVec F S160x1792 .bf16 := extf .bf16 v8 bitsLt_fp8e4m3_bf16
  have v12 : FVec F S160x1792 .bf16 := shapeCast S160x1792 v9 shapeCasts_S160x1792_S160x1792
  v12

/-- The keys, the 160 rows of the padded copy. -/
def payKx (v13 : Vec F S1x160x1792 .fp8e4m3) : FVec F S160x1792 .fp8e4m3 :=
  have v14 : FVec F S160x1792 .fp8e4m3 := shapeCast S160x1792 v13 shapeCasts_S1x160x1792_S160x1792
  have v17 : FVec F S160x1792 .fp8e4m3 := shapeCast S160x1792 v14 shapeCasts_S160x1792_S160x1792
  v17

/-- The padding rows of the keys. -/
def payKx0 : FVec F S96x1792 .fp8e4m3 :=
  have cst_11 : F .fp8e4m3 := Scalar.ofBits .fp8e4m3 0x00#8
  have v18 : FVec F S96x1792 .fp8e4m3 := broadcast S96x1792 cst_11
  have v21 : FVec F S96x1792 .fp8e4m3 := shapeCast S96x1792 v18 shapeCasts_S96x1792_S96x1792
  v21

/-- The values in bfloat16, zero where the value scale is zero. -/
def payVx (v3 : Elt F .f32) (v22 : Vec F S1x160x1792 .fp8e4m3) : FVec F S160x1792 .bf16 :=
  have cst : F .f32 := Scalar.ofBits .f32 0x00000000#32
  have v4 : BitVec 1 := Scalar.cmpf .oeq v3 cst
  have cst_16 : F .f32 := Scalar.ofBits .f32 0x00000000#32
  have v25 : FVec F S160x1792 .f32 := broadcast S160x1792 cst_16
  have v23 : FVec F S160x1792 .fp8e4m3 := shapeCast S160x1792 v22 shapeCasts_S1x160x1792_S160x1792
  have v24 : FVec F S160x1792 .f32 := extf .f32 v23 bitsLt_fp8e4m3_f32
  have v26 : FVec F S160x1792 .f32 := Scalar.select v4 v25 v24
  have v27 : FVec F S160x1792 .bf16 := truncf .bf16 v26 bitsLt_bf16_f32
  have v30 : FVec F S160x1792 .bf16 := shapeCast S160x1792 v27 shapeCasts_S160x1792_S160x1792
  v30

/-- The padding rows of the values. -/
def payVx0 : FVec F S96x1792 .bf16 :=
  have cst_19 : F .bf16 := Scalar.ofBits .bf16 0x0000#16
  have v31 : FVec F S96x1792 .bf16 := broadcast S96x1792 cst_19
  have v34 : FVec F S96x1792 .bf16 := shapeCast S96x1792 v31 shapeCasts_S96x1792_S96x1792
  v34

/-- A block of the output gradient, padded and transposed. -/
def payDox (v162 : Vec F S1x160x256 .fp8e5m2) : FVec F S1x256x256 .bf16 :=
  have v163 : FVec F S160x256 .fp8e5m2 := shapeCast S160x256 v162 shapeCasts_S1x160x256_S160x256
  have v164 : FVec F S160x256 .f32 := extf .f32 v163 bitsLt_fp8e5m2_f32
  have cst_72 : F .f32 := Scalar.ofBits .f32 0x00000000#32
  have v212 : FVec F S96x256 .f32 := broadcast S96x256 cst_72
  have v213 : FVec F S256x256 .f32 := concatenate S256x256 0 [⟨S160x256, v164⟩, ⟨S96x256, v212⟩] concatenates_S160x256_S96x256_S256x256_d0
  have v214 : FVec F S256x256 .bf16 := truncf .bf16 v213 bitsLt_bf16_f32
  have v215 : FVec F S256x256 .bf16 := transpose S256x256 [1, 0] v214 transposes_S256x256_p1_0_S256x256
  have v218 : FVec F S1x256x256 .bf16 := shapeCast S1x256x256 v215 shapeCasts_S256x256_S1x256x256
  v218

/-- A block of the output gradient times its token scale. -/
def payDow (v157 : Vec F S1x256 .f32) (v162 : Vec F S1x160x256 .fp8e5m2) : FVec F S1x160x256 .bf16 :=
  have v163 : FVec F S160x256 .fp8e5m2 := shapeCast S160x256 v162 shapeCasts_S1x160x256_S160x256
  have v164 : FVec F S160x256 .f32 := extf .f32 v163 bitsLt_fp8e5m2_f32
  have v219 : FVec F S160x256 .bf16 := truncf .bf16 v164 bitsLt_bf16_f32
  have v220 : FVec F S1x256 .bf16 := truncf .bf16 v157 bitsLt_bf16_f32
  have v221 : FVec F S160x256 .bf16 := broadcastTo S160x256 v220 broadcasts_S1x256_S160x256
  have v222 : FVec F S160x256 .bf16 := mulf v219 v221
  have v225 : FVec F S1x160x256 .bf16 := shapeCast S1x160x256 v222 shapeCasts_S160x256_S1x160x256
  v225

/-- A block of the queries, padded and transposed. -/
def payQx (v226 : Vec F S1x160x256 .fp8e4m3) : FVec F S1x256x256 .fp8e4m3 :=
  have v227 : FVec F S160x256 .fp8e4m3 := shapeCast S160x256 v226 shapeCasts_S1x160x256_S160x256
  have v228 : FVec F S160x256 .f32 := extf .f32 v227 bitsLt_fp8e4m3_f32
  have cst_81 : F .f32 := Scalar.ofBits .f32 0x00000000#32
  have v229 : FVec F S96x256 .f32 := broadcast S96x256 cst_81
  have v230 : FVec F S256x256 .f32 := concatenate S256x256 0 [⟨S160x256, v228⟩, ⟨S96x256, v229⟩] concatenates_S160x256_S96x256_S256x256_d0
  have v231 : FVec F S256x256 .bf16 := truncf .bf16 v230 bitsLt_bf16_f32
  have v232 : FVec F S256x256 .bf16 := transpose S256x256 [1, 0] v231 transposes_S256x256_p1_0_S256x256
  have v233 : FVec F S256x256 .fp8e4m3 := truncf .fp8e4m3 v232 bitsLt_fp8e4m3_bf16
  have v236 : FVec F S1x256x256 .fp8e4m3 := shapeCast S1x256x256 v233 shapeCasts_S256x256_S1x256x256
  v236

/-- A block of the queries times the token scale and the head scale. -/
def payQw (v157 : Vec F S1x256 .f32) (v161 : Elt F .f32) (v226 : Vec F S1x160x256 .fp8e4m3) : FVec F S1x160x256 .bf16 :=
  have v227 : FVec F S160x256 .fp8e4m3 := shapeCast S160x256 v226 shapeCasts_S1x160x256_S160x256
  have v228 : FVec F S160x256 .f32 := extf .f32 v227 bitsLt_fp8e4m3_f32
  have v237 : F .bf16 := Scalar.truncf .bf16 bitsLt_bf16_f32 v161
  have v238 : F .f32 := Scalar.extf .f32 bitsLt_bf16_f32 v237
  have v239 : FVec F S1x256 .f32 := broadcast S1x256 v238
  have v240 : FVec F S1x256 .f32 := mulf v157 v239
  have v241 : FVec F S160x256 .f32 := broadcastTo S160x256 v240 broadcasts_S1x256_S160x256
  have v242 : FVec F S160x256 .f32 := mulf v228 v241
  have v243 : FVec F S160x256 .bf16 := truncf .bf16 v242 bitsLt_bf16_f32
  have v246 : FVec F S1x160x256 .bf16 := shapeCast S1x160x256 v243 shapeCasts_S160x256_S1x160x256
  v246

/-- The first half of a block of the log-sum-exps in base two, along rows. -/
def payLse0 (v247 : Vec F S1x1x256 .f32) : FVec F S1x128x128 .f32 :=
  have v248 : FVec F S1x256 .f32 := shapeCast S1x256 v247 shapeCasts_S1x1x256_S1x256
  have cst_91 : F .f32 := Named.named κ "log2e" 0x3FB8AA3B#32
  have v249 : FVec F S1x256 .f32 := broadcast S1x256 cst_91
  have v250 : FVec F S1x256 .f32 := mulf v248 v249
  have v251 : FVec F S1x128 .f32 := extractStridedSlice S1x128 ![0, 0] v250 slices_S1x256_o0_0_S1x128
  have v252 : FVec F S1x128 .f32 := shapeCast S1x128 v251 shapeCasts_S1x128_S1x128
  have v253 : FVec F S128x128 .f32 := broadcastTo S128x128 v252 broadcasts_S1x128_S128x128
  have v254 : FVec F S128x128 .f32 := transpose S128x128 [1, 0] v253 transposes_S128x128_p1_0_S128x128
  have v257 : FVec F S1x128x128 .f32 := shapeCast S1x128x128 v254 shapeCasts_S128x128_S1x128x128
  v257

/-- The first half of a block of the row sums of gradient times output. -/
def payDel0 (v6 : F .f32) (v162 : Vec F S1x160x256 .fp8e5m2) (v165 : Vec F S1x160x256 .bf16) : FVec F S1x128x128 .f32 :=
  have v163 : FVec F S160x256 .fp8e5m2 := shapeCast S160x256 v162 shapeCasts_S1x160x256_S160x256
  have v164 : FVec F S160x256 .f32 := extf .f32 v163 bitsLt_fp8e5m2_f32
  have v166 : FVec F S160x256 .bf16 := shapeCast S160x256 v165 shapeCasts_S1x160x256_S160x256
  have v167 : FVec F S160x256 .f32 := extf .f32 v166 bitsLt_bf16_f32
  have v168 : FVec F S160x256 .f32 := mulf v164 v167
  have v169 : FVec F S8x256 .f32 := extractStridedSlice S8x256 ![0, 0] v168 slices_S160x256_o0_0_S8x256
  have v170 : FVec F S8x256 .f32 := extractStridedSlice S8x256 ![8, 0] v168 slices_S160x256_o8_0_S8x256
  have v171 : FVec F S8x256 .f32 := addf v169 v170
  have v172 : FVec F S8x256 .f32 := extractStridedSlice S8x256 ![16, 0] v168 slices_S160x256_o16_0_S8x256
  have v173 : FVec F S8x256 .f32 := addf v171 v172
  have v174 : FVec F S8x256 .f32 := extractStridedSlice S8x256 ![24, 0] v168 slices_S160x256_o24_0_S8x256
  have v175 : FVec F S8x256 .f32 := addf v173 v174
  have v176 : FVec F S8x256 .f32 := extractStridedSlice S8x256 ![32, 0] v168 slices_S160x256_o32_0_S8x256
  have v177 : FVec F S8x256 .f32 := addf v175 v176
  have v178 : FVec F S8x256 .f32 := extractStridedSlice S8x256 ![40, 0] v168 slices_S160x256_o40_0_S8x256
  have v179 : FVec F S8x256 .f32 := addf v177 v178
  have v180 : FVec F S8x256 .f32 := extractStridedSlice S8x256 ![48, 0] v168 slices_S160x256_o48_0_S8x256
  have v181 : FVec F S8x256 .f32 := addf v179 v180
  have v182 : FVec F S8x256 .f32 := extractStridedSlice S8x256 ![56, 0] v168 slices_S160x256_o56_0_S8x256
  have v183 : FVec F S8x256 .f32 := addf v181 v182
  have v184 : FVec F S8x256 .f32 := extractStridedSlice S8x256 ![64, 0] v168 slices_S160x256_o64_0_S8x256
  have v185 : FVec F S8x256 .f32 := addf v183 v184
  have v186 : FVec F S8x256 .f32 := extractStridedSlice S8x256 ![72, 0] v168 slices_S160x256_o72_0_S8x256
  have v187 : FVec F S8x256 .f32 := addf v185 v186
  have v188 : FVec F S8x256 .f32 := extractStridedSlice S8x256 ![80, 0] v168 slices_S160x256_o80_0_S8x256
  have v189 : FVec F S8x256 .f32 := addf v187 v188
  have v190 : FVec F S8x256 .f32 := extractStridedSlice S8x256 ![88, 0] v168 slices_S160x256_o88_0_S8x256
  have v191 : FVec F S8x256 .f32 := addf v189 v190
  have v192 : FVec F S8x256 .f32 := extractStridedSlice S8x256 ![96, 0] v168 slices_S160x256_o96_0_S8x256
  have v193 : FVec F S8x256 .f32 := addf v191 v192
  have v194 : FVec F S8x256 .f32 := extractStridedSlice S8x256 ![104, 0] v168 slices_S160x256_o104_0_S8x256
  have v195 : FVec F S8x256 .f32 := addf v193 v194
  have v196 : FVec F S8x256 .f32 := extractStridedSlice S8x256 ![112, 0] v168 slices_S160x256_o112_0_S8x256
  have v197 : FVec F S8x256 .f32 := addf v195 v196
  have v198 : FVec F S8x256 .f32 := extractStridedSlice S8x256 ![120, 0] v168 slices_S160x256_o120_0_S8x256
  have v199 : FVec F S8x256 .f32 := addf v197 v198
  have v200 : FVec F S8x256 .f32 := extractStridedSlice S8x256 ![128, 0] v168 slices_S160x256_o128_0_S8x256
  have v201 : FVec F S8x256 .f32 := addf v199 v200
  have v202 : FVec F S8x256 .f32 := extractStridedSlice S8x256 ![136, 0] v168 slices_S160x256_o136_0_S8x256
  have v203 : FVec F S8x256 .f32 := addf v201 v202
  have v204 : FVec F S8x256 .f32 := extractStridedSlice S8x256 ![144, 0] v168 slices_S160x256_o144_0_S8x256
  have v205 : FVec F S8x256 .f32 := addf v203 v204
  have v206 : FVec F S8x256 .f32 := extractStridedSlice S8x256 ![152, 0] v168 slices_S160x256_o152_0_S8x256
  have v207 : FVec F S8x256 .f32 := addf v205 v206
  have v208 : FVec F S256 .f32 := multiReduction .add [0] S256 v207 0x00000000#32 reduces_S8x256_S256 (.inl rfl) rfl
  have v209 : FVec F S1x256 .f32 := shapeCast S1x256 v208 shapeCasts_S256_S1x256
  have v210 : FVec F S1x256 .f32 := broadcast S1x256 v6
  have v211 : FVec F S1x256 .f32 := mulf v209 v210
  have v258 : FVec F S1x128 .f32 := extractStridedSlice S1x128 ![0, 0] v211 slices_S1x256_o0_0_S1x128
  have v259 : FVec F S1x128 .f32 := shapeCast S1x128 v258 shapeCasts_S1x128_S1x128
  have v260 : FVec F S128x128 .f32 := broadcastTo S128x128 v259 broadcasts_S1x128_S128x128
  have v261 : FVec F S128x128 .f32 := transpose S128x128 [1, 0] v260 transposes_S128x128_p1_0_S128x128
  have v264 : FVec F S1x128x128 .f32 := shapeCast S1x128x128 v261 shapeCasts_S128x128_S1x128x128
  v264

/-- The second half of the log-sum-exps. -/
def payLse1 (v247 : Vec F S1x1x256 .f32) : FVec F S1x128x128 .f32 :=
  have v248 : FVec F S1x256 .f32 := shapeCast S1x256 v247 shapeCasts_S1x1x256_S1x256
  have cst_91 : F .f32 := Named.named κ "log2e" 0x3FB8AA3B#32
  have v249 : FVec F S1x256 .f32 := broadcast S1x256 cst_91
  have v250 : FVec F S1x256 .f32 := mulf v248 v249
  have v265 : FVec F S1x128 .f32 := extractStridedSlice S1x128 ![0, 128] v250 slices_S1x256_o0_128_S1x128
  have v266 : FVec F S1x128 .f32 := shapeCast S1x128 v265 shapeCasts_S1x128_S1x128
  have v267 : FVec F S128x128 .f32 := broadcastTo S128x128 v266 broadcasts_S1x128_S128x128
  have v268 : FVec F S128x128 .f32 := transpose S128x128 [1, 0] v267 transposes_S128x128_p1_0_S128x128
  have v271 : FVec F S1x128x128 .f32 := shapeCast S1x128x128 v268 shapeCasts_S128x128_S1x128x128
  v271

/-- The second half of the row sums. -/
def payDel1 (v6 : F .f32) (v162 : Vec F S1x160x256 .fp8e5m2) (v165 : Vec F S1x160x256 .bf16) : FVec F S1x128x128 .f32 :=
  have v163 : FVec F S160x256 .fp8e5m2 := shapeCast S160x256 v162 shapeCasts_S1x160x256_S160x256
  have v164 : FVec F S160x256 .f32 := extf .f32 v163 bitsLt_fp8e5m2_f32
  have v166 : FVec F S160x256 .bf16 := shapeCast S160x256 v165 shapeCasts_S1x160x256_S160x256
  have v167 : FVec F S160x256 .f32 := extf .f32 v166 bitsLt_bf16_f32
  have v168 : FVec F S160x256 .f32 := mulf v164 v167
  have v169 : FVec F S8x256 .f32 := extractStridedSlice S8x256 ![0, 0] v168 slices_S160x256_o0_0_S8x256
  have v170 : FVec F S8x256 .f32 := extractStridedSlice S8x256 ![8, 0] v168 slices_S160x256_o8_0_S8x256
  have v171 : FVec F S8x256 .f32 := addf v169 v170
  have v172 : FVec F S8x256 .f32 := extractStridedSlice S8x256 ![16, 0] v168 slices_S160x256_o16_0_S8x256
  have v173 : FVec F S8x256 .f32 := addf v171 v172
  have v174 : FVec F S8x256 .f32 := extractStridedSlice S8x256 ![24, 0] v168 slices_S160x256_o24_0_S8x256
  have v175 : FVec F S8x256 .f32 := addf v173 v174
  have v176 : FVec F S8x256 .f32 := extractStridedSlice S8x256 ![32, 0] v168 slices_S160x256_o32_0_S8x256
  have v177 : FVec F S8x256 .f32 := addf v175 v176
  have v178 : FVec F S8x256 .f32 := extractStridedSlice S8x256 ![40, 0] v168 slices_S160x256_o40_0_S8x256
  have v179 : FVec F S8x256 .f32 := addf v177 v178
  have v180 : FVec F S8x256 .f32 := extractStridedSlice S8x256 ![48, 0] v168 slices_S160x256_o48_0_S8x256
  have v181 : FVec F S8x256 .f32 := addf v179 v180
  have v182 : FVec F S8x256 .f32 := extractStridedSlice S8x256 ![56, 0] v168 slices_S160x256_o56_0_S8x256
  have v183 : FVec F S8x256 .f32 := addf v181 v182
  have v184 : FVec F S8x256 .f32 := extractStridedSlice S8x256 ![64, 0] v168 slices_S160x256_o64_0_S8x256
  have v185 : FVec F S8x256 .f32 := addf v183 v184
  have v186 : FVec F S8x256 .f32 := extractStridedSlice S8x256 ![72, 0] v168 slices_S160x256_o72_0_S8x256
  have v187 : FVec F S8x256 .f32 := addf v185 v186
  have v188 : FVec F S8x256 .f32 := extractStridedSlice S8x256 ![80, 0] v168 slices_S160x256_o80_0_S8x256
  have v189 : FVec F S8x256 .f32 := addf v187 v188
  have v190 : FVec F S8x256 .f32 := extractStridedSlice S8x256 ![88, 0] v168 slices_S160x256_o88_0_S8x256
  have v191 : FVec F S8x256 .f32 := addf v189 v190
  have v192 : FVec F S8x256 .f32 := extractStridedSlice S8x256 ![96, 0] v168 slices_S160x256_o96_0_S8x256
  have v193 : FVec F S8x256 .f32 := addf v191 v192
  have v194 : FVec F S8x256 .f32 := extractStridedSlice S8x256 ![104, 0] v168 slices_S160x256_o104_0_S8x256
  have v195 : FVec F S8x256 .f32 := addf v193 v194
  have v196 : FVec F S8x256 .f32 := extractStridedSlice S8x256 ![112, 0] v168 slices_S160x256_o112_0_S8x256
  have v197 : FVec F S8x256 .f32 := addf v195 v196
  have v198 : FVec F S8x256 .f32 := extractStridedSlice S8x256 ![120, 0] v168 slices_S160x256_o120_0_S8x256
  have v199 : FVec F S8x256 .f32 := addf v197 v198
  have v200 : FVec F S8x256 .f32 := extractStridedSlice S8x256 ![128, 0] v168 slices_S160x256_o128_0_S8x256
  have v201 : FVec F S8x256 .f32 := addf v199 v200
  have v202 : FVec F S8x256 .f32 := extractStridedSlice S8x256 ![136, 0] v168 slices_S160x256_o136_0_S8x256
  have v203 : FVec F S8x256 .f32 := addf v201 v202
  have v204 : FVec F S8x256 .f32 := extractStridedSlice S8x256 ![144, 0] v168 slices_S160x256_o144_0_S8x256
  have v205 : FVec F S8x256 .f32 := addf v203 v204
  have v206 : FVec F S8x256 .f32 := extractStridedSlice S8x256 ![152, 0] v168 slices_S160x256_o152_0_S8x256
  have v207 : FVec F S8x256 .f32 := addf v205 v206
  have v208 : FVec F S256 .f32 := multiReduction .add [0] S256 v207 0x00000000#32 reduces_S8x256_S256 (.inl rfl) rfl
  have v209 : FVec F S1x256 .f32 := shapeCast S1x256 v208 shapeCasts_S256_S1x256
  have v210 : FVec F S1x256 .f32 := broadcast S1x256 v6
  have v211 : FVec F S1x256 .f32 := mulf v209 v210
  have v272 : FVec F S1x128 .f32 := extractStridedSlice S1x128 ![0, 128] v211 slices_S1x256_o0_128_S1x128
  have v273 : FVec F S1x128 .f32 := shapeCast S1x128 v272 shapeCasts_S1x128_S1x128
  have v274 : FVec F S128x128 .f32 := broadcastTo S128x128 v273 broadcasts_S1x128_S128x128
  have v275 : FVec F S128x128 .f32 := transpose S128x128 [1, 0] v274 transposes_S128x128_p1_0_S128x128
  have v278 : FVec F S1x128x128 .f32 := shapeCast S1x128x128 v275 shapeCasts_S128x128_S1x128x128
  v278

/-- The probabilities of a block, not masked. -/
def payExp (v1 : Elt F .f32) (v1283 : Elt F .f32) (v1286 : Vec F S1x256x256 .fp8e4m3) (v1288 : Vec F S256x256 .fp8e4m3) (v1290 : Vec F S1x256x128 .f32) : FVec F S256x256 .f32 :=
  have v1287 : FVec F S256x256 .fp8e4m3 := shapeCast S256x256 v1286 shapeCasts_S1x256x256_S256x256
  have cst_552 : FVec F S256x256 .f32 := constant S256x256 .f32 0x00000000#32
  have v1289 : FVec F S256x256 .f32 := matmul dot_S256x256_S256x256_S256x256_1_0_0_1_n_n none v1287 v1288 cst_552
  have v1284 : F .f32 := Scalar.mulf v1283 v1
  have cst_546 : F .f32 := Named.named κ "sm_log2e" 0x3DE995B3#32
  have v1285 : F .f32 := Scalar.mulf v1284 cst_546
  have v1292 : FVec F S256x256 .f32 := broadcast S256x256 v1285
  have v1293 : FVec F S256x256 .f32 := mulf v1289 v1292
  have v1291 : FVec F S256x128 .f32 := shapeCast S256x128 v1290 shapeCasts_S1x256x128_S256x128
  have v1294 : FVec F S256x256 .f32 := concatenate S256x256 1 [⟨S256x128, v1291⟩, ⟨S256x128, v1291⟩] concatenates_S256x128_S256x128_S256x256_d1
  have v1295 : FVec F S256x256 .f32 := subf v1293 v1294
  have v1296 : FVec F S256x256 .f32 := exp2 v1295
  v1296

/-- A block on the diagonal, zero above it. -/
def payMask (v539 : FVec F S256x256 .f32) : FVec F S256x256 .f32 :=
  have v541 : IVec S256x256 32 := iota .tc S256x256 32 [1] iota_S256x256_d1_w32
  have v540 : IVec S256x256 32 := iota .tc S256x256 32 [0] iota_S256x256_d0_w32
  have v542 : IVec S256x256 1 := cmpi .sle v541 v540
  have cst_195 : F .f32 := Scalar.ofBits .f32 0x00000000#32
  have v543 : FVec F S256x256 .f32 := broadcast S256x256 cst_195
  have v544 : FVec F S256x256 .f32 := select v542 v539 v543
  v544

/-- The gradients of the scores of a block. -/
def payDs (v1296 : FVec F S256x256 .f32) (v1297 : Vec F S1x256x256 .bf16) (v1299 : Vec F S256x256 .bf16) (v1301 : Vec F S1x256x128 .f32) : FVec F S256x256 .bf16 :=
  have v1298 : FVec F S256x256 .bf16 := shapeCast S256x256 v1297 shapeCasts_S1x256x256_S256x256
  have cst_561 : FVec F S256x256 .f32 := constant S256x256 .f32 0x00000000#32
  have v1300 : FVec F S256x256 .f32 := matmul dot_S256x256_S256x256_S256x256_1_0_0_1_n_n none v1298 v1299 cst_561
  have v1302 : FVec F S256x128 .f32 := shapeCast S256x128 v1301 shapeCasts_S1x256x128_S256x128
  have v1303 : FVec F S256x256 .f32 := concatenate S256x256 1 [⟨S256x128, v1302⟩, ⟨S256x128, v1302⟩] concatenates_S256x128_S256x128_S256x256_d1
  have v1304 : FVec F S256x256 .f32 := subf v1300 v1303
  have v1305 : FVec F S256x256 .f32 := mulf v1296 v1304
  have v1306 : FVec F S256x256 .bf16 := truncf .bf16 v1305 bitsLt_bf16_f32
  v1306

/-- The probabilities stored. -/
def payPb (v544 : FVec F S256x256 .f32) : FVec F S1x256x256 .bf16 :=
  have v555 : FVec F S256x256 .bf16 := truncf .bf16 v544 bitsLt_bf16_f32
  have v558 : FVec F S1x256x256 .bf16 := shapeCast S1x256x256 v555 shapeCasts_S256x256_S1x256x256
  v558

/-- The score gradients stored. -/
def payDsb (v554 : FVec F S256x256 .bf16) : FVec F S1x256x256 .bf16 :=
  have v561 : FVec F S1x256x256 .bf16 := shapeCast S1x256x256 v554 shapeCasts_S256x256_S1x256x256
  v561

/-- The first contribution to the query gradient. -/
def payDqSet (v554 : FVec F S256x256 .bf16) (v562 : Vec F S160x256 .bf16) : FVec F S1x160x256 .f32 :=
  have cst_213 : FVec F S160x256 .f32 := constant S160x256 .f32 0x00000000#32
  have v563 : FVec F S160x256 .f32 := matmul dot_S160x256_S256x256_S160x256_1_1_0_0_n_n none v562 v554 cst_213
  have v566 : FVec F S1x160x256 .f32 := shapeCast S1x160x256 v563 shapeCasts_S160x256_S1x160x256
  v566

/-- A further contribution to the query gradient. -/
def payDqAdd (v1487 : FVec F S256x256 .bf16) (v1495 : Vec F S160x256 .bf16) (v1497 : Vec F S1x160x256 .f32) : FVec F S1x160x256 .f32 :=
  have v1498 : FVec F S160x256 .f32 := shapeCast S160x256 v1497 shapeCasts_S1x160x256_S160x256
  have cst_728 : FVec F S160x256 .f32 := constant S160x256 .f32 0x00000000#32
  have v1496 : FVec F S160x256 .f32 := matmul dot_S160x256_S256x256_S160x256_1_1_0_0_n_n none v1495 v1487 cst_728
  have v1499 : FVec F S160x256 .f32 := addf v1498 v1496
  have v1502 : FVec F S1x160x256 .f32 := shapeCast S1x160x256 v1499 shapeCasts_S160x256_S1x160x256
  v1502

/-- A contribution to the value gradient (and, from the other two buffers, to the key gradient). -/
def payAcc (v699 : Vec F S1x160x1024 .bf16) (v701 : Vec F S1x1024x256 .bf16) : FVec F S160x256 .f32 :=
  have v700 : FVec F S160x1024 .bf16 := shapeCast S160x1024 v699 shapeCasts_S1x160x1024_S160x1024
  have v702 : FVec F S1024x256 .bf16 := shapeCast S1024x256 v701 shapeCasts_S1x1024x256_S1024x256
  have cst_325 : FVec F S160x256 .f32 := constant S160x256 .f32 0x00000000#32
  have v703 : FVec F S160x256 .f32 := matmul dot_S160x1024_S1024x256_S160x256_1_0_0_1_n_n none v700 v702 cst_325
  v703

/-- The first contribution, stored. -/
def paySet (v703 : FVec F S160x256 .f32) : FVec F S160x256 .f32 :=
  have v714 : FVec F S160x256 .f32 := shapeCast S160x256 v703 shapeCasts_S160x256_S160x256
  v714

/-- A further contribution, added. -/
def payAdd (v1446 : Vec F S160x256 .f32) (v1445 : FVec F S160x256 .f32) : FVec F S160x256 .f32 :=
  have v1447 : FVec F S160x256 .f32 := addf v1446 v1445
  have v1450 : FVec F S160x256 .f32 := shapeCast S160x256 v1447 shapeCasts_S160x256_S160x256
  v1450

/-- The query gradient of a block: scaled and turned back. -/
def payDq (v1 : Elt F .f32) (v5 : F .f32) (v715 : Vec F S80x256 .f32) (v717 : Vec F S80x256 .f32) (v719 : Vec F S1x256 .f32) (v724 : Vec F S1x160x256 .f32) : FVec F S1x160x256 .bf16 :=
  have v725 : FVec F S160x256 .f32 := shapeCast S160x256 v724 shapeCasts_S1x160x256_S160x256
  have cst_343 : F .f32 := Scalar.ofBits .f32 0x3DA1E89B#32
  have v720 : F .f32 := Scalar.mulf v1 cst_343
  have v721 : F .f32 := Scalar.mulf v720 v5
  have v722 : FVec F S1x256 .f32 := broadcast S1x256 v721
  have v723 : FVec F S1x256 .f32 := mulf v719 v722
  have v726 : FVec F S160x256 .f32 := broadcastTo S160x256 v723 broadcasts_S1x256_S160x256
  have v727 : FVec F S160x256 .f32 := mulf v725 v726
  have v728 : FVec F S80x256 .f32 := extractStridedSlice S80x256 ![0, 0] v727 slices_S160x256_o0_0_S80x256
  have v716 : FVec F S80x256 .f32 := shapeCast S80x256 v715 shapeCasts_S80x256_S80x256
  have v730 : FVec F S80x256 .f32 := mulf v728 v716
  have v729 : FVec F S80x256 .f32 := extractStridedSlice S80x256 ![80, 0] v727 slices_S160x256_o80_0_S80x256
  have v718 : FVec F S80x256 .f32 := shapeCast S80x256 v717 shapeCasts_S80x256_S80x256
  have v731 : FVec F S80x256 .f32 := mulf v729 v718
  have v732 : FVec F S80x256 .f32 := addf v730 v731
  have v733 : FVec F S80x256 .f32 := mulf v729 v716
  have v734 : FVec F S80x256 .f32 := mulf v728 v718
  have v735 : FVec F S80x256 .f32 := subf v733 v734
  have v736 : FVec F S160x256 .f32 := concatenate S160x256 0 [⟨S80x256, v732⟩, ⟨S80x256, v735⟩] concatenates_S80x256_S80x256_S160x256_d0
  have v737 : FVec F S160x256 .bf16 := truncf .bf16 v736 bitsLt_bf16_f32
  have v740 : FVec F S1x160x256 .bf16 := shapeCast S1x160x256 v737 shapeCasts_S160x256_S1x160x256
  v740

/-- The key gradient of a block: scaled and turned back. -/
def payDk (v5 : F .f32) (v9438 : Vec F S80x256 .f32) (v9440 : Vec F S80x256 .f32) (v9442 : Vec F S160x256 .f32) : FVec F S1x160x256 .bf16 :=
  have cst_6110 : F .f32 := Scalar.ofBits .f32 0x3DA1E89B#32
  have v9443 : F .f32 := Scalar.mulf cst_6110 v5
  have v9444 : FVec F S160x256 .f32 := broadcast S160x256 v9443
  have v9445 : FVec F S160x256 .f32 := mulf v9442 v9444
  have v9446 : FVec F S80x256 .f32 := extractStridedSlice S80x256 ![0, 0] v9445 slices_S160x256_o0_0_S80x256
  have v9439 : FVec F S80x256 .f32 := shapeCast S80x256 v9438 shapeCasts_S80x256_S80x256
  have v9448 : FVec F S80x256 .f32 := mulf v9446 v9439
  have v9447 : FVec F S80x256 .f32 := extractStridedSlice S80x256 ![80, 0] v9445 slices_S160x256_o80_0_S80x256
  have v9441 : FVec F S80x256 .f32 := shapeCast S80x256 v9440 shapeCasts_S80x256_S80x256
  have v9449 : FVec F S80x256 .f32 := mulf v9447 v9441
  have v9450 : FVec F S80x256 .f32 := addf v9448 v9449
  have v9451 : FVec F S80x256 .f32 := mulf v9447 v9439
  have v9452 : FVec F S80x256 .f32 := mulf v9446 v9441
  have v9453 : FVec F S80x256 .f32 := subf v9451 v9452
  have v9454 : FVec F S160x256 .f32 := concatenate S160x256 0 [⟨S80x256, v9450⟩, ⟨S80x256, v9453⟩] concatenates_S80x256_S80x256_S160x256_d0
  have v9455 : FVec F S160x256 .bf16 := truncf .bf16 v9454 bitsLt_bf16_f32
  have v9458 : FVec F S1x160x256 .bf16 := shapeCast S1x160x256 v9455 shapeCasts_S160x256_S1x160x256
  v9458

/-- The value gradient of a block. -/
def payDv (v9459 : Vec F S160x256 .f32) : FVec F S1x160x256 .bf16 :=
  have v9460 : FVec F S160x256 .bf16 := truncf .bf16 v9459 bitsLt_bf16_f32
  have v9463 : FVec F S1x160x256 .bf16 := shapeCast S1x160x256 v9460 shapeCasts_S160x256_S1x160x256
  v9463

end Cert.KernelIdeal.Body
-- ==== Proof.Body.State.lean ====
/- The buffers of the body, what they hold, and reading and updating a rectangle. -/
module

public import proofs.«01_k».proof.Proof.Body.Payloads

@[expose] public section

set_option synthInstance.maxSize 4096

noncomputable section

namespace Cert.KernelIdeal.Body

open Idealize.ShloMosaic Idealize.SL.Sem
open Cert.KernelIdeal Facts₀ Facts

variable {F : FTy → Type} [FloatOps F] [Named F]

/-- The memrefs the body is called with, each a whole buffer. -/
structure Refs where
  qs : Memref sig .tc .smem S24 .f32
  hqs : qs.IsWhole
  ks : Memref sig .tc .smem S6 .f32
  hks : ks.IsWhole
  vs : Memref sig .tc .smem S6 .f32
  hvs : vs.IsWhole
  q : Memref sig .tc .vmem S4x160x1792 .fp8e4m3
  hq : q.IsWhole
  k : Memref sig .tc .vmem S1x160x1792 .fp8e4m3
  hk : k.IsWhole
  v : Memref sig .tc .vmem S1x160x1792 .fp8e4m3
  hv : v.IsWhole
  g : Memref sig .tc .vmem S4x160x1792 .fp8e5m2
  hg : g.IsWhole
  o : Memref sig .tc .vmem S4x160x1792 .bf16
  ho : o.IsWhole
  lse : Memref sig .tc .vmem S1x4x1792 .f32
  hlse : lse.IsWhole
  dos : Memref sig .tc .vmem S1x1792 .f32
  hdos : dos.IsWhole
  cos : Memref sig .tc .vmem S80x1792 .f32
  hcos : cos.IsWhole
  sin : Memref sig .tc .vmem S80x1792 .f32
  hsin : sin.IsWhole
  dq : Memref sig .tc .vmem S4x160x1792 .bf16
  hdq : dq.IsWhole
  dk : Memref sig .tc .vmem S1x160x1792 .bf16
  hdk : dk.IsWhole
  dv : Memref sig .tc .vmem S1x160x1792 .bf16
  hdv : dv.IsWhole
  qx : Memref sig .tc .vmem S7x1024x256 .fp8e4m3
  hqx : qx.IsWhole
  dox : Memref sig .tc .vmem S7x1024x256 .bf16
  hdox : dox.IsWhole
  lsex : Memref sig .tc .vmem S7x1024x128 .f32
  hlsex : lsex.IsWhole
  delx : Memref sig .tc .vmem S7x1024x128 .f32
  hdelx : delx.IsWhole
  dow : Memref sig .tc .vmem S7x160x1024 .bf16
  hdow : dow.IsWhole
  qw : Memref sig .tc .vmem S7x160x1024 .bf16
  hqw : qw.IsWhole
  kx : Memref sig .tc .vmem S256x1792 .fp8e4m3
  hkx : kx.IsWhole
  vx : Memref sig .tc .vmem S256x1792 .bf16
  hvx : vx.IsWhole
  kb : Memref sig .tc .vmem S160x1792 .bf16
  hkb : kb.IsWhole
  dqa : Memref sig .tc .vmem S4x160x1792 .f32
  hdqa : dqa.IsWhole
  dka : Memref sig .tc .vmem S160x1792 .f32
  hdka : dka.IsWhole
  dva : Memref sig .tc .vmem S160x1792 .f32
  hdva : dva.IsWhole
  pb : Memref sig .tc .vmem S2x1024x256 .bf16
  hpb : pb.IsWhole
  dsb : Memref sig .tc .vmem S2x1024x256 .bf16
  hdsb : dsb.IsWhole

/-- What the buffers hold. -/
structure State (F : FTy → Type) where
  qs : Vec F S24 .f32
  ks : Vec F S6 .f32
  vs : Vec F S6 .f32
  q : Vec F S4x160x1792 .fp8e4m3
  k : Vec F S1x160x1792 .fp8e4m3
  v : Vec F S1x160x1792 .fp8e4m3
  g : Vec F S4x160x1792 .fp8e5m2
  o : Vec F S4x160x1792 .bf16
  lse : Vec F S1x4x1792 .f32
  dos : Vec F S1x1792 .f32
  cos : Vec F S80x1792 .f32
  sin : Vec F S80x1792 .f32
  dq : Vec F S4x160x1792 .bf16
  dk : Vec F S1x160x1792 .bf16
  dv : Vec F S1x160x1792 .bf16
  qx : Vec F S7x1024x256 .fp8e4m3
  dox : Vec F S7x1024x256 .bf16
  lsex : Vec F S7x1024x128 .f32
  delx : Vec F S7x1024x128 .f32
  dow : Vec F S7x160x1024 .bf16
  qw : Vec F S7x160x1024 .bf16
  kx : Vec F S256x1792 .fp8e4m3
  vx : Vec F S256x1792 .bf16
  kb : Vec F S160x1792 .bf16
  dqa : Vec F S4x160x1792 .f32
  dka : Vec F S160x1792 .f32
  dva : Vec F S160x1792 .f32
  pb : Vec F S2x1024x256 .bf16
  dsb : Vec F S2x1024x256 .bf16

/-- The part of an array at a rectangle. -/
def rd {s : Shape} {e : EltTy} (r : Rect s) (v : Vec F s e) : Vec F r.shape e := fun x => v (r.idx x)

/-- The one element at a rectangle of one element. -/
def rd1 {s : Shape} {e : EltTy} (r : Rect s) (h1 : r.shape.numel = 1) (v : Vec F s e) : Elt F e :=
  v (r.idx (Shape.Idx.first (h1.symm ▸ Nat.one_pos)))

open Classical in
/-- An array with new elements at a rectangle. -/
@[irreducible] def up {s : Shape} {e : EltTy} (r : Rect s) (w : Vec F r.shape e) (v : Vec F s e) : Vec F s e :=
  fun y => if h : ∃ x, r.idx x = y then w h.choose else v y

theorem inb2 {a b s0 s1 t0 t1 : ℕ} (h0 : a + t0 ≤ s0) (h1 : b + t1 ≤ s1) :
    ∀ x, (![a, b] : Fin 2 → ℕ) x + (Shape.mk 2 ![t0, t1]).size x ≤ (Shape.mk 2 ![s0, s1]).size x :=
  Fin.forall_fin_two.2 ⟨h0, h1⟩

theorem inb3 {a b c s0 s1 s2 t0 t1 t2 : ℕ} (h0 : a + t0 ≤ s0) (h1 : b + t1 ≤ s1) (h2 : c + t2 ≤ s2) :
    ∀ x, (![a, b, c] : Fin 3 → ℕ) x + (Shape.mk 3 ![t0, t1, t2]).size x ≤ (Shape.mk 3 ![s0, s1, s2]).size x := by
  intro x; fin_cases x
  · exact h0
  · exact h1
  · exact h2

theorem packed2 {p a b s0 s1 t0 t1 : ℕ} {h} (ha : p ∣ a) (ht : p ∣ t0) :
    (Rect.unit (s := Shape.mk 2 ![s0, s1]) ![a, b] (Shape.mk 2 ![t0, t1]).size h).PackedRows p :=
  .inr ⟨le_refl 2, rfl, .inl ⟨ha, ht⟩⟩

theorem packed3 {p a b c s0 s1 s2 t0 t1 t2 : ℕ} {h} (ha : p ∣ b) (ht : p ∣ t1) :
    (Rect.unit (s := Shape.mk 3 ![s0, s1, s2]) ![a, b, c] (Shape.mk 3 ![t0, t1, t2]).size h).PackedRows p :=
  .inr ⟨Nat.le_succ 2, rfl, .inl ⟨ha, ht⟩⟩

/-- The probabilities of a block, masked on the diagonal. -/
def probs (mask : Bool) (ks qs : Elt F .f32) (qx : Vec F S1x256x256 .fp8e4m3) (kx : Vec F S256x256 .fp8e4m3)
    (lsex : Vec F S1x256x128 .f32) : FVec F S256x256 .f32 :=
  cond mask (payMask (payExp ks qs qx kx lsex)) (payExp ks qs qx kx lsex)
/-- A rectangle of `dos`. -/
abbrev dos_r0 (i : ℕ) (hi : i < 7) : Rect S1x1792 :=
  Rect.unit (s := S1x1792) ![0, 256 * i] S1x256.size (inb2 (by omega) (by omega))

/-- A rectangle of `g`. -/
abbrev g_r0 (i : ℕ) (hi : i < 7) (h : ℕ) (hh : h < 4) : Rect S4x160x1792 :=
  Rect.unit (s := S4x160x1792) ![h, 0, 256 * i] S1x160x256.size (inb3 (by omega) (by omega) (by omega))

/-- A rectangle of `o`. -/
abbrev o_r0 (i : ℕ) (hi : i < 7) (h : ℕ) (hh : h < 4) : Rect S4x160x1792 :=
  Rect.unit (s := S4x160x1792) ![h, 0, 256 * i] S1x160x256.size (inb3 (by omega) (by omega) (by omega))

/-- A rectangle of `dox`. -/
abbrev dox_r0 (i : ℕ) (hi : i < 7) (h : ℕ) (hh : h < 4) : Rect S7x1024x256 :=
  Rect.unit (s := S7x1024x256) ![i, 256 * h, 0] S1x256x256.size (inb3 (by omega) (by omega) (by omega))

/-- A rectangle of `dow`. -/
abbrev dow_r0 (i : ℕ) (hi : i < 7) (h : ℕ) (hh : h < 4) : Rect S7x160x1024 :=
  Rect.unit (s := S7x160x1024) ![i, 0, 256 * h] S1x160x256.size (inb3 (by omega) (by omega) (by omega))

/-- A rectangle of `q`. -/
abbrev q_r0 (i : ℕ) (hi : i < 7) (h : ℕ) (hh : h < 4) : Rect S4x160x1792 :=
  Rect.unit (s := S4x160x1792) ![h, 0, 256 * i] S1x160x256.size (inb3 (by omega) (by omega) (by omega))

/-- A rectangle of `qx`. -/
abbrev qx_r0 (i : ℕ) (hi : i < 7) (h : ℕ) (hh : h < 4) : Rect S7x1024x256 :=
  Rect.unit (s := S7x1024x256) ![i, 256 * h, 0] S1x256x256.size (inb3 (by omega) (by omega) (by omega))

/-- A rectangle of `qw`. -/
abbrev qw_r0 (i : ℕ) (hi : i < 7) (h : ℕ) (hh : h < 4) : Rect S7x160x1024 :=
  Rect.unit (s := S7x160x1024) ![i, 0, 256 * h] S1x160x256.size (inb3 (by omega) (by omega) (by omega))

/-- A rectangle of `lse`. -/
abbrev lse_r0 (i : ℕ) (hi : i < 7) (h : ℕ) (hh : h < 4) : Rect S1x4x1792 :=
  Rect.unit (s := S1x4x1792) ![0, h, 256 * i] S1x1x256.size (inb3 (by omega) (by omega) (by omega))

/-- A rectangle of `lsex`. -/
abbrev lsex_r0 (i : ℕ) (hi : i < 7) (h : ℕ) (hh : h < 4) : Rect S7x1024x128 :=
  Rect.unit (s := S7x1024x128) ![i, 256 * h, 0] S1x128x128.size (inb3 (by omega) (by omega) (by omega))

/-- A rectangle of `delx`. -/
abbrev delx_r0 (i : ℕ) (hi : i < 7) (h : ℕ) (hh : h < 4) : Rect S7x1024x128 :=
  Rect.unit (s := S7x1024x128) ![i, 256 * h, 0] S1x128x128.size (inb3 (by omega) (by omega) (by omega))

/-- A rectangle of `lsex`. -/
abbrev lsex_r1 (i : ℕ) (hi : i < 7) (h : ℕ) (hh : h < 4) : Rect S7x1024x128 :=
  Rect.unit (s := S7x1024x128) ![i, 256 * h + 128, 0] S1x128x128.size (inb3 (by omega) (by omega) (by omega))

/-- A rectangle of `delx`. -/
abbrev delx_r1 (i : ℕ) (hi : i < 7) (h : ℕ) (hh : h < 4) : Rect S7x1024x128 :=
  Rect.unit (s := S7x1024x128) ![i, 256 * h + 128, 0] S1x128x128.size (inb3 (by omega) (by omega) (by omega))

/-- A rectangle of `kx`. -/
abbrev kx_r0 (j : ℕ) (hj : j < 7) : Rect S256x1792 :=
  Rect.unit (s := S256x1792) ![0, 256 * j] S256x256.size (inb2 (by omega) (by omega))

/-- A rectangle of `lsex`. -/
abbrev lsex_r2 (i : ℕ) (hi : i < 7) (h : ℕ) (hh : h < 4) : Rect S7x1024x128 :=
  Rect.unit (s := S7x1024x128) ![i, 256 * h, 0] S1x256x128.size (inb3 (by omega) (by omega) (by omega))

/-- A rectangle of `vx`. -/
abbrev vx_r0 (j : ℕ) (hj : j < 7) : Rect S256x1792 :=
  Rect.unit (s := S256x1792) ![0, 256 * j] S256x256.size (inb2 (by omega) (by omega))

/-- A rectangle of `delx`. -/
abbrev delx_r2 (i : ℕ) (hi : i < 7) (h : ℕ) (hh : h < 4) : Rect S7x1024x128 :=
  Rect.unit (s := S7x1024x128) ![i, 256 * h, 0] S1x256x128.size (inb3 (by omega) (by omega) (by omega))

/-- A rectangle of `pb`. -/
abbrev pb_r0 (i : ℕ) (hi : i < 7) (j : ℕ) (hj : j < 7) (h : ℕ) (hh : h < 4) : Rect S2x1024x256 :=
  Rect.unit (s := S2x1024x256) ![(i + j) % 2, 256 * h, 0] S1x256x256.size (inb3 (by omega) (by omega) (by omega))

/-- A rectangle of `dsb`. -/
abbrev dsb_r0 (i : ℕ) (hi : i < 7) (j : ℕ) (hj : j < 7) (h : ℕ) (hh : h < 4) : Rect S2x1024x256 :=
  Rect.unit (s := S2x1024x256) ![(i + j) % 2, 256 * h, 0] S1x256x256.size (inb3 (by omega) (by omega) (by omega))

/-- A rectangle of `kb`. -/
abbrev kb_r0 (j : ℕ) (hj : j < 7) : Rect S160x1792 :=
  Rect.unit (s := S160x1792) ![0, 256 * j] S160x256.size (inb2 (by omega) (by omega))

/-- A rectangle of `dqa`. -/
abbrev dqa_r0 (i : ℕ) (hi : i < 7) (h : ℕ) (hh : h < 4) : Rect S4x160x1792 :=
  Rect.unit (s := S4x160x1792) ![h, 0, 256 * i] S1x160x256.size (inb3 (by omega) (by omega) (by omega))

/-- A rectangle of `dow`. -/
abbrev dow_r1 (i : ℕ) (hi : i < 7) : Rect S7x160x1024 :=
  Rect.unit (s := S7x160x1024) ![i, 0, 0] S1x160x1024.size (inb3 (by omega) (by omega) (by omega))

/-- A rectangle of `pb`. -/
abbrev pb_r1 (i : ℕ) (hi : i < 7) (j : ℕ) (hj : j < 7) : Rect S2x1024x256 :=
  Rect.unit (s := S2x1024x256) ![(i + j) % 2, 0, 0] S1x1024x256.size (inb3 (by omega) (by omega) (by omega))

/-- A rectangle of `qw`. -/
abbrev qw_r1 (i : ℕ) (hi : i < 7) : Rect S7x160x1024 :=
  Rect.unit (s := S7x160x1024) ![i, 0, 0] S1x160x1024.size (inb3 (by omega) (by omega) (by omega))

/-- A rectangle of `dsb`. -/
abbrev dsb_r1 (i : ℕ) (hi : i < 7) (j : ℕ) (hj : j < 7) : Rect S2x1024x256 :=
  Rect.unit (s := S2x1024x256) ![(i + j) % 2, 0, 0] S1x1024x256.size (inb3 (by omega) (by omega) (by omega))

/-- A rectangle of `dka`. -/
abbrev dka_r0 (j : ℕ) (hj : j < 7) : Rect S160x1792 :=
  Rect.unit (s := S160x1792) ![0, 256 * j] S160x256.size (inb2 (by omega) (by omega))

/-- A rectangle of `dva`. -/
abbrev dva_r0 (j : ℕ) (hj : j < 7) : Rect S160x1792 :=
  Rect.unit (s := S160x1792) ![0, 256 * j] S160x256.size (inb2 (by omega) (by omega))

/-- A rectangle of `cos`. -/
abbrev cos_r0 (i : ℕ) (hi : i < 7) : Rect S80x1792 :=
  Rect.unit (s := S80x1792) ![0, 256 * i] S80x256.size (inb2 (by omega) (by omega))

/-- A rectangle of `sin`. -/
abbrev sin_r0 (i : ℕ) (hi : i < 7) : Rect S80x1792 :=
  Rect.unit (s := S80x1792) ![0, 256 * i] S80x256.size (inb2 (by omega) (by omega))

/-- A rectangle of `dqa`. -/
abbrev dqa_r1 (i : ℕ) (hi : i < 7) : Rect S4x160x1792 :=
  Rect.unit (s := S4x160x1792) ![0, 0, 256 * i] S1x160x256.size (inb3 (by omega) (by omega) (by omega))

/-- A rectangle of `dq`. -/
abbrev dq_r0 (i : ℕ) (hi : i < 7) : Rect S4x160x1792 :=
  Rect.unit (s := S4x160x1792) ![0, 0, 256 * i] S1x160x256.size (inb3 (by omega) (by omega) (by omega))

/-- A rectangle of `dqa`. -/
abbrev dqa_r2 (i : ℕ) (hi : i < 7) : Rect S4x160x1792 :=
  Rect.unit (s := S4x160x1792) ![1, 0, 256 * i] S1x160x256.size (inb3 (by omega) (by omega) (by omega))

/-- A rectangle of `dq`. -/
abbrev dq_r1 (i : ℕ) (hi : i < 7) : Rect S4x160x1792 :=
  Rect.unit (s := S4x160x1792) ![1, 0, 256 * i] S1x160x256.size (inb3 (by omega) (by omega) (by omega))

/-- A rectangle of `dqa`. -/
abbrev dqa_r3 (i : ℕ) (hi : i < 7) : Rect S4x160x1792 :=
  Rect.unit (s := S4x160x1792) ![2, 0, 256 * i] S1x160x256.size (inb3 (by omega) (by omega) (by omega))

/-- A rectangle of `dq`. -/
abbrev dq_r2 (i : ℕ) (hi : i < 7) : Rect S4x160x1792 :=
  Rect.unit (s := S4x160x1792) ![2, 0, 256 * i] S1x160x256.size (inb3 (by omega) (by omega) (by omega))

/-- A rectangle of `dqa`. -/
abbrev dqa_r4 (i : ℕ) (hi : i < 7) : Rect S4x160x1792 :=
  Rect.unit (s := S4x160x1792) ![3, 0, 256 * i] S1x160x256.size (inb3 (by omega) (by omega) (by omega))

/-- A rectangle of `dq`. -/
abbrev dq_r3 (i : ℕ) (hi : i < 7) : Rect S4x160x1792 :=
  Rect.unit (s := S4x160x1792) ![3, 0, 256 * i] S1x160x256.size (inb3 (by omega) (by omega) (by omega))

/-- A rectangle of `cos`. -/
abbrev cos_r1 (j : ℕ) (hj : j < 7) : Rect S80x1792 :=
  Rect.unit (s := S80x1792) ![0, 256 * j] S80x256.size (inb2 (by omega) (by omega))

/-- A rectangle of `sin`. -/
abbrev sin_r1 (j : ℕ) (hj : j < 7) : Rect S80x1792 :=
  Rect.unit (s := S80x1792) ![0, 256 * j] S80x256.size (inb2 (by omega) (by omega))

/-- A rectangle of `dk`. -/
abbrev dk_r0 (j : ℕ) (hj : j < 7) : Rect S1x160x1792 :=
  Rect.unit (s := S1x160x1792) ![0, 0, 256 * j] S1x160x256.size (inb3 (by omega) (by omega) (by omega))

/-- A rectangle of `dv`. -/
abbrev dv_r0 (j : ℕ) (hj : j < 7) : Rect S1x160x1792 :=
  Rect.unit (s := S1x160x1792) ![0, 0, 256 * j] S1x160x256.size (inb3 (by omega) (by omega) (by omega))

/-- A rectangle of `k`. -/
abbrev k_r0  : Rect S1x160x1792 :=
  Rect.unit (s := S1x160x1792) ![0, 0, 0] S1x160x1792.size (inb3 (by omega) (by omega) (by omega))

/-- A rectangle of `kb`. -/
abbrev kb_r1  : Rect S160x1792 :=
  Rect.unit (s := S160x1792) ![0, 0] S160x1792.size (inb2 (by omega) (by omega))

/-- A rectangle of `kx`. -/
abbrev kx_r1  : Rect S256x1792 :=
  Rect.unit (s := S256x1792) ![0, 0] S160x1792.size (inb2 (by omega) (by omega))

/-- A rectangle of `kx`. -/
abbrev kx_r2  : Rect S256x1792 :=
  Rect.unit (s := S256x1792) ![160, 0] S96x1792.size (inb2 (by omega) (by omega))

/-- A rectangle of `v`. -/
abbrev v_r0  : Rect S1x160x1792 :=
  Rect.unit (s := S1x160x1792) ![0, 0, 0] S1x160x1792.size (inb3 (by omega) (by omega) (by omega))

/-- A rectangle of `vx`. -/
abbrev vx_r1  : Rect S256x1792 :=
  Rect.unit (s := S256x1792) ![0, 0] S160x1792.size (inb2 (by omega) (by omega))

/-- A rectangle of `vx`. -/
abbrev vx_r2  : Rect S256x1792 :=
  Rect.unit (s := S256x1792) ![160, 0] S96x1792.size (inb2 (by omega) (by omega))

end Cert.KernelIdeal.Body
-- ==== Proof.Body.Vecs.lean ====
/- Reading a rectangle of an array after new elements were put at a rectangle. -/
module

public import proofs.«01_k».proof.Proof.Body.State
public import Idealize.ShloMosaic.Lib.ValueIdxCore

@[expose] public section

set_option synthInstance.maxSize 4096

noncomputable section

namespace Cert.KernelIdeal.Body

open Idealize.ShloMosaic Idealize.SL.Sem Idealize.ShloMosaic.ValueIdx
open Cert.KernelIdeal Facts₀ Facts

variable {F : FTy → Type} [FloatOps F] [Named F]

section
variable {s : Shape} {e : EltTy} {r r' : Rect s} {v v' : Vec F s e}

theorem up_at {w : Vec F r.shape e} {x : r.shape.Idx} {y : s.Idx} (h : r.idx x = y) : up r w v y = w x := by
  unfold up
  have hx : ∃ x, r.idx x = y := ⟨x, h⟩
  rw [dif_pos hx]
  exact congrArg w (r.emb.injective (hx.choose_spec.trans h.symm))

theorem up_not {w : Vec F r.shape e} {y : s.Idx} (h : ∀ x, r.idx x ≠ y) : up r w v y = v y := by
  unfold up
  rw [dif_neg (fun ⟨x, hx⟩ => h x hx)]

/-- What was just put is read. -/
theorem rd_up {w : Vec F r.shape e} : rd r (up r w v) = w := funext fun _ => up_at rfl

/-- What lies elsewhere is read as before. -/
theorem rd_up_of_ne {w : Vec F r'.shape e} (h : ∀ x x', r'.idx x' ≠ r.idx x) : rd r (up r' w v) = rd r v :=
  funext fun x => up_not (h x)

theorem at_of_rd {w : Vec F r.shape e} (h : rd r v = w) {x : r.shape.Idx} {y : s.Idx} (hx : r.idx x = y) : v y = w x := by
  rw [← h, ← hx]; rfl

end

/-- Rectangles apart along one axis. -/
theorem unit_ne {s : Shape} {off off' size size' : Fin s.rank → ℕ} {h h'} (a : Fin s.rank)
    (hd : off a + size a ≤ off' a ∨ off' a + size' a ≤ off a) (x : (Rect.unit off size h).shape.Idx) (x' : (Rect.unit off' size' h').shape.Idx) :
    (Rect.unit (s := s) off' size' h').idx x' ≠ (Rect.unit (s := s) off size h).idx x := by
  intro hx
  have h1 := congrArg (fun i => (i a : ℕ)) hx
  have h2 : off' a + 1 * (x' a : ℕ) = off a + 1 * (x a : ℕ) := h1
  have h3 : (x a : ℕ) < size a := (x a).isLt
  have h4 : (x' a : ℕ) < size' a := (x' a).isLt
  omega

/-- Two rank-three indices with equal coordinates. -/
theorem ext3 {n0 n1 n2 : ℕ} {x y : (Shape.mk 3 ![n0, n1, n2]).Idx} (h0 : (x 0 : ℕ) = y 0) (h1 : (x 1 : ℕ) = y 1) (h2 : (x 2 : ℕ) = y 2) :
    x = y := by
  funext a
  match a with
  | ⟨0, _⟩ => exact Fin.ext h0
  | ⟨1, _⟩ => exact Fin.ext h1
  | ⟨2, _⟩ => exact Fin.ext h2

theorem ext2 {n0 n1 : ℕ} {x y : (Shape.mk 2 ![n0, n1]).Idx} (h0 : (x 0 : ℕ) = y 0) (h1 : (x 1 : ℕ) = y 1) : x = y := by
  funext a
  match a with
  | ⟨0, _⟩ => exact Fin.ext h0
  | ⟨1, _⟩ => exact Fin.ext h1

end Cert.KernelIdeal.Body
-- ==== Proof.Body.Steps.lean ====
/- What each piece of the body leaves in the buffers. -/
module

public import proofs.«01_k».proof.Proof.Body.State

@[expose] public section

set_option synthInstance.maxSize 4096

noncomputable section

namespace Cert.KernelIdeal.Body

open Idealize.ShloMosaic Idealize.SL.Sem
open Cert.KernelIdeal Facts₀ Facts

variable {F : FTy → Type} [FloatOps F] [Named F]

/-- What is left by the tables of a row block of one head. -/
def prepS (t : grid0.Coords) (inv : F .f32) (i : ℕ) (hi : i < 7) (h : ℕ) (hh : h < 4) (s : State F) : State F :=
  let dos : Vec F S1x256 .f32 := rd (dos_r0 i hi) s.dos
  let qs : Elt F .f32 := rd1 (Rect.unit (s := S24) (k0_off2 t (BitVec.ofNat 32 h)) S1.size (k0_off2_inb t ⟨h, hh⟩)) numel1_S1 s.qs
  let g : Vec F S1x160x256 .fp8e5m2 := rd (g_r0 i hi h hh) s.g
  let o : Vec F S1x160x256 .bf16 := rd (o_r0 i hi h hh) s.o
  let s : State F := { s with dox := up (dox_r0 i hi h hh) (payDox g) s.dox }
  let s : State F := { s with dow := up (dow_r0 i hi h hh) (payDow dos g) s.dow }
  let q : Vec F S1x160x256 .fp8e4m3 := rd (q_r0 i hi h hh) s.q
  let s : State F := { s with qx := up (qx_r0 i hi h hh) (payQx q) s.qx }
  let s : State F := { s with qw := up (qw_r0 i hi h hh) (payQw dos qs q) s.qw }
  let lse : Vec F S1x1x256 .f32 := rd (lse_r0 i hi h hh) s.lse
  let s : State F := { s with lsex := up (lsex_r0 i hi h hh) (payLse0 lse) s.lsex }
  let s : State F := { s with delx := up (delx_r0 i hi h hh) (payDel0 inv g o) s.delx }
  let s : State F := { s with lsex := up (lsex_r1 i hi h hh) (payLse1 lse) s.lsex }
  let s : State F := { s with delx := up (delx_r1 i hi h hh) (payDel1 inv g o) s.delx }
  s

/-- What is left by one head of a block, the first of its row. -/
def headSetS (t : grid0.Coords) (ks : Elt F .f32) (mask : Bool) (i : ℕ) (hi : i < 7) (j : ℕ) (hj : j < 7) (h : ℕ) (hh : h < 4) (s : State F) : State F :=
  let qs : Elt F .f32 := rd1 (Rect.unit (s := S24) (k0_off2 t (BitVec.ofNat 32 h)) S1.size (k0_off2_inb t ⟨h, hh⟩)) numel1_S1 s.qs
  let qx : Vec F S1x256x256 .fp8e4m3 := rd (qx_r0 i hi h hh) s.qx
  let kx : Vec F S256x256 .fp8e4m3 := rd (kx_r0 j hj) s.kx
  let lsex : Vec F S1x256x128 .f32 := rd (lsex_r2 i hi h hh) s.lsex
  let dox : Vec F S1x256x256 .bf16 := rd (dox_r0 i hi h hh) s.dox
  let vx : Vec F S256x256 .bf16 := rd (vx_r0 j hj) s.vx
  let delx : Vec F S1x256x128 .f32 := rd (delx_r2 i hi h hh) s.delx
  let s : State F := { s with pb := up (pb_r0 i hi j hj h hh) (payPb (probs mask ks qs qx kx lsex)) s.pb }
  let s : State F := { s with dsb := up (dsb_r0 i hi j hj h hh) (payDsb (payDs (probs mask ks qs qx kx lsex) dox vx delx)) s.dsb }
  let kb : Vec F S160x256 .bf16 := rd (kb_r0 j hj) s.kb
  let s : State F := { s with dqa := up (dqa_r0 i hi h hh) (payDqSet (payDs (probs mask ks qs qx kx lsex) dox vx delx) kb) s.dqa }
  s

/-- What is left by one head of a block, not the first of its row. -/
def headAddS (t : grid0.Coords) (ks : Elt F .f32) (mask : Bool) (i : ℕ) (hi : i < 7) (j : ℕ) (hj : j < 7) (h : ℕ) (hh : h < 4) (s : State F) : State F :=
  let qs : Elt F .f32 := rd1 (Rect.unit (s := S24) (k0_off2 t (BitVec.ofNat 32 h)) S1.size (k0_off2_inb t ⟨h, hh⟩)) numel1_S1 s.qs
  let qx : Vec F S1x256x256 .fp8e4m3 := rd (qx_r0 i hi h hh) s.qx
  let kx : Vec F S256x256 .fp8e4m3 := rd (kx_r0 j hj) s.kx
  let lsex : Vec F S1x256x128 .f32 := rd (lsex_r2 i hi h hh) s.lsex
  let dox : Vec F S1x256x256 .bf16 := rd (dox_r0 i hi h hh) s.dox
  let vx : Vec F S256x256 .bf16 := rd (vx_r0 j hj) s.vx
  let delx : Vec F S1x256x128 .f32 := rd (delx_r2 i hi h hh) s.delx
  let s : State F := { s with pb := up (pb_r0 i hi j hj h hh) (payPb (probs mask ks qs qx kx lsex)) s.pb }
  let s : State F := { s with dsb := up (dsb_r0 i hi j hj h hh) (payDsb (payDs (probs mask ks qs qx kx lsex) dox vx delx)) s.dsb }
  let kb : Vec F S160x256 .bf16 := rd (kb_r0 j hj) s.kb
  let dqa : Vec F S1x160x256 .f32 := rd (dqa_r0 i hi h hh) s.dqa
  let s : State F := { s with dqa := up (dqa_r0 i hi h hh) (payDqAdd (payDs (probs mask ks qs qx kx lsex) dox vx delx) kb dqa) s.dqa }
  s

/-- What is left by the key and value gradients of a block, the first of its column. -/
def tailSetS (i : ℕ) (hi : i < 7) (j : ℕ) (hj : j < 7) (s : State F) : State F :=
  let dow : Vec F S1x160x1024 .bf16 := rd (dow_r1 i hi) s.dow
  let pb : Vec F S1x1024x256 .bf16 := rd (pb_r1 i hi j hj) s.pb
  let qw : Vec F S1x160x1024 .bf16 := rd (qw_r1 i hi) s.qw
  let dsb : Vec F S1x1024x256 .bf16 := rd (dsb_r1 i hi j hj) s.dsb
  let s : State F := { s with dka := up (dka_r0 j hj) (paySet (payAcc qw dsb)) s.dka }
  let s : State F := { s with dva := up (dva_r0 j hj) (paySet (payAcc dow pb)) s.dva }
  s

/-- What is left by the key and value gradients of a block, not the first of its column. -/
def tailAddS (i : ℕ) (hi : i < 7) (j : ℕ) (hj : j < 7) (s : State F) : State F :=
  let dow : Vec F S1x160x1024 .bf16 := rd (dow_r1 i hi) s.dow
  let pb : Vec F S1x1024x256 .bf16 := rd (pb_r1 i hi j hj) s.pb
  let qw : Vec F S1x160x1024 .bf16 := rd (qw_r1 i hi) s.qw
  let dsb : Vec F S1x1024x256 .bf16 := rd (dsb_r1 i hi j hj) s.dsb
  let dka : Vec F S160x256 .f32 := rd (dka_r0 j hj) s.dka
  let s : State F := { s with dka := up (dka_r0 j hj) (payAdd dka (payAcc qw dsb)) s.dka }
  let dva : Vec F S160x256 .f32 := rd (dva_r0 j hj) s.dva
  let s : State F := { s with dva := up (dva_r0 j hj) (payAdd dva (payAcc dow pb)) s.dva }
  s

/-- What is left by the query gradients of a row block. -/
def finDqS (ks vs : Elt F .f32) (i : ℕ) (hi : i < 7) (s : State F) : State F :=
  let cos : Vec F S80x256 .f32 := rd (cos_r0 i hi) s.cos
  let sin : Vec F S80x256 .f32 := rd (sin_r0 i hi) s.sin
  let dos : Vec F S1x256 .f32 := rd (dos_r0 i hi) s.dos
  let a0 : Vec F S1x160x256 .f32 := rd (dqa_r1 i hi) s.dqa
  let s : State F := { s with dq := up (dq_r0 i hi) (payDq ks (vsEff vs) cos sin dos a0) s.dq }
  let a1 : Vec F S1x160x256 .f32 := rd (dqa_r2 i hi) s.dqa
  let s : State F := { s with dq := up (dq_r1 i hi) (payDq ks (vsEff vs) cos sin dos a1) s.dq }
  let a2 : Vec F S1x160x256 .f32 := rd (dqa_r3 i hi) s.dqa
  let s : State F := { s with dq := up (dq_r2 i hi) (payDq ks (vsEff vs) cos sin dos a2) s.dq }
  let a3 : Vec F S1x160x256 .f32 := rd (dqa_r4 i hi) s.dqa
  let s : State F := { s with dq := up (dq_r3 i hi) (payDq ks (vsEff vs) cos sin dos a3) s.dq }
  s

/-- What is left by the key and value gradients of a column block. -/
def finKvS (vs : Elt F .f32) (j : ℕ) (hj : j < 7) (s : State F) : State F :=
  let cos : Vec F S80x256 .f32 := rd (cos_r1 j hj) s.cos
  let sin : Vec F S80x256 .f32 := rd (sin_r1 j hj) s.sin
  let dka : Vec F S160x256 .f32 := rd (dka_r0 j hj) s.dka
  let s : State F := { s with dk := up (dk_r0 j hj) (payDk (vsEff vs) cos sin dka) s.dk }
  let dva : Vec F S160x256 .f32 := rd (dva_r0 j hj) s.dva
  let s : State F := { s with dv := up (dv_r0 j hj) (payDv dva) s.dv }
  s

/-- What is left by the copies of keys and values. -/
def init1S (vs : Elt F .f32) (s : State F) : State F :=
  let k7 : Vec F S1x160x1792 .fp8e4m3 := rd k_r0 s.k
  let s : State F := { s with kb := up kb_r1 (payKb k7) s.kb }
  let k13 : Vec F S1x160x1792 .fp8e4m3 := rd k_r0 s.k
  let s : State F := { s with kx := up kx_r1 (payKx k13) s.kx }
  let s : State F := { s with kx := up kx_r2 (payKx0) s.kx }
  let v22 : Vec F S1x160x1792 .fp8e4m3 := rd v_r0 s.v
  let s : State F := { s with vx := up vx_r1 (payVx vs v22) s.vx }
  let s : State F := { s with vx := up vx_r2 (payVx0) s.vx }
  s

/-- One head of a block. -/
def headS (t : grid0.Coords) (ks : Elt F .f32) (i : ℕ) (hi : i < 7) (j : ℕ) (hj : j < 7) (h : ℕ) (hh : h < 4) (s : State F) : State F :=
  match Nat.beq j 0 with
  | true => headSetS t ks (Nat.beq i j) i hi j hj h hh s
  | false => headAddS t ks (Nat.beq i j) i hi j hj h hh s

/-- The end of a block. -/
def tailS (i : ℕ) (hi : i < 7) (j : ℕ) (hj : j < 7) (s : State F) : State F :=
  match Nat.beq i j with
  | true => tailSetS i hi j hj s
  | false => tailAddS i hi j hj s

/-- The first heads of a block. -/
def headsS (t : grid0.Coords) (ks : Elt F .f32) (i : ℕ) (hi : i < 7) (j : ℕ) (hj : j < 7) : (n : ℕ) → n ≤ 4 → State F → State F
  | 0, _, s => s
  | n + 1, hn, s => headS t ks i hi j hj n hn (headsS t ks i hi j hj n (Nat.le_of_succ_le hn) s)

/-- The first blocks of a row. -/
def blocksS (t : grid0.Coords) (ks : Elt F .f32) (i : ℕ) (hi : i < 7) : (n : ℕ) → n ≤ 7 → State F → State F
  | 0, _, s => s
  | n + 1, hn, s => tailS i hi n hn (headsS t ks i hi n hn 4 le_rfl (blocksS t ks i hi n (Nat.le_of_succ_le hn) s))

/-- The first preparations of a row. -/
def prepsS (t : grid0.Coords) (inv : F .f32) (i : ℕ) (hi : i < 7) : (n : ℕ) → n ≤ 4 → State F → State F
  | 0, _, s => s
  | n + 1, hn, s => prepS t inv i hi n hn (prepsS t inv i hi n (Nat.le_of_succ_le hn) s)

/-- The first rows. -/
def rowsS (t : grid0.Coords) (ks vs : Elt F .f32) : (n : ℕ) → n ≤ 7 → State F → State F
  | 0, _, s => s
  | n + 1, hn, s => finDqS ks vs n hn (blocksS t ks n hn (n + 1) hn (prepsS t (invVs vs) n hn 4 le_rfl (rowsS t ks vs n (Nat.le_of_succ_le hn) s)))

/-- The first column finishes. -/
def colsS (vs : Elt F .f32) : (n : ℕ) → n ≤ 7 → State F → State F
  | 0, _, s => s
  | n + 1, hn, s => finKvS vs n hn (colsS vs n (Nat.le_of_succ_le hn) s)

/-- The whole body. -/
def bodyS (t : grid0.Coords) (s : State F) : State F :=
  let ks : Elt F .f32 := rd1 (Rect.unit (s := S6) (k0_off1 t) S1.size (k0_off1_inb t)) numel1_S1 s.ks
  let vs : Elt F .f32 := rd1 (Rect.unit (s := S6) (k0_off1 t) S1.size (k0_off1_inb t)) numel1_S1 s.vs
  colsS vs 7 le_rfl (rowsS t ks vs 7 le_rfl (init1S vs s))

end Cert.KernelIdeal.Body
-- ==== Proof.Body.Closed.lean ====
/- What the buffers of the body hold, each in closed form, from the inputs. -/
module

public import proofs.«01_k».proof.Proof.Body.Vecs
public import proofs.«01_k».proof.Proof.Body.Steps

@[expose] public section

set_option synthInstance.maxSize 4096

noncomputable section

namespace Cert.KernelIdeal.Body

open Idealize.ShloMosaic Idealize.SL.Sem Idealize.ShloMosaic.ValueIdx
open Cert.KernelIdeal Facts₀ Facts

variable {F : FTy → Type} [FloatOps F] [Named F]

/-- The inputs of one run of the body. -/
structure Inp (F : FTy → Type) where
  qs : Vec F S24 .f32
  ks : Vec F S6 .f32
  vs : Vec F S6 .f32
  q : Vec F S4x160x1792 .fp8e4m3
  k : Vec F S1x160x1792 .fp8e4m3
  v : Vec F S1x160x1792 .fp8e4m3
  g : Vec F S4x160x1792 .fp8e5m2
  o : Vec F S4x160x1792 .bf16
  lse : Vec F S1x4x1792 .f32
  dos : Vec F S1x1792 .f32
  cos : Vec F S80x1792 .f32
  sin : Vec F S80x1792 .f32

/-- The inputs among the buffers. -/
def inp (s : State F) : Inp F := ⟨s.qs, s.ks, s.vs, s.q, s.k, s.v, s.g, s.o, s.lse, s.dos, s.cos, s.sin⟩

variable (t : grid0.Coords) (I : Inp F)

/-- The scale of the keys. -/
def ksV : Elt F .f32 := rd1 (Rect.unit (s := S6) (k0_off1 t) S1.size (k0_off1_inb t)) numel1_S1 I.ks
/-- The scale of the values. -/
def vsV : Elt F .f32 := rd1 (Rect.unit (s := S6) (k0_off1 t) S1.size (k0_off1_inb t)) numel1_S1 I.vs
/-- The scale of a head of the queries. -/
def qsV (h : ℕ) (hh : h < 4) : Elt F .f32 :=
  rd1 (Rect.unit (s := S24) (k0_off2 t (BitVec.ofNat 32 h)) S1.size (k0_off2_inb t ⟨h, hh⟩)) numel1_S1 I.qs

/-- The keys. -/
def KB : Vec F S160x1792 .bf16 := payKb (rd k_r0 I.k)
/-- The keys, padded. -/
def KX : Vec F S256x1792 .fp8e4m3 := fun y =>
  if hy : (y 0 : ℕ) < 160 then payKx (rd k_r0 I.k) (ix2 ⟨y 0, hy⟩ (y 1)) else payKx0 (ix2 ⟨(y 0 : ℕ) - 160, by have := idx2_lt0 y; omega⟩ (y 1))
/-- The values, padded. -/
def VX : Vec F S256x1792 .bf16 := fun y =>
  if hy : (y 0 : ℕ) < 160 then payVx (vsV t I) (rd v_r0 I.v) (ix2 ⟨y 0, hy⟩ (y 1)) else payVx0 (ix2 ⟨(y 0 : ℕ) - 160, by have := idx2_lt0 y; omega⟩ (y 1))

/-- Two halves of a block of row tables. -/
def halves (a b : Vec F S1x128x128 .f32) : Vec F S1x256x128 .f32 := fun y =>
  if hy : (y 1 : ℕ) < 128 then a (ix3 0 ⟨y 1, hy⟩ (y 2)) else b (ix3 0 ⟨(y 1 : ℕ) - 128, by have := (y 1).isLt; change (y 1 : ℕ) < 256 at this; omega⟩ (y 2))

/-- A block of the queries. -/
def QX (i : ℕ) (hi : i < 7) (h : ℕ) (hh : h < 4) : Vec F S1x256x256 .fp8e4m3 := payQx (rd (q_r0 i hi h hh) I.q)
/-- A block of the output gradients. -/
def DOX (i : ℕ) (hi : i < 7) (h : ℕ) (hh : h < 4) : Vec F S1x256x256 .bf16 := payDox (rd (g_r0 i hi h hh) I.g)
/-- A block of the log-sum-exps. -/
def LSEX (i : ℕ) (hi : i < 7) (h : ℕ) (hh : h < 4) : Vec F S1x256x128 .f32 := halves (payLse0 (rd (lse_r0 i hi h hh) I.lse)) (payLse1 (rd (lse_r0 i hi h hh) I.lse))
/-- A block of the row sums. -/
def DELX (i : ℕ) (hi : i < 7) (h : ℕ) (hh : h < 4) : Vec F S1x256x128 .f32 :=
  halves (payDel0 (invVs (vsV t I)) (rd (g_r0 i hi h hh) I.g) (rd (o_r0 i hi h hh) I.o)) (payDel1 (invVs (vsV t I)) (rd (g_r0 i hi h hh) I.g) (rd (o_r0 i hi h hh) I.o))
/-- A block of the weighted output gradients. -/
def DOWB (i : ℕ) (hi : i < 7) (h : ℕ) (hh : h < 4) : Vec F S1x160x256 .bf16 := payDow (rd (dos_r0 i hi) I.dos) (rd (g_r0 i hi h hh) I.g)
/-- A block of the weighted queries. -/
def QWB (i : ℕ) (hi : i < 7) (h : ℕ) (hh : h < 4) : Vec F S1x160x256 .bf16 := payQw (rd (dos_r0 i hi) I.dos) (qsV t I h hh) (rd (q_r0 i hi h hh) I.q)

/-- Four heads side by side, along the last axis. -/
def lanes4 (w : (h : ℕ) → h < 4 → Vec F S1x160x256 .bf16) : Vec F S1x160x1024 .bf16 := fun y =>
  w ((y 2 : ℕ) / 256) (by have := (y 2).isLt; change (y 2 : ℕ) < 1024 at this; omega) (ix3 0 (y 1) ⟨(y 2 : ℕ) % 256, Nat.mod_lt _ (by norm_num)⟩)
/-- Four heads one below the other. -/
def rows4 (w : (h : ℕ) → h < 4 → Vec F S1x256x256 .bf16) : Vec F S1x1024x256 .bf16 := fun y =>
  w ((y 1 : ℕ) / 256) (by have := (y 1).isLt; change (y 1 : ℕ) < 1024 at this; omega) (ix3 0 ⟨(y 1 : ℕ) % 256, Nat.mod_lt _ (by norm_num)⟩ (y 2))

/-- The probabilities of a block. -/
def PR (i : ℕ) (hi : i < 7) (j : ℕ) (hj : j < 7) (h : ℕ) (hh : h < 4) : FVec F S256x256 .f32 :=
  probs (Nat.beq i j) (ksV t I) (qsV t I h hh) (QX I i hi h hh) (rd (kx_r0 j hj) (KX I)) (LSEX I i hi h hh)
/-- The score gradients of a block. -/
def DS (i : ℕ) (hi : i < 7) (j : ℕ) (hj : j < 7) (h : ℕ) (hh : h < 4) : FVec F S256x256 .bf16 :=
  payDs (PR t I i hi j hj h hh) (DOX I i hi h hh) (rd (vx_r0 j hj) (VX t I)) (DELX t I i hi h hh)

/-- The query gradient of a block after column block `j`. -/
def DQA (i : ℕ) (hi : i < 7) (h : ℕ) (hh : h < 4) : (j : ℕ) → j < 7 → Vec F S1x160x256 .f32
  | 0, hj => payDqSet (DS t I i hi 0 hj h hh) (rd (kb_r0 0 hj) (KB I))
  | j + 1, hj => payDqAdd (DS t I i hi (j + 1) hj h hh) (rd (kb_r0 (j + 1) hj) (KB I)) (DQA i hi h hh j (Nat.lt_of_succ_lt hj))

/-- What a block adds to the key gradient. -/
def DKC (i : ℕ) (hi : i < 7) (j : ℕ) (hj : j < 7) : FVec F S160x256 .f32 := payAcc (lanes4 (QWB t I i hi)) (rows4 fun h hh => payDsb (DS t I i hi j hj h hh))
/-- What a block adds to the value gradient. -/
def DVC (i : ℕ) (hi : i < 7) (j : ℕ) (hj : j < 7) : FVec F S160x256 .f32 := payAcc (lanes4 (DOWB I i hi)) (rows4 fun h hh => payPb (PR t I i hi j hj h hh))

/-- A sum down a column of blocks, from the diagonal. -/
def colSum (j : ℕ) (C : (i : ℕ) → i < 7 → FVec F S160x256 .f32) : (i : ℕ) → i < 7 → Vec F S160x256 .f32
  | 0, hi => paySet (C 0 hi)
  | i + 1, hi => if i + 1 ≤ j then paySet (C (i + 1) hi) else payAdd (colSum j C i (Nat.lt_of_succ_lt hi)) (C (i + 1) hi)

/-- The key gradient of a column block after row block `i`. -/
def DKA (j : ℕ) (hj : j < 7) (i : ℕ) (hi : i < 7) : Vec F S160x256 .f32 := colSum j (fun i hi => DKC t I i hi j hj) i hi
/-- The value gradient of a column block after row block `i`. -/
def DVA (j : ℕ) (hj : j < 7) (i : ℕ) (hi : i < 7) : Vec F S160x256 .f32 := colSum j (fun i hi => DVC t I i hi j hj) i hi

/-- A block of the query gradient. -/
def DQB (i : ℕ) (hi : i < 7) (h : ℕ) (hh : h < 4) : Vec F S1x160x256 .bf16 :=
  payDq (ksV t I) (vsEff (vsV t I)) (rd (cos_r0 i hi) I.cos) (rd (sin_r0 i hi) I.sin) (rd (dos_r0 i hi) I.dos) (DQA t I i hi h hh i hi)
/-- A block of the key gradient. -/
def DKB (j : ℕ) (hj : j < 7) : Vec F S1x160x256 .bf16 :=
  payDk (vsEff (vsV t I)) (rd (cos_r1 j hj) I.cos) (rd (sin_r1 j hj) I.sin) (DKA t I j hj 6 (by norm_num))
/-- A block of the value gradient. -/
def DVB (j : ℕ) (hj : j < 7) : Vec F S1x160x256 .bf16 := payDv (DVA t I j hj 6 (by norm_num))

/-- The query gradient. -/
def DQ : Vec F S4x160x1792 .bf16 := fun y =>
  DQB t I ((y 2 : ℕ) / 256) (by have := (y 2).isLt; change (y 2 : ℕ) < 1792 at this; omega) (y 0) (y 0).isLt (ix3 0 (y 1) ⟨(y 2 : ℕ) % 256, Nat.mod_lt _ (by norm_num)⟩)
/-- The key gradient. -/
def DK : Vec F S1x160x1792 .bf16 := fun y =>
  DKB t I ((y 2 : ℕ) / 256) (by have := (y 2).isLt; change (y 2 : ℕ) < 1792 at this; omega) (ix3 0 (y 1) ⟨(y 2 : ℕ) % 256, Nat.mod_lt _ (by norm_num)⟩)
/-- The value gradient. -/
def DV : Vec F S1x160x1792 .bf16 := fun y =>
  DVB t I ((y 2 : ℕ) / 256) (by have := (y 2).isLt; change (y 2 : ℕ) < 1792 at this; omega) (ix3 0 (y 1) ⟨(y 2 : ℕ) % 256, Nat.mod_lt _ (by norm_num)⟩)

end Cert.KernelIdeal.Body
-- ==== Proof.Math.Grad.lean ====
/- The gradients of one group of heads over the extended reals: as the kernel arranges them, as the reference writes
   them, and their equality. -/
module

public import Idealize.ShloMosaic.Lib.IdealHost

@[expose] public section

noncomputable section

namespace Cert.Grad

open Idealize.ShloMosaic

/-- Turning a column of a gradient back by the rotary angles. -/
def unrope (x : Fin 160 → EReal) (co si : Fin 80 → EReal) (d : Fin 160) : EReal :=
  if h : (d : ℕ) < 80 then x ⟨d, by omega⟩ * co ⟨d, h⟩ + x ⟨80 + d, by omega⟩ * si ⟨d, h⟩
  else x ⟨80 + ((d : ℕ) - 80), by omega⟩ * co ⟨(d : ℕ) - 80, by omega⟩ - x ⟨(d : ℕ) - 80, by omega⟩ * si ⟨(d : ℕ) - 80, by omega⟩

/-- The rotary angle of a position, feature by feature. -/
def angle (p : BitVec 32) (f : Fin 80) : EReal :=
  FloatOps.sitofp (F := Ideal) .f32 p * Ideal.div 1 (Ideal.pow (Ideal.ofBits .f32 0x461C4000#32)
    (Ideal.div (Ideal.ofBits .f32 0x40000000#32 * FloatOps.sitofp (F := Ideal) .f32 (BitVec.ofNat 32 f)) (Ideal.ofBits .f32 0x43200000#32)))

/-- The data of one group: four query heads and the key and value head they share. Features come before tokens. -/
structure Grp where
  q : Fin 4 → Fin 160 → Fin 1792 → EReal
  k : Fin 160 → Fin 1792 → EReal
  v : Fin 160 → Fin 1792 → EReal
  g : Fin 4 → Fin 160 → Fin 1792 → EReal
  o : Fin 4 → Fin 160 → Fin 1792 → EReal
  lse : Fin 4 → Fin 1792 → EReal
  dos : Fin 1792 → EReal
  qs : Fin 4 → EReal
  ks : EReal
  vs : EReal
  co : Fin 80 → Fin 1792 → EReal
  si : Fin 80 → Fin 1792 → EReal
  sm : EReal

/-- The base-two logarithm of `e`. -/
def lg2e : EReal := (((Real.log 2)⁻¹ : ℝ) : EReal)

variable (D : Grp)

namespace Grp

/-! ## The kernel's arrangement -/

/-- The scale of the values, one where it is zero. -/
def vsE : EReal := if D.vs = 0 then 1 else D.vs
/-- The probabilities, in base two. -/
def prK (h : Fin 4) (s j : Fin 1792) : EReal :=
  if (j : ℕ) ≤ s then Ideal.exp2 ((∑ d, D.q h d s * D.k d j) * (D.qs h * D.ks * (D.sm * lg2e)) - D.lse h s * lg2e) else 0
/-- The score gradients, short of the scales. -/
def dsK (h : Fin 4) (s j : Fin 1792) : EReal :=
  D.prK h s j * ((∑ d, D.g h d s * (if D.vs = 0 then 0 else D.v d j)) - (∑ d, D.g h d s * D.o h d s) * (D.vsE)⁻¹)
/-- The query gradient. -/
def dqK (h : Fin 4) (d : Fin 160) (s : Fin 1792) : EReal :=
  unrope (fun d => (∑ j, D.k d j * D.dsK h s j) * (D.dos s * (D.ks * D.sm * D.vsE))) (fun f => D.co f s) (fun f => D.si f s) d
/-- The key gradient. -/
def dkK (d : Fin 160) (j : Fin 1792) : EReal :=
  unrope (fun d => (∑ h, ∑ s, (D.q h d s * (D.dos s * D.qs h)) * D.dsK h s j) * (D.sm * D.vsE)) (fun f => D.co f j) (fun f => D.si f j) d
/-- The value gradient. -/
def dvK (d : Fin 160) (j : Fin 1792) : EReal := ∑ h, ∑ s, (D.g h d s * D.dos s) * D.prK h s j

/-! ## The reference's -/

/-- The probabilities. -/
def prR (h : Fin 4) (s j : Fin 1792) : EReal :=
  Ideal.exp ((if (j : ℕ) ≤ s then (∑ d, D.k d j * D.q h d s) * (D.qs h * D.ks * D.sm) else ⊥) - D.lse h s)
/-- The score gradients. -/
def dsR (h : Fin 4) (s j : Fin 1792) : EReal :=
  D.prR h s j * ((∑ d, D.v d j * D.g h d s) * (D.dos s * D.vs) - ∑ d, (D.g h d s * D.dos s) * D.o h d s)
/-- The query gradient. -/
def dqR (h : Fin 4) (d : Fin 160) (s : Fin 1792) : EReal :=
  unrope (fun d => (∑ j, D.k d j * D.dsR h s j) * (D.ks * D.sm)) (fun f => D.co f s) (fun f => D.si f s) d
/-- The key gradient. -/
def dkR (d : Fin 160) (j : Fin 1792) : EReal :=
  unrope (fun d => (∑ h, ∑ s, (D.q h d s * D.qs h) * D.dsR h s j) * D.sm) (fun f => D.co f j) (fun f => D.si f j) d
/-- The value gradient. -/
def dvR (d : Fin 160) (j : Fin 1792) : EReal := ∑ h, ∑ s, (D.g h d s * D.dos s) * D.prR h s j

end Grp

/-! ## Sums and scales -/

/-- A sum by blocks of 256. -/
theorem sum_blocks {N m : ℕ} (h : N = m * 256) (f : Fin N → EReal) :
    ∑ x, f x = ∑ i : Fin m, ∑ r : Fin 256, f ⟨256 * (i : ℕ) + r, by have := i.isLt; have := r.isLt; omega⟩ := by
  subst h
  rw [← finProdFinEquiv.sum_comp, Fintype.sum_prod_type]
  refine Finset.sum_congr rfl fun i _ => Finset.sum_congr rfl fun r _ => congrArg f (Fin.ext ?_)
  simp [finProdFinEquiv]; ring

/-- A finite nonnegative factor moves out of a sum. -/
theorem sum_mul {ι : Type*} (s : Finset ι) (f : ι → EReal) {R : EReal} (h0 : 0 ≤ R) (h1 : R ≠ ⊤) :
    ∑ x ∈ s, f x * R = (∑ x ∈ s, f x) * R := by
  classical
  induction s using Finset.induction_on with
  | empty => simp
  | insert a s ha ih => rw [Finset.sum_insert ha, Finset.sum_insert ha, ih, EReal.right_distrib_of_nonneg_of_ne_top h0 h1]

/-- And out of a difference. -/
theorem sub_mul {R : EReal} (h0 : 0 ≤ R) (h1 : R ≠ ⊤) (x y : EReal) : x * R - y * R = (x - y) * R := by
  rw [sub_eq_add_neg, sub_eq_add_neg, ← EReal.neg_mul, EReal.right_distrib_of_nonneg_of_ne_top h0 h1]

theorem log_two_pos : 0 < Real.log 2 := Real.log_pos (by norm_num)

theorem lg2e_nonneg : 0 ≤ lg2e := by
  unfold lg2e; exact_mod_cast (inv_nonneg.2 log_two_pos.le)
theorem lg2e_ne_top : lg2e ≠ ⊤ := EReal.coe_ne_top _

/-- A power of two of a scaled argument is an exponential. -/
theorem exp2_scaled (z : EReal) : Ideal.exp2 (z * lg2e) = Ideal.exp z := by
  have hL : 0 < (Real.log 2)⁻¹ := inv_pos.2 log_two_pos
  unfold lg2e
  induction z with
  | bot => rw [EReal.bot_mul_coe_of_pos hL]; rfl
  | top => rw [EReal.top_mul_coe_of_pos hL]; rfl
  | coe x =>
    rw [← EReal.coe_mul]
    show ((Real.rpow 2 (x * (Real.log 2)⁻¹) : ℝ) : EReal) = ((Real.exp x : ℝ) : EReal)
    congr 1
    show (2 : ℝ) ^ (x * (Real.log 2)⁻¹) = _
    rw [Real.rpow_def_of_pos (by norm_num)]
    congr 1
    field_simp

variable {D}

/-- The probabilities agree. -/
theorem prR_eq (h : Fin 4) (s j : Fin 1792) : D.prR h s j = D.prK h s j := by
  unfold Grp.prR Grp.prK
  split
  · rw [← exp2_scaled, ← sub_mul lg2e_nonneg lg2e_ne_top]
    simp only [mul_assoc, mul_comm (D.k _ _)]
  · rw [EReal.bot_sub]; rfl

/-- The scales are real and not negative. -/
structure Ok (D : Grp) : Prop where
  dos0 : ∀ s, 0 ≤ D.dos s
  dos1 : ∀ s, D.dos s ≠ ⊤
  vs0 : 0 ≤ D.vs
  vs1 : D.vs ≠ ⊤

theorem mul_ok {x y : EReal} (hx : 0 ≤ x ∧ x ≠ ⊤) (hy : 0 ≤ y ∧ y ≠ ⊤) : 0 ≤ x * y ∧ x * y ≠ ⊤ := by
  obtain ⟨hx0, hx1⟩ := hx
  obtain ⟨hy0, hy1⟩ := hy
  lift x to ℝ using ⟨hx1, fun h => by subst h; simp at hx0⟩
  lift y to ℝ using ⟨hy1, fun h => by subst h; simp at hy0⟩
  refine ⟨mul_nonneg hx0 hy0, ?_⟩
  rw [← EReal.coe_mul]; exact EReal.coe_ne_top _

theorem Ok.vsE (H : Ok D) : 0 ≤ D.vsE ∧ D.vsE ≠ ⊤ := by
  unfold Grp.vsE
  split
  · exact ⟨zero_le_one, EReal.coe_ne_top 1⟩
  · exact ⟨H.vs0, H.vs1⟩

theorem Ok.scale (H : Ok D) (s : Fin 1792) : 0 ≤ D.dos s * D.vsE ∧ D.dos s * D.vsE ≠ ⊤ := mul_ok ⟨H.dos0 s, H.dos1 s⟩ H.vsE

/-- The reference's score gradients are the kernel's, scaled. -/
theorem dsR_eq (H : Ok D) (h : Fin 4) (s j : Fin 1792) : D.dsR h s j = D.dsK h s j * (D.dos s * D.vsE) := by
  have e1 : ∑ d, (D.g h d s * D.dos s) * D.o h d s = (∑ d, D.g h d s * D.o h d s) * D.dos s := by
    rw [← sum_mul _ _ (H.dos0 s) (H.dos1 s)]
    exact Finset.sum_congr rfl fun d _ => mul_right_comm _ _ _
  unfold Grp.dsR Grp.dsK
  rw [e1, prR_eq, mul_assoc, ← sub_mul (H.scale s).1 (H.scale s).2]
  congr 2
  · unfold Grp.vsE
    split <;> rename_i h0
    · simp [h0]
    · simp only [mul_comm (D.v _ _)]
  · rw [mul_assoc]
    congr 1
    have hv := H.vsE
    have hv' : D.vsE ≠ 0 := by unfold Grp.vsE; split <;> simp [*]
    generalize D.vsE = w at hv hv'
    obtain ⟨hw0, hw1⟩ := hv
    lift w to ℝ using ⟨hw1, fun h => by subst h; simp at hw0⟩
    rw [mul_left_comm, ← EReal.coe_inv, ← EReal.coe_mul, inv_mul_cancel₀ (by exact_mod_cast hv'), EReal.coe_one, mul_one]

/-- The query gradients agree. -/
theorem dqR_eq (H : Ok D) (h : Fin 4) (d : Fin 160) (s : Fin 1792) : D.dqR h d s = D.dqK h d s := by
  unfold Grp.dqR Grp.dqK
  refine congrArg (fun f => unrope f _ _ d) (funext fun d => ?_)
  have e : ∑ j, D.k d j * D.dsR h s j = (∑ j, D.k d j * D.dsK h s j) * (D.dos s * D.vsE) := by
    rw [← sum_mul _ _ (H.scale s).1 (H.scale s).2]
    exact Finset.sum_congr rfl fun j _ => by rw [dsR_eq H, mul_assoc]
  rw [e, mul_assoc]
  congr 1
  rw [mul_assoc, mul_comm D.vsE]

/-- The key gradients agree. -/
theorem dkR_eq (H : Ok D) (d : Fin 160) (j : Fin 1792) : D.dkR d j = D.dkK d j := by
  unfold Grp.dkR Grp.dkK
  refine congrArg (fun f => unrope f _ _ d) (funext fun d => ?_)
  have e : ∑ h, ∑ s, (D.q h d s * D.qs h) * D.dsR h s j
      = (∑ h, ∑ s, (D.q h d s * (D.dos s * D.qs h)) * D.dsK h s j) * D.vsE := by
    rw [← sum_mul _ _ H.vsE.1 H.vsE.2]
    refine Finset.sum_congr rfl fun h _ => ?_
    rw [← sum_mul _ _ H.vsE.1 H.vsE.2]
    refine Finset.sum_congr rfl fun s _ => ?_
    rw [dsR_eq H]
    ac_rfl
  rw [e, mul_assoc, mul_comm D.vsE]

/-- The value gradients agree. -/
theorem dvR_eq (d : Fin 160) (j : Fin 1792) : D.dvR d j = D.dvK d j := by
  unfold Grp.dvR Grp.dvK
  simp only [prR_eq]

end Cert.Grad
-- ==== Proof.Body.PayAt.lean ====
/- The values the body stores, read at an index over the reals. -/
module

public import proofs.«01_k».proof.Proof.Body.Payloads
public import proofs.«01_k».proof.Proof.Math.Grad
public import Idealize.ShloMosaic.Lib.Pointwise
public import Idealize.ShloMosaic.Lib.IdealHost

@[expose] public section

set_option synthInstance.maxSize 4096
set_option maxRecDepth 16384

noncomputable section

namespace Cert.KernelIdeal.Body

open Idealize.ShloMosaic Idealize.SL.Sem
open Cert.KernelIdeal Facts₀ Facts
open Cert.Grad

/-- Base-two logarithm of `e`. -/
abbrev L2 : Elt Ideal .f32 := Named.named (F := Ideal) (φ := .f32) κ "log2e" 0x3FB8AA3B#32
/-- The softmax scale in base two. -/
abbrev SML : Elt Ideal .f32 := Named.named (F := Ideal) (φ := .f32) κ "sm_log2e" 0x3DE995B3#32
/-- The softmax scale. -/
abbrev SM : Elt Ideal .f32 := Scalar.ofBits (F := Ideal) .f32 0x3DA1E89B#32

theorem payKb_at (w : Vec Ideal S1x160x1792 .fp8e4m3) (d : Fin 160) (j : Fin 1792) : payKb w (ix2 d j) = w (ix3 0 d j) := by
  pointwise [payKb]
theorem payKx_at (w : Vec Ideal S1x160x1792 .fp8e4m3) (d : Fin 160) (j : Fin 1792) : payKx w (ix2 d j) = w (ix3 0 d j) := by
  pointwise [payKx]
theorem payKx0_at (d : Fin 96) (j : Fin 1792) : payKx0 (F := Ideal) (ix2 d j) = (0 : EReal) := by
  pointwise [payKx0]
  exact Ideal.ofBits_zero _
theorem payVx_at (vs : EReal) (w : Vec Ideal S1x160x1792 .fp8e4m3) (d : Fin 160) (j : Fin 1792) :
    payVx (F := Ideal) vs w (ix2 d j) = if vs = 0 then (0 : EReal) else w (ix3 0 d j) := by
  pointwise [payVx]
  split <;> pointwise []
theorem payVx0_at (d : Fin 96) (j : Fin 1792) : payVx0 (F := Ideal) (ix2 d j) = (0 : EReal) := by
  pointwise [payVx0]
theorem payDox_at (w : Vec Ideal S1x160x256 .fp8e5m2) (r : Fin 256) (d : Fin 256) :
    payDox w (ix3 0 r d) = if h : (d : ℕ) < 160 then w (ix3 0 ⟨d, h⟩ r) else (0 : EReal) := by
  pointwise [payDox]
theorem payQx_at (w : Vec Ideal S1x160x256 .fp8e4m3) (r : Fin 256) (d : Fin 256) :
    payQx w (ix3 0 r d) = if h : (d : ℕ) < 160 then w (ix3 0 ⟨d, h⟩ r) else (0 : EReal) := by
  pointwise [payQx]
theorem payDow_at (s : Vec Ideal S1x256 .f32) (w : Vec Ideal S1x160x256 .fp8e5m2) (d : Fin 160) (r : Fin 256) :
    payDow s w (ix3 0 d r) = (w (ix3 0 d r) * s (ix2 0 r) : EReal) := by
  pointwise [payDow]
theorem payQw_at (s : Vec Ideal S1x256 .f32) (qs : EReal) (w : Vec Ideal S1x160x256 .fp8e4m3) (d : Fin 160) (r : Fin 256) :
    payQw (F := Ideal) s qs w (ix3 0 d r) = (w (ix3 0 d r) * (s (ix2 0 r) * qs) : EReal) := by
  pointwise [payQw]
theorem payLse0_at (w : Vec Ideal S1x1x256 .f32) (r : Fin 128) (l : Fin 128) :
    payLse0 w (ix3 0 r l) = (w (ix3 0 0 ⟨r, by omega⟩) * L2 : EReal) := by
  pointwise [payLse0]
theorem payLse1_at (w : Vec Ideal S1x1x256 .f32) (r : Fin 128) (l : Fin 128) :
    payLse1 w (ix3 0 r l) = (w (ix3 0 0 ⟨128 + r, by omega⟩) * L2 : EReal) := by
  pointwise [payLse1]
theorem payMask_at (p : FVec Ideal S256x256 .f32) (r c : Fin 256) :
    payMask p (ix2 r c) = if (c : ℕ) ≤ r then p (ix2 r c) else (0 : EReal) := by
  pointwise [payMask]
  have hr : (r : ℕ) < 256 := r.isLt
  have hc : (c : ℕ) < 256 := c.isLt
  have hi : ∀ x : ℕ, x < 256 → (BitVec.ofNat 32 x).toInt = x := fun x hx => by
    rw [BitVec.toInt_ofNat']; exact Int.bmod_eq_of_le (by omega) (by omega)
  by_cases h : (c : ℕ) ≤ r
  · rw [if_pos h]
    have : IntOp.cmpi .sle (BitVec.ofNat 32 (c : ℕ)) (BitVec.ofNat 32 (r : ℕ)) = 1#1 := by
      simp [IntOp.cmpi, BitVec.sle, hi _ hr, hi _ hc, h]
    rw [this]; rfl
  · rw [if_neg h]
    have : IntOp.cmpi .sle (BitVec.ofNat 32 (c : ℕ)) (BitVec.ofNat 32 (r : ℕ)) = 0#1 := by
      simp [IntOp.cmpi, BitVec.sle, hi _ hr, hi _ hc]
      rw [decide_eq_false (show ¬ c ≤ r from h)]; rfl
    rw [this]; rfl
theorem half_eq {e : Fin 128 → EReal} (c : Fin 256) :
    (if h : (c : ℕ) < 128 then e ⟨c, h⟩ else e ⟨(c : ℕ) - 128, by omega⟩) = e ⟨(c : ℕ) % 128, Nat.mod_lt _ (by norm_num)⟩ := by
  split
  · congr 1; exact Fin.ext (Nat.mod_eq_of_lt (by assumption)).symm
  · congr 1; apply Fin.ext; show (c : ℕ) - 128 = (c : ℕ) % 128; omega

theorem payExp_at (ks qs : EReal) (q : Vec Ideal S1x256x256 .fp8e4m3) (k : Vec Ideal S256x256 .fp8e4m3) (e : Vec Ideal S1x256x128 .f32) (r c : Fin 256) :
    payExp (F := Ideal) ks qs q k e (ix2 r c) = FloatOps.exp2 (F := Ideal) (φ := .f32)
      ((∑ d : Fin 256, (q (ix3 0 r d) * k (ix2 d c) : EReal)) * (qs * ks * SML) - e (ix3 0 r ⟨(c : ℕ) % 128, Nat.mod_lt _ (by norm_num)⟩) : EReal) := by
  pointwise [payExp]
  rw [half_eq (e := fun x => e (ix3 0 r x))]
theorem payDs_at (p : FVec Ideal S256x256 .f32) (g : Vec Ideal S1x256x256 .bf16) (v : Vec Ideal S256x256 .bf16) (e : Vec Ideal S1x256x128 .f32) (r c : Fin 256) :
    payDs p g v e (ix2 r c) = (p (ix2 r c) * ((∑ d : Fin 256, (g (ix3 0 r d) * v (ix2 d c) : EReal)) - e (ix3 0 r ⟨(c : ℕ) % 128, Nat.mod_lt _ (by norm_num)⟩)) : EReal) := by
  pointwise [payDs]
  rw [half_eq (e := fun x => e (ix3 0 r x))]
theorem payPb_at (p : FVec Ideal S256x256 .f32) (r c : Fin 256) : payPb p (ix3 0 r c) = p (ix2 r c) := by
  pointwise [payPb]
theorem payDsb_at (p : FVec Ideal S256x256 .bf16) (r c : Fin 256) : payDsb p (ix3 0 r c) = p (ix2 r c) := by
  pointwise [payDsb]
theorem payDqSet_at (ds : FVec Ideal S256x256 .bf16) (k : Vec Ideal S160x256 .bf16) (d : Fin 160) (r : Fin 256) :
    payDqSet ds k (ix3 0 d r) = ∑ c : Fin 256, (k (ix2 d c) * ds (ix2 r c) : EReal) := by
  pointwise [payDqSet]
theorem payDqAdd_at (ds : FVec Ideal S256x256 .bf16) (k : Vec Ideal S160x256 .bf16) (a : Vec Ideal S1x160x256 .f32) (d : Fin 160) (r : Fin 256) :
    payDqAdd ds k a (ix3 0 d r) = (a (ix3 0 d r) + ∑ c : Fin 256, (k (ix2 d c) * ds (ix2 r c) : EReal) : EReal) := by
  pointwise [payDqAdd]
theorem payAcc_at (a : Vec Ideal S1x160x1024 .bf16) (b : Vec Ideal S1x1024x256 .bf16) (d : Fin 160) (c : Fin 256) :
    payAcc a b (ix2 d c) = ∑ x : Fin 1024, (a (ix3 0 d x) * b (ix3 0 x c) : EReal) := by
  pointwise [payAcc]
theorem paySet_at (a : FVec Ideal S160x256 .f32) (d : Fin 160) (c : Fin 256) : paySet a (ix2 d c) = a (ix2 d c) := by
  pointwise [paySet]
theorem payAdd_at (a b : FVec Ideal S160x256 .f32) (d : Fin 160) (c : Fin 256) : payAdd a b (ix2 d c) = (a (ix2 d c) + b (ix2 d c) : EReal) := by
  pointwise [payAdd]
theorem payDv_at (a : Vec Ideal S160x256 .f32) (d : Fin 160) (c : Fin 256) : payDv a (ix3 0 d c) = a (ix2 d c) := by
  pointwise [payDv]

/-- A row sum as twenty strips of eight. -/
theorem strips (f : Fin 160 → EReal) : (∑ a : Fin 8, ∑ b : Fin 20, f ⟨(b : ℕ) * 8 + a, by omega⟩) = ∑ d, f d := by
  rw [Finset.sum_comm, ← Finset.sum_product']
  refine Finset.sum_bij (fun x _ => ⟨(x.1 : ℕ) * 8 + x.2, by omega⟩) (fun _ _ => Finset.mem_univ _) ?_ ?_ (fun _ _ => rfl)
  · rintro ⟨a, b⟩ _ ⟨a', b'⟩ _ h
    have h : (a : ℕ) * 8 + b = a' * 8 + b' := congrArg Fin.val h
    obtain ⟨h1, h2⟩ : (a : ℕ) = a' ∧ (b : ℕ) = b' := by omega
    exact Prod.ext (Fin.ext h1) (Fin.ext h2)
  · intro d _
    exact ⟨(⟨(d : ℕ) / 8, by omega⟩, ⟨(d : ℕ) % 8, by omega⟩), Finset.mem_univ _, Fin.ext (by simp; omega)⟩

theorem payDel0_at (inv : EReal) (g : Vec Ideal S1x160x256 .fp8e5m2) (o : Vec Ideal S1x160x256 .bf16) (r l : Fin 128) :
    payDel0 (F := Ideal) inv g o (ix3 0 r l) = ((∑ d : Fin 160, (g (ix3 0 d ⟨r, by omega⟩) * o (ix3 0 d ⟨r, by omega⟩) : EReal)) * inv : EReal) := by
  rw [← strips]
  pointwise [payDel0]
  refine congrArg (· * inv) (Finset.sum_congr rfl fun x _ => ?_)
  simp only [Fin.sum_univ_castSucc, Fin.sum_univ_zero, zero_add, Fin.val_castSucc, Fin.val_last, Nat.reduceMul, Nat.zero_mul, Nat.one_mul]
theorem payDel1_at (inv : EReal) (g : Vec Ideal S1x160x256 .fp8e5m2) (o : Vec Ideal S1x160x256 .bf16) (r l : Fin 128) :
    payDel1 (F := Ideal) inv g o (ix3 0 r l) = ((∑ d : Fin 160, (g (ix3 0 d ⟨128 + r, by omega⟩) * o (ix3 0 d ⟨128 + r, by omega⟩) : EReal)) * inv : EReal) := by
  rw [← strips]
  pointwise [payDel1]
  refine congrArg (· * inv) (Finset.sum_congr rfl fun x _ => ?_)
  simp only [Fin.sum_univ_castSucc, Fin.sum_univ_zero, zero_add, Fin.val_castSucc, Fin.val_last, Nat.reduceMul, Nat.zero_mul, Nat.one_mul]
theorem vsEff_eq (vs : EReal) : vsEff (F := Ideal) vs = if vs = 0 then (1 : EReal) else vs := by
  pointwise [vsEff]
theorem invVs_eq (vs : EReal) : invVs (F := Ideal) vs = (if vs = 0 then (1 : EReal) else vs)⁻¹ := by
  pointwise [invVs]
  have h : (if vs = 0 then (1 : EReal) else vs) ≠ 0 := by split <;> simp [*]
  rw [Ideal.div, if_neg h, one_mul]

theorem payDq_at (ks vs : EReal) (co si : Vec Ideal S80x256 .f32) (s : Vec Ideal S1x256 .f32) (a : Vec Ideal S1x160x256 .f32) (d : Fin 160) (r : Fin 256) :
    payDq (F := Ideal) ks vs co si s a (ix3 0 d r) = unrope (fun d => a (ix3 0 d r) * (s (ix2 0 r) * (ks * SM * vs)))
      (fun d => co (ix2 d r)) (fun d => si (ix2 d r)) d := by
  pointwise [payDq, unrope]
theorem payDk_at (vs : EReal) (co si : Vec Ideal S80x256 .f32) (a : Vec Ideal S160x256 .f32) (d : Fin 160) (r : Fin 256) :
    payDk (F := Ideal) vs co si a (ix3 0 d r) = unrope (fun d => a (ix2 d r) * (SM * vs))
      (fun d => co (ix2 d r)) (fun d => si (ix2 d r)) d := by
  pointwise [payDk, unrope]

end Cert.KernelIdeal.Body
-- ==== Proof.Body.Reads.lean ====
/- The inputs of the body, read through its rectangles at an index over the reals. -/
module

public import proofs.«01_k».proof.Proof.Body.Closed
public import proofs.«01_k».proof.Proof.Body.PayAt
public import proofs.«01_k».proof.Proof.Math.Grad
public import Idealize.ShloMosaic.Lib.Pointwise

@[expose] public section

set_option synthInstance.maxSize 4096
set_option maxRecDepth 16384

noncomputable section

namespace Cert.KernelIdeal.Body

open Idealize.ShloMosaic Idealize.SL.Sem
open Cert.KernelIdeal Facts₀ Facts
open Cert.Grad

variable (t : grid0.Coords) (I : Inp Ideal)

/-- A token, from its block. -/
abbrev tok (i : ℕ) (hi : i < 7) (r : Fin 256) : Fin 1792 := ⟨256 * i + r, by omega⟩

/-- The data of one group, from the inputs of the body. -/
def grpI : Grp where
  q h d s := I.q (ix3 h d s)
  k d j := I.k (ix3 0 d j)
  v d j := I.v (ix3 0 d j)
  g h d s := I.g (ix3 h d s)
  o h d s := I.o (ix3 h d s)
  lse h s := I.lse (ix3 0 h s)
  dos s := I.dos (ix2 0 s)
  qs h := qsV t I h h.isLt
  ks := ksV t I
  vs := vsV t I
  co f s := I.cos (ix2 f s)
  si f s := I.sin (ix2 f s)
  sm := SM

theorem rd_q (i : ℕ) (hi : i < 7) (h : ℕ) (hh : h < 4) (d : Fin 160) (r : Fin 256) :
    rd (q_r0 i hi h hh) I.q (ix3 0 d r) = I.q (ix3 ⟨h, hh⟩ d (tok i hi r)) :=
  congrArg I.q (ext3 (by simp) (by simp) (by simp))
theorem rd_g (i : ℕ) (hi : i < 7) (h : ℕ) (hh : h < 4) (d : Fin 160) (r : Fin 256) :
    rd (g_r0 i hi h hh) I.g (ix3 0 d r) = I.g (ix3 ⟨h, hh⟩ d (tok i hi r)) :=
  congrArg I.g (ext3 (by simp) (by simp) (by simp))
theorem rd_o (i : ℕ) (hi : i < 7) (h : ℕ) (hh : h < 4) (d : Fin 160) (r : Fin 256) :
    rd (o_r0 i hi h hh) I.o (ix3 0 d r) = I.o (ix3 ⟨h, hh⟩ d (tok i hi r)) :=
  congrArg I.o (ext3 (by simp) (by simp) (by simp))
theorem rd_lse (i : ℕ) (hi : i < 7) (h : ℕ) (hh : h < 4) (r : Fin 256) :
    rd (lse_r0 i hi h hh) I.lse (ix3 0 0 r) = I.lse (ix3 0 ⟨h, hh⟩ (tok i hi r)) :=
  congrArg I.lse (ext3 (by simp) (by simp) (by simp))
theorem rd_dos (i : ℕ) (hi : i < 7) (r : Fin 256) : rd (dos_r0 i hi) I.dos (ix2 0 r) = I.dos (ix2 0 (tok i hi r)) :=
  congrArg I.dos (ext2 (by simp) (by simp))
theorem rd_k (d : Fin 160) (j : Fin 1792) : rd k_r0 I.k (ix3 0 d j) = I.k (ix3 0 d j) :=
  congrArg I.k (ext3 (by simp) (by simp) (by simp))
theorem rd_v (d : Fin 160) (j : Fin 1792) : rd v_r0 I.v (ix3 0 d j) = I.v (ix3 0 d j) :=
  congrArg I.v (ext3 (by simp) (by simp) (by simp))
theorem rd_cos0 (i : ℕ) (hi : i < 7) (f : Fin 80) (r : Fin 256) : rd (cos_r0 i hi) I.cos (ix2 f r) = I.cos (ix2 f (tok i hi r)) :=
  congrArg I.cos (ext2 (by simp) (by simp))
theorem rd_sin0 (i : ℕ) (hi : i < 7) (f : Fin 80) (r : Fin 256) : rd (sin_r0 i hi) I.sin (ix2 f r) = I.sin (ix2 f (tok i hi r)) :=
  congrArg I.sin (ext2 (by simp) (by simp))
theorem rd_cos1 (i : ℕ) (hi : i < 7) (f : Fin 80) (r : Fin 256) : rd (cos_r1 i hi) I.cos (ix2 f r) = I.cos (ix2 f (tok i hi r)) :=
  congrArg I.cos (ext2 (by simp) (by simp))
theorem rd_sin1 (i : ℕ) (hi : i < 7) (f : Fin 80) (r : Fin 256) : rd (sin_r1 i hi) I.sin (ix2 f r) = I.sin (ix2 f (tok i hi r)) :=
  congrArg I.sin (ext2 (by simp) (by simp))
theorem rd_kx {e : EltTy} (v : Vec Ideal S256x1792 e) (j : ℕ) (hj : j < 7) (x c : Fin 256) : rd (kx_r0 j hj) v (ix2 x c) = v (ix2 x (tok j hj c)) :=
  congrArg v (ext2 (by simp) (by simp))
theorem rd_vx {e : EltTy} (v : Vec Ideal S256x1792 e) (j : ℕ) (hj : j < 7) (x c : Fin 256) : rd (vx_r0 j hj) v (ix2 x c) = v (ix2 x (tok j hj c)) :=
  congrArg v (ext2 (by simp) (by simp))
theorem rd_kb {e : EltTy} (v : Vec Ideal S160x1792 e) (j : ℕ) (hj : j < 7) (d : Fin 160) (c : Fin 256) : rd (kb_r0 j hj) v (ix2 d c) = v (ix2 d (tok j hj c)) :=
  congrArg v (ext2 (by simp) (by simp))

/-- The keys. -/
theorem KB_at (d : Fin 160) (j : Fin 1792) : KB I (ix2 d j) = (grpI t I).k d j := by
  unfold KB; rw [payKb_at, rd_k]; rfl

/-- The padded keys. -/
theorem KX_at (x : Fin 256) (j : Fin 1792) : KX I (ix2 x j) = if h : (x : ℕ) < 160 then (grpI t I).k ⟨x, h⟩ j else (0 : EReal) := by
  show (if hy : (x : ℕ) < 160 then payKx (rd k_r0 I.k) (ValueIdx.ix2 ⟨x, hy⟩ j) else payKx0 (F := Ideal) (ValueIdx.ix2 ⟨(x : ℕ) - 160, by omega⟩ j)) = _
  simp only [← ix2_eq_valueIdx, payKx_at, payKx0_at, rd_k]
  rfl

/-- The padded values. -/
theorem VX_at (x : Fin 256) (j : Fin 1792) :
    VX t I (ix2 x j) = if h : (x : ℕ) < 160 then (if (grpI t I).vs = 0 then (0 : EReal) else (grpI t I).v ⟨x, h⟩ j) else (0 : EReal) := by
  show (if hy : (x : ℕ) < 160 then payVx (F := Ideal) (vsV t I) (rd v_r0 I.v) (ValueIdx.ix2 ⟨x, hy⟩ j) else payVx0 (F := Ideal) (ValueIdx.ix2 ⟨(x : ℕ) - 160, by omega⟩ j)) = _
  simp only [← ix2_eq_valueIdx, payVx_at, payVx0_at, rd_v]
  rfl

/-- The log-sum-exps of a block. -/
theorem LSEX_at (i : ℕ) (hi : i < 7) (h : ℕ) (hh : h < 4) (r : Fin 256) (l : Fin 128) :
    LSEX I i hi h hh (ix3 0 r l) = ((grpI t I).lse ⟨h, hh⟩ (tok i hi r) * L2 : EReal) := by
  show (if hy : (r : ℕ) < 128 then payLse0 (rd (lse_r0 i hi h hh) I.lse) (ValueIdx.ix3 0 ⟨r, hy⟩ l)
    else payLse1 (rd (lse_r0 i hi h hh) I.lse) (ValueIdx.ix3 0 ⟨(r : ℕ) - 128, by omega⟩ l)) = _
  simp only [← ix3_eq_valueIdx, payLse0_at, payLse1_at, rd_lse]
  split
  · rfl
  · have : tok i hi ⟨128 + ((r : ℕ) - 128), by omega⟩ = tok i hi r := Fin.ext (by simp; omega)
    rw [this]; rfl

/-- The row sums of a block. -/
theorem DELX_at (i : ℕ) (hi : i < 7) (h : ℕ) (hh : h < 4) (r : Fin 256) (l : Fin 128) :
    DELX t I i hi h hh (ix3 0 r l)
      = ((∑ d, (grpI t I).g ⟨h, hh⟩ d (tok i hi r) * (grpI t I).o ⟨h, hh⟩ d (tok i hi r)) * ((grpI t I).vsE)⁻¹ : EReal) := by
  show (if hy : (r : ℕ) < 128 then payDel0 (F := Ideal) (invVs (vsV t I)) (rd (g_r0 i hi h hh) I.g) (rd (o_r0 i hi h hh) I.o) (ValueIdx.ix3 0 ⟨r, hy⟩ l)
    else payDel1 (F := Ideal) (invVs (vsV t I)) (rd (g_r0 i hi h hh) I.g) (rd (o_r0 i hi h hh) I.o) (ValueIdx.ix3 0 ⟨(r : ℕ) - 128, by omega⟩ l)) = _
  simp only [← ix3_eq_valueIdx, payDel0_at, payDel1_at, rd_g, rd_o, invVs_eq]
  split
  · rfl
  · have : tok i hi ⟨128 + ((r : ℕ) - 128), by omega⟩ = tok i hi r := Fin.ext (by simp; omega)
    rw [this]; rfl

/-- A sum over padded features. -/
theorem sum_pad (f : Fin 256 → EReal) (g : Fin 160 → EReal) (h : ∀ d : Fin 160, f ⟨d, by omega⟩ = g d)
    (h0 : ∀ d : Fin 256, ¬ (d : ℕ) < 160 → f d = 0) : ∑ d, f d = ∑ d, g d := by
  have e := Fin.sum_univ_add (a := 160) (b := 96) f
  rw [e, Finset.sum_eq_zero (s := Finset.univ) (f := fun i : Fin 96 => f (Fin.natAdd 160 i)), add_zero]
  · exact Finset.sum_congr rfl fun d _ => h d
  · intro d _
    exact h0 _ (by simp)

/-- The scale of the logarithms. -/
theorem L2_eq : (L2 : EReal) = lg2e := IdealRules.named_const.ideal_named_scalar _ _ _ _ rfl
/-- The softmax scale, as a real number. -/
theorem SM_eq : (SM : EReal) = ((10610843 / 134217728 : ℝ) : EReal) := by
  show Ideal.ofBits .f32 0x3DA1E89B#32 = _
  simp [Ideal.ofBits, Ideal.ieee, -EReal.coe_mul]; norm_num
/-- The softmax scale in base two. -/
theorem SML_eq : (SML : EReal) = SM * lg2e := by
  rw [SM_eq]
  unfold lg2e
  rw [← EReal.coe_mul]
  exact IdealRules.named_const.ideal_named_scalar _ _ _ _ rfl

end Cert.KernelIdeal.Body
-- ==== Proof.Body.Vals.lean ====
/- The buffers of the body in terms of the gradients of the group, over the reals. -/
module

public import proofs.«01_k».proof.Proof.Body.Reads

@[expose] public section

set_option synthInstance.maxSize 4096
set_option maxRecDepth 16384

noncomputable section

namespace Cert.KernelIdeal.Body

open Idealize.ShloMosaic Idealize.SL.Sem
open Cert.KernelIdeal Facts₀ Facts
open Cert.Grad

variable (t : grid0.Coords) (I : Inp Ideal)

/-- The probabilities of a block on or below the diagonal. -/
theorem PR_at (i : ℕ) (hi : i < 7) (j : ℕ) (hj : j < 7) (h : ℕ) (hh : h < 4) (hji : j ≤ i) (r c : Fin 256) :
    PR t I i hi j hj h hh (ix2 r c) = (grpI t I).prK ⟨h, hh⟩ (tok i hi r) (tok j hj c) := by
  have e : payExp (F := Ideal) (ksV t I) (qsV t I h hh) (QX I i hi h hh) (rd (kx_r0 j hj) (KX I)) (LSEX I i hi h hh) (ix2 r c)
      = Ideal.exp2 ((∑ d, (grpI t I).q ⟨h, hh⟩ d (tok i hi r) * (grpI t I).k d (tok j hj c)) * ((grpI t I).qs ⟨h, hh⟩ * (grpI t I).ks * ((grpI t I).sm * lg2e))
        - (grpI t I).lse ⟨h, hh⟩ (tok i hi r) * lg2e) := by
    rw [payExp_at, LSEX_at t, L2_eq, SML_eq]
    refine congrArg (fun x : EReal => Ideal.exp2 (x * _ - _)) ?_
    refine sum_pad _ _ (fun d => ?_) (fun d hd => ?_)
    · rw [rd_kx, KX_at t]
      unfold QX
      rw [payQx_at, dif_pos d.isLt, dif_pos d.isLt, rd_q]
      rfl
    · rw [rd_kx, KX_at t]
      unfold QX
      rw [payQx_at, dif_neg hd, dif_neg hd, mul_zero]
  unfold PR probs Grp.prK
  rcases Nat.eq_or_lt_of_le hji with rfl | hlt
  · rw [show Nat.beq j j = true from Nat.beq_refl j, cond_true, payMask_at, e]
    by_cases hc : (c : ℕ) ≤ r
    · rw [if_pos hc, if_pos (show 256 * j + (c : ℕ) ≤ 256 * j + r by omega)]
    · rw [if_neg hc, if_neg (show ¬ 256 * j + (c : ℕ) ≤ 256 * j + r by omega)]
  · rw [show Nat.beq i j = false from by rw [Bool.eq_false_iff]; intro hb; have := Nat.eq_of_beq_eq_true hb; omega, cond_false, e,
      if_pos (show 256 * j + (c : ℕ) ≤ 256 * i + r by omega)]

/-- The score gradients of a block on or below the diagonal. -/
theorem DS_at (i : ℕ) (hi : i < 7) (j : ℕ) (hj : j < 7) (h : ℕ) (hh : h < 4) (hji : j ≤ i) (r c : Fin 256) :
    DS t I i hi j hj h hh (ix2 r c) = (grpI t I).dsK ⟨h, hh⟩ (tok i hi r) (tok j hj c) := by
  unfold DS Grp.dsK
  rw [payDs_at, PR_at t I i hi j hj h hh hji, DELX_at]
  suffices hs : (∑ d : Fin 256, DOX I i hi h hh (ix3 0 r d) * rd (vx_r0 j hj) (VX t I) (ix2 d c) : EReal)
      = ∑ d, (grpI t I).g ⟨h, hh⟩ d (tok i hi r) * (if (grpI t I).vs = 0 then (0 : EReal) else (grpI t I).v d (tok j hj c)) by rw [hs]
  refine sum_pad _ _ (fun d => ?_) (fun d hd => ?_)
  · rw [rd_vx, VX_at]
    unfold DOX
    rw [payDox_at, dif_pos d.isLt, dif_pos d.isLt, rd_g]
    rfl
  · rw [rd_vx, VX_at]
    unfold DOX
    rw [payDox_at, dif_neg hd, dif_neg hd, mul_zero]

/-- What a block of tokens adds to a sum. -/
def blk (f : Fin 1792 → EReal) (b : ℕ) : EReal := if hb : b < 7 then ∑ c : Fin 256, f (tok b hb c) else 0

theorem blk_of_lt (f : Fin 1792 → EReal) {b : ℕ} (hb : b < 7) : blk f b = ∑ c : Fin 256, f (tok b hb c) := dif_pos hb

/-- The blocks together. -/
theorem sum_blk (f : Fin 1792 → EReal) : ∑ b ∈ Finset.range 7, blk f b = ∑ x, f x := by
  rw [sum_blocks (m := 7) rfl f, Finset.sum_range]
  exact Finset.sum_congr rfl fun b _ => blk_of_lt f b.isLt

/-- The blocks up to the last that counts. -/
theorem sum_blk_prefix (f : Fin 1792 → EReal) (i : ℕ) (hi : i < 7) (h0 : ∀ b (hb : b < 7) c, i < b → f (tok b hb c) = 0) :
    ∑ b ∈ Finset.range (i + 1), blk f b = ∑ x, f x := by
  rw [← sum_blk]
  refine Finset.sum_subset (Finset.range_subset_range.2 (by omega)) fun b hb hb' => ?_
  have hb := Finset.mem_range.1 hb
  have hb' : ¬ b < i + 1 := fun h => hb' (Finset.mem_range.2 h)
  rw [blk_of_lt f hb]
  exact Finset.sum_eq_zero fun c _ => h0 b hb c (by omega)

/-- Above the diagonal there is no probability, -/
theorem prK_zero (D : Grp) (h : Fin 4) {s j : Fin 1792} (hs : (s : ℕ) < j) : D.prK h s j = 0 := by
  unfold Grp.prK; rw [if_neg (by omega)]
/-- and no score gradient. -/
theorem dsK_zero (D : Grp) (h : Fin 4) {s j : Fin 1792} (hs : (s : ℕ) < j) : D.dsK h s j = 0 := by
  unfold Grp.dsK; rw [prK_zero D h hs, zero_mul]

/-- The query gradient after some column blocks. -/
theorem DQA_at (i : ℕ) (hi : i < 7) (h : ℕ) (hh : h < 4) (d : Fin 160) (r : Fin 256) :
    ∀ (j : ℕ) (hj : j < 7) (hji : j ≤ i), DQA t I i hi h hh j hj (ix3 0 d r)
      = ∑ b ∈ Finset.range (j + 1), blk (fun x => (grpI t I).k d x * (grpI t I).dsK ⟨h, hh⟩ (tok i hi r) x) b
  | 0, hj, hji => by
    rw [DQA, payDqSet_at, Finset.sum_range_one, blk_of_lt _ hj]
    exact Finset.sum_congr rfl fun c _ => by rw [rd_kb, KB_at t, DS_at t I i hi 0 hj h hh hji]
  | j + 1, hj, hji => by
    rw [DQA, payDqAdd_at, DQA_at i hi h hh d r j (by omega) (by omega), Finset.sum_range_succ _ (j + 1), blk_of_lt _ hj]
    refine congrArg (_ + ·) ?_
    exact Finset.sum_congr rfl fun c _ => by rw [rd_kb, KB_at t, DS_at t I i hi (j + 1) hj h hh hji]

/-- A block of the query gradient. -/
theorem DQB_at (i : ℕ) (hi : i < 7) (h : ℕ) (hh : h < 4) (d : Fin 160) (r : Fin 256) :
    DQB t I i hi h hh (ix3 0 d r) = (grpI t I).dqK ⟨h, hh⟩ d (tok i hi r) := by
  unfold DQB Grp.dqK
  rw [payDq_at]
  simp only [rd_cos0, rd_sin0, rd_dos, DQA_at t I i hi h hh _ r i hi le_rfl, vsEff_eq]
  refine congrArg (fun f => unrope f _ _ d) (funext fun d => ?_)
  rw [sum_blk_prefix _ i hi]
  · rfl
  · intro b hb c hib
    rw [dsK_zero _ _ (show 256 * i + (r : ℕ) < 256 * b + c by omega), mul_zero]

/-- A lane of four heads side by side. -/
theorem lanes4_at (w : (h : ℕ) → h < 4 → Vec Ideal S1x160x256 .bf16) (d : Fin 160) (h : Fin 4) (r : Fin 256) :
    lanes4 w (ix3 0 d ⟨256 * (h : ℕ) + r, by omega⟩) = w h h.isLt (ix3 0 d r) := by
  have key : ∀ (n : ℕ) (hn : n < 4) (r' : Fin 256), n = h → r' = r → w n hn (ValueIdx.ix3 0 d r') = w h h.isLt (ix3 0 d r) := by
    rintro n hn r' rfl rfl
    rw [ix3_eq_valueIdx]
  exact key _ _ _ (show (256 * (h : ℕ) + r) / 256 = h by omega) (Fin.ext (show (256 * (h : ℕ) + r) % 256 = r by omega))

/-- A row of four heads one below the other. -/
theorem rows4_at (w : (h : ℕ) → h < 4 → Vec Ideal S1x256x256 .bf16) (c : Fin 256) (h : Fin 4) (r : Fin 256) :
    rows4 w (ix3 0 ⟨256 * (h : ℕ) + r, by omega⟩ c) = w h h.isLt (ix3 0 r c) := by
  have key : ∀ (n : ℕ) (hn : n < 4) (r' : Fin 256), n = h → r' = r → w n hn (ValueIdx.ix3 0 r' c) = w h h.isLt (ix3 0 r c) := by
    rintro n hn r' rfl rfl
    rw [ix3_eq_valueIdx]
  exact key _ _ _ (show (256 * (h : ℕ) + r) / 256 = h by omega) (Fin.ext (show (256 * (h : ℕ) + r) % 256 = r by omega))

/-- What a block adds to the key gradient. -/
theorem DKC_at (i : ℕ) (hi : i < 7) (j : ℕ) (hj : j < 7) (hji : j ≤ i) (d : Fin 160) (c : Fin 256) :
    DKC t I i hi j hj (ix2 d c) = ∑ h : Fin 4, blk (fun s => ((grpI t I).q h d s * ((grpI t I).dos s * (grpI t I).qs h)) * (grpI t I).dsK h s (tok j hj c)) i := by
  unfold DKC
  rw [payAcc_at, sum_blocks (m := 4) rfl]
  refine Finset.sum_congr rfl fun h _ => ?_
  rw [blk_of_lt _ hi]
  refine Finset.sum_congr rfl fun r _ => ?_
  rw [lanes4_at, rows4_at, payDsb_at, DS_at t I i hi j hj h h.isLt hji]
  unfold QWB
  rw [payQw_at, rd_q, rd_dos]
  rfl

/-- What a block adds to the value gradient. -/
theorem DVC_at (i : ℕ) (hi : i < 7) (j : ℕ) (hj : j < 7) (hji : j ≤ i) (d : Fin 160) (c : Fin 256) :
    DVC t I i hi j hj (ix2 d c) = ∑ h : Fin 4, blk (fun s => ((grpI t I).g h d s * (grpI t I).dos s) * (grpI t I).prK h s (tok j hj c)) i := by
  unfold DVC
  rw [payAcc_at, sum_blocks (m := 4) rfl]
  refine Finset.sum_congr rfl fun h _ => ?_
  rw [blk_of_lt _ hi]
  refine Finset.sum_congr rfl fun r _ => ?_
  rw [lanes4_at, rows4_at, payPb_at, PR_at t I i hi j hj h h.isLt hji]
  unfold DOWB
  rw [payDow_at, rd_g, rd_dos]
  rfl

/-- A sum down a column of blocks, its blocks above the diagonal being zero. -/
theorem colSum_at (j : ℕ) (C : (i : ℕ) → i < 7 → FVec Ideal S160x256 .f32) (d : Fin 160) (c : Fin 256) (G : ℕ → EReal)
    (h0 : ∀ i, i < j → G i = 0) (h1 : ∀ i (hi : i < 7), j ≤ i → C i hi (ix2 d c) = G i) :
    ∀ (i : ℕ) (hi : i < 7), j ≤ i → colSum j C i hi (ix2 d c) = ∑ b ∈ Finset.range (i + 1), G b
  | 0, hi, hji => by rw [colSum, paySet_at, h1 0 hi hji, Finset.sum_range_one]
  | i + 1, hi, hji => by
    rw [colSum]
    split
    · rw [paySet_at, h1 _ hi hji, Finset.sum_range_succ, Finset.sum_eq_zero, zero_add]
      intro b hb
      exact h0 b (by have := Finset.mem_range.1 hb; omega)
    · rw [payAdd_at, colSum_at j C d c G h0 h1 i (by omega) (by omega), h1 _ hi hji, Finset.sum_range_succ _ (i + 1)]

/-- All of a column, head by head. -/
theorem column (j : ℕ) (hj : j < 7) (c : Fin 256) (C : (i : ℕ) → i < 7 → FVec Ideal S160x256 .f32) (d : Fin 160) (f : Fin 4 → Fin 1792 → EReal)
    (h0 : ∀ (h : Fin 4) (s : Fin 1792), (s : ℕ) < tok j hj c → f h s = 0) (h1 : ∀ i (hi : i < 7), j ≤ i → C i hi (ix2 d c) = ∑ h, blk (f h) i) :
    colSum j C 6 (by norm_num) (ix2 d c) = ∑ h, ∑ s, f h s := by
  rw [colSum_at j C d c (fun i => ∑ h, blk (f h) i) ?_ h1 6 (by norm_num) (by omega), Finset.sum_comm]
  · exact Finset.sum_congr rfl fun h _ => sum_blk (f h)
  · intro i hij
    refine Finset.sum_eq_zero fun h _ => ?_
    rw [blk_of_lt _ (by omega)]
    exact Finset.sum_eq_zero fun r _ => h0 h _ (show 256 * i + (r : ℕ) < 256 * j + c by omega)

/-- A block of the key gradient. -/
theorem DKB_at (j : ℕ) (hj : j < 7) (d : Fin 160) (c : Fin 256) : DKB t I j hj (ix3 0 d c) = (grpI t I).dkK d (tok j hj c) := by
  unfold DKB DKA Grp.dkK
  rw [payDk_at]
  simp only [rd_cos1, rd_sin1, vsEff_eq]
  refine congrArg (fun f => unrope f _ _ d) (funext fun d => ?_)
  rw [column j hj c _ d (fun h s => ((grpI t I).q h d s * ((grpI t I).dos s * (grpI t I).qs h)) * (grpI t I).dsK h s (tok j hj c))
    (fun h s hs => by rw [dsK_zero _ _ hs, mul_zero]) (fun i hi hji => DKC_at t I i hi j hj hji d c)]
  rfl

/-- A block of the value gradient. -/
theorem DVB_at (j : ℕ) (hj : j < 7) (d : Fin 160) (c : Fin 256) : DVB t I j hj (ix3 0 d c) = (grpI t I).dvK d (tok j hj c) := by
  unfold DVB DVA Grp.dvK
  rw [payDv_at]
  exact column j hj c _ d (fun h s => ((grpI t I).g h d s * (grpI t I).dos s) * (grpI t I).prK h s (tok j hj c))
    (fun h s hs => by rw [prK_zero _ _ hs, mul_zero]) (fun i hi hji => DVC_at t I i hi j hj hji d c)

theorem tok_divmod (s : Fin 1792) : tok ((s : ℕ) / 256) (by omega) ⟨(s : ℕ) % 256, Nat.mod_lt _ (by norm_num)⟩ = s := Fin.ext (by simp; omega)

/-- The query gradient the body leaves. -/
theorem DQ_at (h : Fin 4) (d : Fin 160) (s : Fin 1792) : DQ t I (ix3 h d s) = (grpI t I).dqK h d s := by
  have e := DQB_at t I ((s : ℕ) / 256) (by omega) h h.isLt d ⟨(s : ℕ) % 256, Nat.mod_lt _ (by norm_num)⟩
  rw [tok_divmod, ix3_eq_valueIdx] at e
  exact e
/-- The key gradient the body leaves. -/
theorem DK_at (d : Fin 160) (j : Fin 1792) : DK t I (ix3 0 d j) = (grpI t I).dkK d j := by
  have e := DKB_at t I ((j : ℕ) / 256) (by omega) d ⟨(j : ℕ) % 256, Nat.mod_lt _ (by norm_num)⟩
  rw [tok_divmod, ix3_eq_valueIdx] at e
  exact e
/-- The value gradient the body leaves. -/
theorem DV_at (d : Fin 160) (j : Fin 1792) : DV t I (ix3 0 d j) = (grpI t I).dvK d j := by
  have e := DVB_at t I ((j : ℕ) / 256) (by omega) d ⟨(j : ℕ) % 256, Nat.mod_lt _ (by norm_num)⟩
  rw [tok_divmod, ix3_eq_valueIdx] at e
  exact e

end Cert.KernelIdeal.Body
-- ==== Proof.Body.Pieces.lean ====
/- The body as a program of pieces: preparation, blocks, finishes. -/
module

public import proofs.«01_k».proof.Proof.Body.State

@[expose] public section

set_option synthInstance.maxSize 4096

noncomputable section

namespace Cert.KernelIdeal.Body

open Idealize.ShloMosaic Idealize.SL.Sem
open Cert.KernelIdeal Facts₀ Facts

variable {F : FTy → Type} [FloatOps F] [Named F]

/-- Programs of the body. -/
abbrev BProg (F : FTy → Type) := Prog (TpuEff nD τ sig (Elt F) Λ₀ .tc) PUnit

/-- Load it. -/
abbrev lddos_r0 (R : Refs) (i : ℕ) (hi : i < 7) : Prog (TpuEff nD τ sig (Elt F) Λ₀ .tc) (Vec F S1x256 .f32) :=
  Prog.lift (.load R.dos (dos_r0 i hi).toLoadRect (View.loadsAt_vmem h_S1x256))

/-- Load it. -/
abbrev ldg_r0 (R : Refs) (i : ℕ) (hi : i < 7) (h : ℕ) (hh : h < 4) : Prog (TpuEff nD τ sig (Elt F) Λ₀ .tc) (Vec F S1x160x256 .fp8e5m2) :=
  Prog.lift (.load R.g (g_r0 i hi h hh).toLoadRect (View.loadsAt_vmem h_S1x160x256))

/-- Load it. -/
abbrev ldo_r0 (R : Refs) (i : ℕ) (hi : i < 7) (h : ℕ) (hh : h < 4) : Prog (TpuEff nD τ sig (Elt F) Λ₀ .tc) (Vec F S1x160x256 .bf16) :=
  Prog.lift (.load R.o (o_r0 i hi h hh).toLoadRect (View.loadsAt_vmem h_S1x160x256))

/-- Load it. -/
abbrev lddox_r0 (R : Refs) (i : ℕ) (hi : i < 7) (h : ℕ) (hh : h < 4) : Prog (TpuEff nD τ sig (Elt F) Λ₀ .tc) (Vec F S1x256x256 .bf16) :=
  Prog.lift (.load R.dox (dox_r0 i hi h hh).toLoadRect (View.loadsAt_vmem h_S1x256x256))

/-- Store there. -/
abbrev stdox_r0 (R : Refs) (i : ℕ) (hi : i < 7) (h : ℕ) (hh : h < 4) (w : Vec F S1x256x256 .bf16) : Prog (TpuEff nD τ sig (Elt F) Λ₀ .tc) PUnit :=
  Prog.lift (.store R.dox (dox_r0 i hi h hh) w Finset.univ (View.stores_vmem h_S1x256x256 (R.hdox.storeExact_slice rfl (dox_r0 i hi h hh) (packed3 (Dvd.dvd.mul_right (by decide) _) (by decide))) (fun _ => rfl)) (.inl rfl))

/-- Load it. -/
abbrev lddow_r0 (R : Refs) (i : ℕ) (hi : i < 7) (h : ℕ) (hh : h < 4) : Prog (TpuEff nD τ sig (Elt F) Λ₀ .tc) (Vec F S1x160x256 .bf16) :=
  Prog.lift (.load R.dow (dow_r0 i hi h hh).toLoadRect (View.loadsAt_vmem h_S1x160x256))

/-- Store there. -/
abbrev stdow_r0 (R : Refs) (i : ℕ) (hi : i < 7) (h : ℕ) (hh : h < 4) (w : Vec F S1x160x256 .bf16) : Prog (TpuEff nD τ sig (Elt F) Λ₀ .tc) PUnit :=
  Prog.lift (.store R.dow (dow_r0 i hi h hh) w Finset.univ (View.stores_vmem h_S1x160x256 (R.hdow.storeExact_slice rfl (dow_r0 i hi h hh) (packed3 (by decide) (by decide))) (fun _ => rfl)) (.inl rfl))

/-- Load it. -/
abbrev ldq_r0 (R : Refs) (i : ℕ) (hi : i < 7) (h : ℕ) (hh : h < 4) : Prog (TpuEff nD τ sig (Elt F) Λ₀ .tc) (Vec F S1x160x256 .fp8e4m3) :=
  Prog.lift (.load R.q (q_r0 i hi h hh).toLoadRect (View.loadsAt_vmem h_S1x160x256))

/-- Load it. -/
abbrev ldqx_r0 (R : Refs) (i : ℕ) (hi : i < 7) (h : ℕ) (hh : h < 4) : Prog (TpuEff nD τ sig (Elt F) Λ₀ .tc) (Vec F S1x256x256 .fp8e4m3) :=
  Prog.lift (.load R.qx (qx_r0 i hi h hh).toLoadRect (View.loadsAt_vmem h_S1x256x256))

/-- Store there. -/
abbrev stqx_r0 (R : Refs) (i : ℕ) (hi : i < 7) (h : ℕ) (hh : h < 4) (w : Vec F S1x256x256 .fp8e4m3) : Prog (TpuEff nD τ sig (Elt F) Λ₀ .tc) PUnit :=
  Prog.lift (.store R.qx (qx_r0 i hi h hh) w Finset.univ (View.stores_vmem h_S1x256x256 (R.hqx.storeExact_slice rfl (qx_r0 i hi h hh) (packed3 (Dvd.dvd.mul_right (by decide) _) (by decide))) (fun _ => rfl)) (.inl rfl))

/-- Load it. -/
abbrev ldqw_r0 (R : Refs) (i : ℕ) (hi : i < 7) (h : ℕ) (hh : h < 4) : Prog (TpuEff nD τ sig (Elt F) Λ₀ .tc) (Vec F S1x160x256 .bf16) :=
  Prog.lift (.load R.qw (qw_r0 i hi h hh).toLoadRect (View.loadsAt_vmem h_S1x160x256))

/-- Store there. -/
abbrev stqw_r0 (R : Refs) (i : ℕ) (hi : i < 7) (h : ℕ) (hh : h < 4) (w : Vec F S1x160x256 .bf16) : Prog (TpuEff nD τ sig (Elt F) Λ₀ .tc) PUnit :=
  Prog.lift (.store R.qw (qw_r0 i hi h hh) w Finset.univ (View.stores_vmem h_S1x160x256 (R.hqw.storeExact_slice rfl (qw_r0 i hi h hh) (packed3 (by decide) (by decide))) (fun _ => rfl)) (.inl rfl))

/-- Load it. -/
abbrev ldlse_r0 (R : Refs) (i : ℕ) (hi : i < 7) (h : ℕ) (hh : h < 4) : Prog (TpuEff nD τ sig (Elt F) Λ₀ .tc) (Vec F S1x1x256 .f32) :=
  Prog.lift (.load R.lse (lse_r0 i hi h hh).toLoadRect (View.loadsAt_vmem h_S1x1x256))

/-- Load it. -/
abbrev ldlsex_r0 (R : Refs) (i : ℕ) (hi : i < 7) (h : ℕ) (hh : h < 4) : Prog (TpuEff nD τ sig (Elt F) Λ₀ .tc) (Vec F S1x128x128 .f32) :=
  Prog.lift (.load R.lsex (lsex_r0 i hi h hh).toLoadRect (View.loadsAt_vmem h_S1x128x128))

/-- Store there. -/
abbrev stlsex_r0 (R : Refs) (i : ℕ) (hi : i < 7) (h : ℕ) (hh : h < 4) (w : Vec F S1x128x128 .f32) : Prog (TpuEff nD τ sig (Elt F) Λ₀ .tc) PUnit :=
  Prog.lift (.store R.lsex (lsex_r0 i hi h hh) w Finset.univ (View.stores_vmem_bits_univ h_S1x128x128 rfl) (.inl rfl))

/-- Load it. -/
abbrev lddelx_r0 (R : Refs) (i : ℕ) (hi : i < 7) (h : ℕ) (hh : h < 4) : Prog (TpuEff nD τ sig (Elt F) Λ₀ .tc) (Vec F S1x128x128 .f32) :=
  Prog.lift (.load R.delx (delx_r0 i hi h hh).toLoadRect (View.loadsAt_vmem h_S1x128x128))

/-- Store there. -/
abbrev stdelx_r0 (R : Refs) (i : ℕ) (hi : i < 7) (h : ℕ) (hh : h < 4) (w : Vec F S1x128x128 .f32) : Prog (TpuEff nD τ sig (Elt F) Λ₀ .tc) PUnit :=
  Prog.lift (.store R.delx (delx_r0 i hi h hh) w Finset.univ (View.stores_vmem_bits_univ h_S1x128x128 rfl) (.inl rfl))

/-- Load it. -/
abbrev ldlsex_r1 (R : Refs) (i : ℕ) (hi : i < 7) (h : ℕ) (hh : h < 4) : Prog (TpuEff nD τ sig (Elt F) Λ₀ .tc) (Vec F S1x128x128 .f32) :=
  Prog.lift (.load R.lsex (lsex_r1 i hi h hh).toLoadRect (View.loadsAt_vmem h_S1x128x128))

/-- Store there. -/
abbrev stlsex_r1 (R : Refs) (i : ℕ) (hi : i < 7) (h : ℕ) (hh : h < 4) (w : Vec F S1x128x128 .f32) : Prog (TpuEff nD τ sig (Elt F) Λ₀ .tc) PUnit :=
  Prog.lift (.store R.lsex (lsex_r1 i hi h hh) w Finset.univ (View.stores_vmem_bits_univ h_S1x128x128 rfl) (.inl rfl))

/-- Load it. -/
abbrev lddelx_r1 (R : Refs) (i : ℕ) (hi : i < 7) (h : ℕ) (hh : h < 4) : Prog (TpuEff nD τ sig (Elt F) Λ₀ .tc) (Vec F S1x128x128 .f32) :=
  Prog.lift (.load R.delx (delx_r1 i hi h hh).toLoadRect (View.loadsAt_vmem h_S1x128x128))

/-- Store there. -/
abbrev stdelx_r1 (R : Refs) (i : ℕ) (hi : i < 7) (h : ℕ) (hh : h < 4) (w : Vec F S1x128x128 .f32) : Prog (TpuEff nD τ sig (Elt F) Λ₀ .tc) PUnit :=
  Prog.lift (.store R.delx (delx_r1 i hi h hh) w Finset.univ (View.stores_vmem_bits_univ h_S1x128x128 rfl) (.inl rfl))

/-- Load it. -/
abbrev ldkx_r0 (R : Refs) (j : ℕ) (hj : j < 7) : Prog (TpuEff nD τ sig (Elt F) Λ₀ .tc) (Vec F S256x256 .fp8e4m3) :=
  Prog.lift (.load R.kx (kx_r0 j hj).toLoadRect (View.loadsAt_vmem h_S256x256))

/-- Load it. -/
abbrev ldlsex_r2 (R : Refs) (i : ℕ) (hi : i < 7) (h : ℕ) (hh : h < 4) : Prog (TpuEff nD τ sig (Elt F) Λ₀ .tc) (Vec F S1x256x128 .f32) :=
  Prog.lift (.load R.lsex (lsex_r2 i hi h hh).toLoadRect (View.loadsAt_vmem h_S1x256x128))

/-- Load it. -/
abbrev ldvx_r0 (R : Refs) (j : ℕ) (hj : j < 7) : Prog (TpuEff nD τ sig (Elt F) Λ₀ .tc) (Vec F S256x256 .bf16) :=
  Prog.lift (.load R.vx (vx_r0 j hj).toLoadRect (View.loadsAt_vmem h_S256x256))

/-- Load it. -/
abbrev lddelx_r2 (R : Refs) (i : ℕ) (hi : i < 7) (h : ℕ) (hh : h < 4) : Prog (TpuEff nD τ sig (Elt F) Λ₀ .tc) (Vec F S1x256x128 .f32) :=
  Prog.lift (.load R.delx (delx_r2 i hi h hh).toLoadRect (View.loadsAt_vmem h_S1x256x128))

/-- Load it. -/
abbrev ldpb_r0 (R : Refs) (i : ℕ) (hi : i < 7) (j : ℕ) (hj : j < 7) (h : ℕ) (hh : h < 4) : Prog (TpuEff nD τ sig (Elt F) Λ₀ .tc) (Vec F S1x256x256 .bf16) :=
  Prog.lift (.load R.pb (pb_r0 i hi j hj h hh).toLoadRect (View.loadsAt_vmem h_S1x256x256))

/-- Store there. -/
abbrev stpb_r0 (R : Refs) (i : ℕ) (hi : i < 7) (j : ℕ) (hj : j < 7) (h : ℕ) (hh : h < 4) (w : Vec F S1x256x256 .bf16) : Prog (TpuEff nD τ sig (Elt F) Λ₀ .tc) PUnit :=
  Prog.lift (.store R.pb (pb_r0 i hi j hj h hh) w Finset.univ (View.stores_vmem h_S1x256x256 (R.hpb.storeExact_slice rfl (pb_r0 i hi j hj h hh) (packed3 (Dvd.dvd.mul_right (by decide) _) (by decide))) (fun _ => rfl)) (.inl rfl))

/-- Load it. -/
abbrev lddsb_r0 (R : Refs) (i : ℕ) (hi : i < 7) (j : ℕ) (hj : j < 7) (h : ℕ) (hh : h < 4) : Prog (TpuEff nD τ sig (Elt F) Λ₀ .tc) (Vec F S1x256x256 .bf16) :=
  Prog.lift (.load R.dsb (dsb_r0 i hi j hj h hh).toLoadRect (View.loadsAt_vmem h_S1x256x256))

/-- Store there. -/
abbrev stdsb_r0 (R : Refs) (i : ℕ) (hi : i < 7) (j : ℕ) (hj : j < 7) (h : ℕ) (hh : h < 4) (w : Vec F S1x256x256 .bf16) : Prog (TpuEff nD τ sig (Elt F) Λ₀ .tc) PUnit :=
  Prog.lift (.store R.dsb (dsb_r0 i hi j hj h hh) w Finset.univ (View.stores_vmem h_S1x256x256 (R.hdsb.storeExact_slice rfl (dsb_r0 i hi j hj h hh) (packed3 (Dvd.dvd.mul_right (by decide) _) (by decide))) (fun _ => rfl)) (.inl rfl))

/-- Load it. -/
abbrev ldkb_r0 (R : Refs) (j : ℕ) (hj : j < 7) : Prog (TpuEff nD τ sig (Elt F) Λ₀ .tc) (Vec F S160x256 .bf16) :=
  Prog.lift (.load R.kb (kb_r0 j hj).toLoadRect (View.loadsAt_vmem h_S160x256))

/-- Load it. -/
abbrev lddqa_r0 (R : Refs) (i : ℕ) (hi : i < 7) (h : ℕ) (hh : h < 4) : Prog (TpuEff nD τ sig (Elt F) Λ₀ .tc) (Vec F S1x160x256 .f32) :=
  Prog.lift (.load R.dqa (dqa_r0 i hi h hh).toLoadRect (View.loadsAt_vmem h_S1x160x256))

/-- Store there. -/
abbrev stdqa_r0 (R : Refs) (i : ℕ) (hi : i < 7) (h : ℕ) (hh : h < 4) (w : Vec F S1x160x256 .f32) : Prog (TpuEff nD τ sig (Elt F) Λ₀ .tc) PUnit :=
  Prog.lift (.store R.dqa (dqa_r0 i hi h hh) w Finset.univ (View.stores_vmem_bits_univ h_S1x160x256 rfl) (.inl rfl))

/-- Load it. -/
abbrev lddow_r1 (R : Refs) (i : ℕ) (hi : i < 7) : Prog (TpuEff nD τ sig (Elt F) Λ₀ .tc) (Vec F S1x160x1024 .bf16) :=
  Prog.lift (.load R.dow (dow_r1 i hi).toLoadRect (View.loadsAt_vmem h_S1x160x1024))

/-- Load it. -/
abbrev ldpb_r1 (R : Refs) (i : ℕ) (hi : i < 7) (j : ℕ) (hj : j < 7) : Prog (TpuEff nD τ sig (Elt F) Λ₀ .tc) (Vec F S1x1024x256 .bf16) :=
  Prog.lift (.load R.pb (pb_r1 i hi j hj).toLoadRect (View.loadsAt_vmem h_S1x1024x256))

/-- Load it. -/
abbrev ldqw_r1 (R : Refs) (i : ℕ) (hi : i < 7) : Prog (TpuEff nD τ sig (Elt F) Λ₀ .tc) (Vec F S1x160x1024 .bf16) :=
  Prog.lift (.load R.qw (qw_r1 i hi).toLoadRect (View.loadsAt_vmem h_S1x160x1024))

/-- Load it. -/
abbrev lddsb_r1 (R : Refs) (i : ℕ) (hi : i < 7) (j : ℕ) (hj : j < 7) : Prog (TpuEff nD τ sig (Elt F) Λ₀ .tc) (Vec F S1x1024x256 .bf16) :=
  Prog.lift (.load R.dsb (dsb_r1 i hi j hj).toLoadRect (View.loadsAt_vmem h_S1x1024x256))

/-- Load it. -/
abbrev lddka_r0 (R : Refs) (j : ℕ) (hj : j < 7) : Prog (TpuEff nD τ sig (Elt F) Λ₀ .tc) (Vec F S160x256 .f32) :=
  Prog.lift (.load R.dka (dka_r0 j hj).toLoadRect (View.loadsAt_vmem h_S160x256))

/-- Store there. -/
abbrev stdka_r0 (R : Refs) (j : ℕ) (hj : j < 7) (w : Vec F S160x256 .f32) : Prog (TpuEff nD τ sig (Elt F) Λ₀ .tc) PUnit :=
  Prog.lift (.store R.dka (dka_r0 j hj) w Finset.univ (View.stores_vmem_bits_univ h_S160x256 rfl) (.inl rfl))

/-- Load it. -/
abbrev lddva_r0 (R : Refs) (j : ℕ) (hj : j < 7) : Prog (TpuEff nD τ sig (Elt F) Λ₀ .tc) (Vec F S160x256 .f32) :=
  Prog.lift (.load R.dva (dva_r0 j hj).toLoadRect (View.loadsAt_vmem h_S160x256))

/-- Store there. -/
abbrev stdva_r0 (R : Refs) (j : ℕ) (hj : j < 7) (w : Vec F S160x256 .f32) : Prog (TpuEff nD τ sig (Elt F) Λ₀ .tc) PUnit :=
  Prog.lift (.store R.dva (dva_r0 j hj) w Finset.univ (View.stores_vmem_bits_univ h_S160x256 rfl) (.inl rfl))

/-- Load it. -/
abbrev ldcos_r0 (R : Refs) (i : ℕ) (hi : i < 7) : Prog (TpuEff nD τ sig (Elt F) Λ₀ .tc) (Vec F S80x256 .f32) :=
  Prog.lift (.load R.cos (cos_r0 i hi).toLoadRect (View.loadsAt_vmem h_S80x256))

/-- Load it. -/
abbrev ldsin_r0 (R : Refs) (i : ℕ) (hi : i < 7) : Prog (TpuEff nD τ sig (Elt F) Λ₀ .tc) (Vec F S80x256 .f32) :=
  Prog.lift (.load R.sin (sin_r0 i hi).toLoadRect (View.loadsAt_vmem h_S80x256))

/-- Load it. -/
abbrev lddqa_r1 (R : Refs) (i : ℕ) (hi : i < 7) : Prog (TpuEff nD τ sig (Elt F) Λ₀ .tc) (Vec F S1x160x256 .f32) :=
  Prog.lift (.load R.dqa (dqa_r1 i hi).toLoadRect (View.loadsAt_vmem h_S1x160x256))

/-- Load it. -/
abbrev lddq_r0 (R : Refs) (i : ℕ) (hi : i < 7) : Prog (TpuEff nD τ sig (Elt F) Λ₀ .tc) (Vec F S1x160x256 .bf16) :=
  Prog.lift (.load R.dq (dq_r0 i hi).toLoadRect (View.loadsAt_vmem h_S1x160x256))

/-- Store there. -/
abbrev stdq_r0 (R : Refs) (i : ℕ) (hi : i < 7) (w : Vec F S1x160x256 .bf16) : Prog (TpuEff nD τ sig (Elt F) Λ₀ .tc) PUnit :=
  Prog.lift (.store R.dq (dq_r0 i hi) w Finset.univ (View.stores_vmem h_S1x160x256 (R.hdq.storeExact_slice rfl (dq_r0 i hi) (packed3 (by decide) (by decide))) (fun _ => rfl)) (.inl rfl))

/-- Load it. -/
abbrev lddqa_r2 (R : Refs) (i : ℕ) (hi : i < 7) : Prog (TpuEff nD τ sig (Elt F) Λ₀ .tc) (Vec F S1x160x256 .f32) :=
  Prog.lift (.load R.dqa (dqa_r2 i hi).toLoadRect (View.loadsAt_vmem h_S1x160x256))

/-- Load it. -/
abbrev lddq_r1 (R : Refs) (i : ℕ) (hi : i < 7) : Prog (TpuEff nD τ sig (Elt F) Λ₀ .tc) (Vec F S1x160x256 .bf16) :=
  Prog.lift (.load R.dq (dq_r1 i hi).toLoadRect (View.loadsAt_vmem h_S1x160x256))

/-- Store there. -/
abbrev stdq_r1 (R : Refs) (i : ℕ) (hi : i < 7) (w : Vec F S1x160x256 .bf16) : Prog (TpuEff nD τ sig (Elt F) Λ₀ .tc) PUnit :=
  Prog.lift (.store R.dq (dq_r1 i hi) w Finset.univ (View.stores_vmem h_S1x160x256 (R.hdq.storeExact_slice rfl (dq_r1 i hi) (packed3 (by decide) (by decide))) (fun _ => rfl)) (.inl rfl))

/-- Load it. -/
abbrev lddqa_r3 (R : Refs) (i : ℕ) (hi : i < 7) : Prog (TpuEff nD τ sig (Elt F) Λ₀ .tc) (Vec F S1x160x256 .f32) :=
  Prog.lift (.load R.dqa (dqa_r3 i hi).toLoadRect (View.loadsAt_vmem h_S1x160x256))

/-- Load it. -/
abbrev lddq_r2 (R : Refs) (i : ℕ) (hi : i < 7) : Prog (TpuEff nD τ sig (Elt F) Λ₀ .tc) (Vec F S1x160x256 .bf16) :=
  Prog.lift (.load R.dq (dq_r2 i hi).toLoadRect (View.loadsAt_vmem h_S1x160x256))

/-- Store there. -/
abbrev stdq_r2 (R : Refs) (i : ℕ) (hi : i < 7) (w : Vec F S1x160x256 .bf16) : Prog (TpuEff nD τ sig (Elt F) Λ₀ .tc) PUnit :=
  Prog.lift (.store R.dq (dq_r2 i hi) w Finset.univ (View.stores_vmem h_S1x160x256 (R.hdq.storeExact_slice rfl (dq_r2 i hi) (packed3 (by decide) (by decide))) (fun _ => rfl)) (.inl rfl))

/-- Load it. -/
abbrev lddqa_r4 (R : Refs) (i : ℕ) (hi : i < 7) : Prog (TpuEff nD τ sig (Elt F) Λ₀ .tc) (Vec F S1x160x256 .f32) :=
  Prog.lift (.load R.dqa (dqa_r4 i hi).toLoadRect (View.loadsAt_vmem h_S1x160x256))

/-- Load it. -/
abbrev lddq_r3 (R : Refs) (i : ℕ) (hi : i < 7) : Prog (TpuEff nD τ sig (Elt F) Λ₀ .tc) (Vec F S1x160x256 .bf16) :=
  Prog.lift (.load R.dq (dq_r3 i hi).toLoadRect (View.loadsAt_vmem h_S1x160x256))

/-- Store there. -/
abbrev stdq_r3 (R : Refs) (i : ℕ) (hi : i < 7) (w : Vec F S1x160x256 .bf16) : Prog (TpuEff nD τ sig (Elt F) Λ₀ .tc) PUnit :=
  Prog.lift (.store R.dq (dq_r3 i hi) w Finset.univ (View.stores_vmem h_S1x160x256 (R.hdq.storeExact_slice rfl (dq_r3 i hi) (packed3 (by decide) (by decide))) (fun _ => rfl)) (.inl rfl))

/-- Load it. -/
abbrev ldcos_r1 (R : Refs) (j : ℕ) (hj : j < 7) : Prog (TpuEff nD τ sig (Elt F) Λ₀ .tc) (Vec F S80x256 .f32) :=
  Prog.lift (.load R.cos (cos_r1 j hj).toLoadRect (View.loadsAt_vmem h_S80x256))

/-- Load it. -/
abbrev ldsin_r1 (R : Refs) (j : ℕ) (hj : j < 7) : Prog (TpuEff nD τ sig (Elt F) Λ₀ .tc) (Vec F S80x256 .f32) :=
  Prog.lift (.load R.sin (sin_r1 j hj).toLoadRect (View.loadsAt_vmem h_S80x256))

/-- Load it. -/
abbrev lddk_r0 (R : Refs) (j : ℕ) (hj : j < 7) : Prog (TpuEff nD τ sig (Elt F) Λ₀ .tc) (Vec F S1x160x256 .bf16) :=
  Prog.lift (.load R.dk (dk_r0 j hj).toLoadRect (View.loadsAt_vmem h_S1x160x256))

/-- Store there. -/
abbrev stdk_r0 (R : Refs) (j : ℕ) (hj : j < 7) (w : Vec F S1x160x256 .bf16) : Prog (TpuEff nD τ sig (Elt F) Λ₀ .tc) PUnit :=
  Prog.lift (.store R.dk (dk_r0 j hj) w Finset.univ (View.stores_vmem h_S1x160x256 (R.hdk.storeExact_slice rfl (dk_r0 j hj) (packed3 (by decide) (by decide))) (fun _ => rfl)) (.inl rfl))

/-- Load it. -/
abbrev lddv_r0 (R : Refs) (j : ℕ) (hj : j < 7) : Prog (TpuEff nD τ sig (Elt F) Λ₀ .tc) (Vec F S1x160x256 .bf16) :=
  Prog.lift (.load R.dv (dv_r0 j hj).toLoadRect (View.loadsAt_vmem h_S1x160x256))

/-- Store there. -/
abbrev stdv_r0 (R : Refs) (j : ℕ) (hj : j < 7) (w : Vec F S1x160x256 .bf16) : Prog (TpuEff nD τ sig (Elt F) Λ₀ .tc) PUnit :=
  Prog.lift (.store R.dv (dv_r0 j hj) w Finset.univ (View.stores_vmem h_S1x160x256 (R.hdv.storeExact_slice rfl (dv_r0 j hj) (packed3 (by decide) (by decide))) (fun _ => rfl)) (.inl rfl))

/-- Load it. -/
abbrev ldk_r0 (R : Refs)  : Prog (TpuEff nD τ sig (Elt F) Λ₀ .tc) (Vec F S1x160x1792 .fp8e4m3) :=
  Prog.lift (.load R.k (k_r0 ).toLoadRect (View.loadsAt_vmem h_S1x160x1792))

/-- Load it. -/
abbrev ldkb_r1 (R : Refs)  : Prog (TpuEff nD τ sig (Elt F) Λ₀ .tc) (Vec F S160x1792 .bf16) :=
  Prog.lift (.load R.kb (kb_r1 ).toLoadRect (View.loadsAt_vmem h_S160x1792))

/-- Store there. -/
abbrev stkb_r1 (R : Refs)  (w : Vec F S160x1792 .bf16) : Prog (TpuEff nD τ sig (Elt F) Λ₀ .tc) PUnit :=
  Prog.lift (.store R.kb (kb_r1 ) w Finset.univ (View.stores_vmem h_S160x1792 (R.hkb.storeExact_slice rfl (kb_r1 ) (packed2 (by decide) (by decide))) (fun _ => rfl)) (.inl rfl))

/-- Load it. -/
abbrev ldkx_r1 (R : Refs)  : Prog (TpuEff nD τ sig (Elt F) Λ₀ .tc) (Vec F S160x1792 .fp8e4m3) :=
  Prog.lift (.load R.kx (kx_r1 ).toLoadRect (View.loadsAt_vmem h_S160x1792))

/-- Store there. -/
abbrev stkx_r1 (R : Refs)  (w : Vec F S160x1792 .fp8e4m3) : Prog (TpuEff nD τ sig (Elt F) Λ₀ .tc) PUnit :=
  Prog.lift (.store R.kx (kx_r1 ) w Finset.univ (View.stores_vmem h_S160x1792 (R.hkx.storeExact_slice rfl (kx_r1 ) (packed2 (by decide) (by decide))) (fun _ => rfl)) (.inl rfl))

/-- Load it. -/
abbrev ldkx_r2 (R : Refs)  : Prog (TpuEff nD τ sig (Elt F) Λ₀ .tc) (Vec F S96x1792 .fp8e4m3) :=
  Prog.lift (.load R.kx (kx_r2 ).toLoadRect (View.loadsAt_vmem h_S96x1792))

/-- Store there. -/
abbrev stkx_r2 (R : Refs)  (w : Vec F S96x1792 .fp8e4m3) : Prog (TpuEff nD τ sig (Elt F) Λ₀ .tc) PUnit :=
  Prog.lift (.store R.kx (kx_r2 ) w Finset.univ (View.stores_vmem h_S96x1792 (R.hkx.storeExact_slice rfl (kx_r2 ) (packed2 (by decide) (by decide))) (fun _ => rfl)) (.inl rfl))

/-- Load it. -/
abbrev ldv_r0 (R : Refs)  : Prog (TpuEff nD τ sig (Elt F) Λ₀ .tc) (Vec F S1x160x1792 .fp8e4m3) :=
  Prog.lift (.load R.v (v_r0 ).toLoadRect (View.loadsAt_vmem h_S1x160x1792))

/-- Load it. -/
abbrev ldvx_r1 (R : Refs)  : Prog (TpuEff nD τ sig (Elt F) Λ₀ .tc) (Vec F S160x1792 .bf16) :=
  Prog.lift (.load R.vx (vx_r1 ).toLoadRect (View.loadsAt_vmem h_S160x1792))

/-- Store there. -/
abbrev stvx_r1 (R : Refs)  (w : Vec F S160x1792 .bf16) : Prog (TpuEff nD τ sig (Elt F) Λ₀ .tc) PUnit :=
  Prog.lift (.store R.vx (vx_r1 ) w Finset.univ (View.stores_vmem h_S160x1792 (R.hvx.storeExact_slice rfl (vx_r1 ) (packed2 (by decide) (by decide))) (fun _ => rfl)) (.inl rfl))

/-- Load it. -/
abbrev ldvx_r2 (R : Refs)  : Prog (TpuEff nD τ sig (Elt F) Λ₀ .tc) (Vec F S96x1792 .bf16) :=
  Prog.lift (.load R.vx (vx_r2 ).toLoadRect (View.loadsAt_vmem h_S96x1792))

/-- Store there. -/
abbrev stvx_r2 (R : Refs)  (w : Vec F S96x1792 .bf16) : Prog (TpuEff nD τ sig (Elt F) Λ₀ .tc) PUnit :=
  Prog.lift (.store R.vx (vx_r2 ) w Finset.univ (View.stores_vmem h_S96x1792 (R.hvx.storeExact_slice rfl (vx_r2 ) (packed2 (by decide) (by decide))) (fun _ => rfl)) (.inl rfl))

/-- The program of the tables of a row block of one head. -/
def prepP (R : Refs) (t : grid0.Coords) (inv : F .f32) (i : ℕ) (hi : i < 7) (h : ℕ) (hh : h < 4) (rest : BProg F) : BProg F := do
  let dos ← (lddos_r0 R i hi)
  let qs ← smemLoad R.qs (Rect.unit (s := S24) (k0_off2 t (BitVec.ofNat 32 h)) S1.size (k0_off2_inb t ⟨h, hh⟩)) numel1_S1 rfl
  let g ← (ldg_r0 R i hi h hh)
  let o ← (ldo_r0 R i hi h hh)
  let _ ← (lddox_r0 R i hi h hh)
  stdox_r0 R i hi h hh (payDox g)
  let _ ← (lddow_r0 R i hi h hh)
  stdow_r0 R i hi h hh (payDow dos g)
  let q ← (ldq_r0 R i hi h hh)
  let _ ← (ldqx_r0 R i hi h hh)
  stqx_r0 R i hi h hh (payQx q)
  let _ ← (ldqw_r0 R i hi h hh)
  stqw_r0 R i hi h hh (payQw dos qs q)
  let lse ← (ldlse_r0 R i hi h hh)
  let _ ← (ldlsex_r0 R i hi h hh)
  stlsex_r0 R i hi h hh (payLse0 lse)
  let _ ← (lddelx_r0 R i hi h hh)
  stdelx_r0 R i hi h hh (payDel0 inv g o)
  let _ ← (ldlsex_r1 R i hi h hh)
  stlsex_r1 R i hi h hh (payLse1 lse)
  let _ ← (lddelx_r1 R i hi h hh)
  stdelx_r1 R i hi h hh (payDel1 inv g o)
  rest

/-- The program of one head of a block, the first of its row. -/
def headSetP (R : Refs) (t : grid0.Coords) (ks : Elt F .f32) (mask : Bool) (i : ℕ) (hi : i < 7) (j : ℕ) (hj : j < 7) (h : ℕ) (hh : h < 4) (rest : BProg F) : BProg F := do
  let qs ← smemLoad R.qs (Rect.unit (s := S24) (k0_off2 t (BitVec.ofNat 32 h)) S1.size (k0_off2_inb t ⟨h, hh⟩)) numel1_S1 rfl
  let qx ← (ldqx_r0 R i hi h hh)
  let kx ← (ldkx_r0 R j hj)
  let lsex ← (ldlsex_r2 R i hi h hh)
  let dox ← (lddox_r0 R i hi h hh)
  let vx ← (ldvx_r0 R j hj)
  let delx ← (lddelx_r2 R i hi h hh)
  let _ ← (ldpb_r0 R i hi j hj h hh)
  stpb_r0 R i hi j hj h hh (payPb (probs mask ks qs qx kx lsex))
  let _ ← (lddsb_r0 R i hi j hj h hh)
  stdsb_r0 R i hi j hj h hh (payDsb (payDs (probs mask ks qs qx kx lsex) dox vx delx))
  let kb ← (ldkb_r0 R j hj)
  let _ ← (lddqa_r0 R i hi h hh)
  stdqa_r0 R i hi h hh (payDqSet (payDs (probs mask ks qs qx kx lsex) dox vx delx) kb)
  rest

/-- The program of one head of a block, not the first of its row. -/
def headAddP (R : Refs) (t : grid0.Coords) (ks : Elt F .f32) (mask : Bool) (i : ℕ) (hi : i < 7) (j : ℕ) (hj : j < 7) (h : ℕ) (hh : h < 4) (rest : BProg F) : BProg F := do
  let qs ← smemLoad R.qs (Rect.unit (s := S24) (k0_off2 t (BitVec.ofNat 32 h)) S1.size (k0_off2_inb t ⟨h, hh⟩)) numel1_S1 rfl
  let qx ← (ldqx_r0 R i hi h hh)
  let kx ← (ldkx_r0 R j hj)
  let lsex ← (ldlsex_r2 R i hi h hh)
  let dox ← (lddox_r0 R i hi h hh)
  let vx ← (ldvx_r0 R j hj)
  let delx ← (lddelx_r2 R i hi h hh)
  let _ ← (ldpb_r0 R i hi j hj h hh)
  stpb_r0 R i hi j hj h hh (payPb (probs mask ks qs qx kx lsex))
  let _ ← (lddsb_r0 R i hi j hj h hh)
  stdsb_r0 R i hi j hj h hh (payDsb (payDs (probs mask ks qs qx kx lsex) dox vx delx))
  let kb ← (ldkb_r0 R j hj)
  let dqa ← (lddqa_r0 R i hi h hh)
  let _ ← (lddqa_r0 R i hi h hh)
  stdqa_r0 R i hi h hh (payDqAdd (payDs (probs mask ks qs qx kx lsex) dox vx delx) kb dqa)
  rest

/-- The program of the key and value gradients of a block, the first of its column. -/
def tailSetP (R : Refs) (i : ℕ) (hi : i < 7) (j : ℕ) (hj : j < 7) (rest : BProg F) : BProg F := do
  let dow ← (lddow_r1 R i hi)
  let pb ← (ldpb_r1 R i hi j hj)
  let qw ← (ldqw_r1 R i hi)
  let dsb ← (lddsb_r1 R i hi j hj)
  let _ ← (lddka_r0 R j hj)
  stdka_r0 R j hj (paySet (payAcc qw dsb))
  let _ ← (lddva_r0 R j hj)
  stdva_r0 R j hj (paySet (payAcc dow pb))
  rest

/-- The program of the key and value gradients of a block, not the first of its column. -/
def tailAddP (R : Refs) (i : ℕ) (hi : i < 7) (j : ℕ) (hj : j < 7) (rest : BProg F) : BProg F := do
  let dow ← (lddow_r1 R i hi)
  let pb ← (ldpb_r1 R i hi j hj)
  let qw ← (ldqw_r1 R i hi)
  let dsb ← (lddsb_r1 R i hi j hj)
  let dka ← (lddka_r0 R j hj)
  let _ ← (lddka_r0 R j hj)
  stdka_r0 R j hj (payAdd dka (payAcc qw dsb))
  let dva ← (lddva_r0 R j hj)
  let _ ← (lddva_r0 R j hj)
  stdva_r0 R j hj (payAdd dva (payAcc dow pb))
  rest

/-- The program of the query gradients of a row block. -/
def finDqP (R : Refs) (ks vs : Elt F .f32) (i : ℕ) (hi : i < 7) (rest : BProg F) : BProg F := do
  let cos ← (ldcos_r0 R i hi)
  let sin ← (ldsin_r0 R i hi)
  let dos ← (lddos_r0 R i hi)
  let a0 ← (lddqa_r1 R i hi)
  let _ ← (lddq_r0 R i hi)
  stdq_r0 R i hi (payDq ks (vsEff vs) cos sin dos a0)
  let a1 ← (lddqa_r2 R i hi)
  let _ ← (lddq_r1 R i hi)
  stdq_r1 R i hi (payDq ks (vsEff vs) cos sin dos a1)
  let a2 ← (lddqa_r3 R i hi)
  let _ ← (lddq_r2 R i hi)
  stdq_r2 R i hi (payDq ks (vsEff vs) cos sin dos a2)
  let a3 ← (lddqa_r4 R i hi)
  let _ ← (lddq_r3 R i hi)
  stdq_r3 R i hi (payDq ks (vsEff vs) cos sin dos a3)
  rest

/-- The program of the key and value gradients of a column block. -/
def finKvP (R : Refs) (vs : Elt F .f32) (j : ℕ) (hj : j < 7) (rest : BProg F) : BProg F := do
  let cos ← (ldcos_r1 R j hj)
  let sin ← (ldsin_r1 R j hj)
  let dka ← (lddka_r0 R j hj)
  let _ ← (lddk_r0 R j hj)
  stdk_r0 R j hj (payDk (vsEff vs) cos sin dka)
  let dva ← (lddva_r0 R j hj)
  let _ ← (lddv_r0 R j hj)
  stdv_r0 R j hj (payDv dva)
  rest

/-- The program of the copies of keys and values. -/
def init1P (R : Refs) (vs : Elt F .f32) (rest : BProg F) : BProg F := do
  let k7 ← (ldk_r0 R )
  let _ ← (ldkb_r1 R )
  stkb_r1 R  (payKb k7)
  let k13 ← (ldk_r0 R )
  let _ ← (ldkx_r1 R )
  stkx_r1 R  (payKx k13)
  let _ ← (ldkx_r2 R )
  stkx_r2 R  (payKx0)
  let v22 ← (ldv_r0 R )
  let _ ← (ldvx_r1 R )
  stvx_r1 R  (payVx vs v22)
  let _ ← (ldvx_r2 R )
  stvx_r2 R  (payVx0)
  rest

/-- One head of a block. -/
def headP (R : Refs) (t : grid0.Coords) (ks : Elt F .f32) (i : ℕ) (hi : i < 7) (j : ℕ) (hj : j < 7) (h : ℕ) (hh : h < 4) (rest : BProg F) : BProg F :=
  match Nat.beq j 0 with
  | true => headSetP R t ks (Nat.beq i j) i hi j hj h hh rest
  | false => headAddP R t ks (Nat.beq i j) i hi j hj h hh rest

/-- The end of a block. -/
def tailP (R : Refs) (i : ℕ) (hi : i < 7) (j : ℕ) (hj : j < 7) (rest : BProg F) : BProg F :=
  match Nat.beq i j with
  | true => tailSetP R i hi j hj rest
  | false => tailAddP R i hi j hj rest

/-- The first heads of a block. -/
def headsP (R : Refs) (t : grid0.Coords) (ks : Elt F .f32) (i : ℕ) (hi : i < 7) (j : ℕ) (hj : j < 7) : (n : ℕ) → n ≤ 4 → BProg F → BProg F
  | 0, _, rest => rest
  | n + 1, hn, rest => headsP R t ks i hi j hj n (Nat.le_of_succ_le hn) (headP R t ks i hi j hj n hn rest)

/-- The first blocks of a row. -/
def blocksP (R : Refs) (t : grid0.Coords) (ks : Elt F .f32) (i : ℕ) (hi : i < 7) : (n : ℕ) → n ≤ 7 → BProg F → BProg F
  | 0, _, rest => rest
  | n + 1, hn, rest => blocksP R t ks i hi n (Nat.le_of_succ_le hn) (headsP R t ks i hi n hn 4 le_rfl (tailP R i hi n hn rest))

/-- The first preparations of a row. -/
def prepsP (R : Refs) (t : grid0.Coords) (inv : F .f32) (i : ℕ) (hi : i < 7) : (n : ℕ) → n ≤ 4 → BProg F → BProg F
  | 0, _, rest => rest
  | n + 1, hn, rest => prepsP R t inv i hi n (Nat.le_of_succ_le hn) (prepP R t inv i hi n hn rest)

/-- The first rows. -/
def rowsP (R : Refs) (t : grid0.Coords) (ks vs : Elt F .f32) : (n : ℕ) → n ≤ 7 → BProg F → BProg F
  | 0, _, rest => rest
  | n + 1, hn, rest => rowsP R t ks vs n (Nat.le_of_succ_le hn) (prepsP R t (invVs vs) n hn 4 le_rfl (blocksP R t ks n hn (n + 1) hn (finDqP R ks vs n hn rest)))

/-- The first column finishes. -/
def colsP (R : Refs) (vs : Elt F .f32) : (n : ℕ) → n ≤ 7 → BProg F → BProg F
  | 0, _, rest => rest
  | n + 1, hn, rest => colsP R vs n (Nat.le_of_succ_le hn) (finKvP R vs n hn rest)

/-- The whole body. -/
def bodyP (R : Refs) (t : grid0.Coords) : BProg F := do
  let ks ← smemLoad R.ks (Rect.unit (s := S6) (k0_off1 t) S1.size (k0_off1_inb t)) numel1_S1 rfl
  let vs ← smemLoad R.vs (Rect.unit (s := S6) (k0_off1 t) S1.size (k0_off1_inb t)) numel1_S1 rfl
  init1P R vs (rowsP R t ks vs 7 le_rfl (colsP R vs 7 le_rfl (.ret ⟨⟩)))

end Cert.KernelIdeal.Body
-- ==== Proof.Body.Eq.lean ====
/- The printed body is the program of pieces. -/
module

public import proofs.«01_k».proof.Proof.Body.Pieces

public import Idealize.ShloMosaic.Lib.Tactic

@[expose] public section

set_option synthInstance.maxSize 4096

noncomputable section

namespace Cert.KernelIdeal.Body

open Idealize.ShloMosaic Idealize.ShloMosaic.Tactic Idealize.SL.Sem
open Cert.KernelIdeal Facts₀ Facts

variable {F : FTy → Type} [FloatOps F] [Named F]

/-- The printed body is the program of pieces. -/
theorem body_eq (R : Refs) (t : grid0.Coords) :
    cc0_gqa_bwd (F := F) t R.qs R.hqs R.ks R.hks R.vs R.hvs R.q R.hq R.k R.hk R.v R.hv R.g R.hg R.o R.ho R.lse R.hlse R.dos R.hdos R.cos R.hcos R.sin R.hsin R.dq R.hdq R.dk R.hdk R.dv R.hdv R.qx R.hqx R.dox R.hdox R.lsex R.hlsex R.delx R.hdelx R.dow R.hdow R.qw R.hqw R.kx R.hkx R.vx R.hvx R.kb R.hkb R.dqa R.hdqa R.dka R.hdka R.dva R.hdva R.pb R.hpb R.dsb R.hdsb = bodyP R t := by
  sl_kernel_rfl

end Cert.KernelIdeal.Body
-- ==== Proof.Body.Rules.lean ====
/- Reading and storing one of the buffers of the body, the others kept. -/
module

public import proofs.«01_k».proof.Proof.Body.Eq
public import proofs.«01_k».proof.Proof.Body.Steps
public import proofs.«01_k».proof.Proof.Gen.KernelIdeal.Frame.Runs

@[expose] public section

set_option synthInstance.maxSize 4096

noncomputable section

namespace Cert.KernelIdeal.Body

open Idealize.ShloMosaic Idealize.SL.Sem
open Cert.KernelIdeal Facts₀ Facts
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

variable (c : Dev nD) (R : Refs)

/-- The buffers, whole, at what the state says. -/
def Holds (s : State F) : sProp 𝕄 :=
  iprop(owns (c : Thread nD τ) R.qs fullShare s.qs ∗ owns (c : Thread nD τ) R.ks fullShare s.ks ∗ owns (c : Thread nD τ) R.vs fullShare s.vs ∗ owns (c : Thread nD τ) R.q fullShare s.q ∗ owns (c : Thread nD τ) R.k fullShare s.k ∗ owns (c : Thread nD τ) R.v fullShare s.v ∗ owns (c : Thread nD τ) R.g fullShare s.g ∗ owns (c : Thread nD τ) R.o fullShare s.o ∗ owns (c : Thread nD τ) R.lse fullShare s.lse ∗ owns (c : Thread nD τ) R.dos fullShare s.dos ∗ owns (c : Thread nD τ) R.cos fullShare s.cos ∗ owns (c : Thread nD τ) R.sin fullShare s.sin ∗ owns (c : Thread nD τ) R.dq fullShare s.dq ∗ owns (c : Thread nD τ) R.dk fullShare s.dk ∗ owns (c : Thread nD τ) R.dv fullShare s.dv ∗ owns (c : Thread nD τ) R.qx fullShare s.qx ∗ owns (c : Thread nD τ) R.dox fullShare s.dox ∗ owns (c : Thread nD τ) R.lsex fullShare s.lsex ∗ owns (c : Thread nD τ) R.delx fullShare s.delx ∗ owns (c : Thread nD τ) R.dow fullShare s.dow ∗ owns (c : Thread nD τ) R.qw fullShare s.qw ∗ owns (c : Thread nD τ) R.kx fullShare s.kx ∗ owns (c : Thread nD τ) R.vx fullShare s.vx ∗ owns (c : Thread nD τ) R.kb fullShare s.kb ∗ owns (c : Thread nD τ) R.dqa fullShare s.dqa ∗ owns (c : Thread nD τ) R.dka fullShare s.dka ∗ owns (c : Thread nD τ) R.dva fullShare s.dva ∗ owns (c : Thread nD τ) R.pb fullShare s.pb ∗ owns (c : Thread nD τ) R.dsb fullShare s.dsb)

/-- One conjunct of an assertion taken out, and put back at any value. -/
def Focus {V : Type} (P : sProp 𝕄) (O : V → sProp 𝕄) (v : V) (P' : V → sProp 𝕄) : Prop :=
  P ⊢ iprop(O v ∗ (∀ w, O w -∗ P' w))

theorem focus_last {V : Type} {O : V → sProp 𝕄} {v : V} : Focus (O v) O v O := by
  unfold Focus
  iintro H
  isplitl [H]
  · iexact H
  · iintro %w Hw
    iexact Hw

theorem focus_head {V : Type} {O : V → sProp 𝕄} {v : V} {P : sProp 𝕄} :
    Focus iprop(O v ∗ P) O v (fun w => iprop(O w ∗ P)) := by
  unfold Focus
  iintro ⟨H, HP⟩
  isplitl [H]
  · iexact H
  · iintro %w Hw
    isplitl [Hw]
    · iexact Hw
    · iexact HP

theorem focus_tail {V : Type} {O : V → sProp 𝕄} {v : V} {A P : sProp 𝕄} {P' : V → sProp 𝕄} (h : Focus P O v P') :
    Focus iprop(A ∗ P) O v (fun w => iprop(A ∗ P' w)) := by
  unfold Focus at *
  iintro ⟨HA, HP⟩
  ihave H := h $$ HP
  icases H with ⟨H, HP⟩
  isplitl [H]
  · iexact H
  · iintro %w Hw
    isplitl [HA]
    · iexact HA
    · iapply HP
      iexact Hw

/-- A weakest precondition of a program of the body. -/
abbrev Wp (E : Set ℕ) (p : BProg F) (K : PUnit.{1} → sProp 𝕄) : sProp 𝕄 :=
  wp frame (wpE (defs₀ (F := F)) Variants.none c none) E p K

variable {c}
variable {E : Set ℕ}

theorem load_of_focus {K : PUnit.{1} → sProp 𝕄} {sh : Shape} {e : EltTy} {cs : CoreSpace} {m : Memref sig .tc cs sh e} {v : Vec F sh e} {P : sProp 𝕄}
    {P' : Vec F sh e → sProp 𝕄} (hf : Focus P (fun w => owns (c : Thread nD τ) m fullShare w) v P') (hP : P' v = P)
    {r : LoadRect sh} {hl : m.view.LoadsAt r} {k : (r.shape.Idx → Elt F e) → BProg F}
    (h : P ⊢ Wp c E (k (fun x => v (r.idx x))) K) : P ⊢ Wp c E (.op (.load m r hl) k) K := by
  unfold Focus at hf
  refine Idealize.SL.BI.BIBase.Entails.trans hf ?_
  beta_reduce
  unfold owns
  iintro ⟨⟨%f, %hf, H⟩, HP⟩
  have hrd : m.view.readAt (Elt F) r f = fun x => v (r.idx x) := by subst hf; rfl
  have hS : m.view.setOn r.set ⊆ m.view.set := m.view.setOn_subset_set _
  iapply (Idealize.ShloMosaic.wp_load (Q := K) (defs := defs₀ (F := F)) Variants.none (c : Thread nD τ) none E (hl := hl) (k := k) (f := f) (q := fullShare) hS) $$ H

  iintro H
  rw [hrd]
  iapply h
  rw [← hP]
  iapply HP
  iexists f
  isplitr
  · ipureintro; exact hf
  · iexact H

theorem read_write_up {cs : CoreSpace} {sh : Shape} {e : EltTy} (v : View sig .tc cs sh e) (r : Rect sh) (f : v.ty.Contents (Elt F))
    (w : r.shape.Idx → Elt F e) :
    v.read (Elt F) ((v.slice r).write (Elt F) f w Finset.univ) = up r w (v.read (Elt F) f) := by
  funext y
  unfold up
  split
  · rename_i h
    have hy := h.choose_spec
    conv_lhs => rw [← hy]
    exact View.read_slice_write_emb r f w (Finset.mem_univ _)
  · rename_i h
    refine View.read_slice_write_of_not_mem r f w _ fun hm => h ?_
    obtain ⟨x, -, hx⟩ := Finset.mem_map.mp hm
    exact ⟨x, hx⟩

theorem store_of_focus {K : PUnit.{1} → sProp 𝕄} {sh : Shape} {e : EltTy} {cs : CoreSpace} {m : Memref sig .tc cs sh e} {v : Vec F sh e} {P : sProp 𝕄}
    {P' : Vec F sh e → sProp 𝕄} (hf : Focus P (fun w => owns (c : Thread nD τ) m fullShare w) v P')
    {r : Rect sh} {w : r.shape.Idx → Elt F e} {hx : (m.access r).Stores Finset.univ} {hm} {k : PUnit → BProg F}
    (h : P' (up r w v) ⊢ Wp c E (k ⟨⟩) K) : P ⊢ Wp c E (.op (.store m r w Finset.univ hx hm) k) K := by
  unfold Focus at hf
  refine Idealize.SL.BI.BIBase.Entails.trans hf ?_
  beta_reduce
  unfold owns
  iintro ⟨⟨%f, %hf, H⟩, HP⟩
  have hrd := read_write_up m.view r f w
  rw [hf] at hrd
  have hS : (m.access r).setOn Finset.univ ⊆ m.view.set := ((m.view.slice r).setOn_subset_set _).trans (m.view.set_slice_subset r)
  iapply (Idealize.ShloMosaic.wp_store (Q := K) (defs := defs₀ (F := F)) Variants.none (c : Thread nD τ) none E (w := w) (hx := hx) (hm := hm) (k := k) (f := f) hS) $$ H

  iintro H
  iapply h
  iapply HP
  iexists _
  isplitr
  · ipureintro; exact hrd
  · iexact H

theorem focus_qs {s : State F} : Focus (Holds c R s) (fun w => owns (c : Thread nD τ) R.qs fullShare w) s.qs
    (fun w => Holds c R { s with qs := w }) :=
  focus_head

theorem sm_qs {K : PUnit.{1} → sProp 𝕄} {s : State F} {r : Rect S24} {h1 : r.shape.numel = 1} {hp} {k : Elt F .f32 → BProg F}
    (h : Holds c R s ⊢ Wp c E (k (rd1 r h1 s.qs)) K) : Holds c R s ⊢ Wp c E (smemLoad R.qs r h1 hp >>= k) K :=
  load_of_focus (focus_qs R) rfl h

theorem focus_ks {s : State F} : Focus (Holds c R s) (fun w => owns (c : Thread nD τ) R.ks fullShare w) s.ks
    (fun w => Holds c R { s with ks := w }) :=
  focus_tail (focus_head)

theorem sm_ks {K : PUnit.{1} → sProp 𝕄} {s : State F} {r : Rect S6} {h1 : r.shape.numel = 1} {hp} {k : Elt F .f32 → BProg F}
    (h : Holds c R s ⊢ Wp c E (k (rd1 r h1 s.ks)) K) : Holds c R s ⊢ Wp c E (smemLoad R.ks r h1 hp >>= k) K :=
  load_of_focus (focus_ks R) rfl h

theorem focus_vs {s : State F} : Focus (Holds c R s) (fun w => owns (c : Thread nD τ) R.vs fullShare w) s.vs
    (fun w => Holds c R { s with vs := w }) :=
  focus_tail (focus_tail (focus_head))

theorem sm_vs {K : PUnit.{1} → sProp 𝕄} {s : State F} {r : Rect S6} {h1 : r.shape.numel = 1} {hp} {k : Elt F .f32 → BProg F}
    (h : Holds c R s ⊢ Wp c E (k (rd1 r h1 s.vs)) K) : Holds c R s ⊢ Wp c E (smemLoad R.vs r h1 hp >>= k) K :=
  load_of_focus (focus_vs R) rfl h

theorem focus_q {s : State F} : Focus (Holds c R s) (fun w => owns (c : Thread nD τ) R.q fullShare w) s.q
    (fun w => Holds c R { s with q := w }) :=
  focus_tail (focus_tail (focus_tail (focus_head)))

theorem ld_q {K : PUnit.{1} → sProp 𝕄} {s : State F} {r : Rect S4x160x1792} {hl} {k : Vec F r.shape .fp8e4m3 → BProg F}
    (h : Holds c R s ⊢ Wp c E (k (rd r s.q)) K) : Holds c R s ⊢ Wp c E (Prog.lift (.load R.q r.toLoadRect hl) >>= k) K :=
  load_of_focus (focus_q R) rfl h

theorem focus_k {s : State F} : Focus (Holds c R s) (fun w => owns (c : Thread nD τ) R.k fullShare w) s.k
    (fun w => Holds c R { s with k := w }) :=
  focus_tail (focus_tail (focus_tail (focus_tail (focus_head))))

theorem ld_k {K : PUnit.{1} → sProp 𝕄} {s : State F} {r : Rect S1x160x1792} {hl} {k : Vec F r.shape .fp8e4m3 → BProg F}
    (h : Holds c R s ⊢ Wp c E (k (rd r s.k)) K) : Holds c R s ⊢ Wp c E (Prog.lift (.load R.k r.toLoadRect hl) >>= k) K :=
  load_of_focus (focus_k R) rfl h

theorem focus_v {s : State F} : Focus (Holds c R s) (fun w => owns (c : Thread nD τ) R.v fullShare w) s.v
    (fun w => Holds c R { s with v := w }) :=
  focus_tail (focus_tail (focus_tail (focus_tail (focus_tail (focus_head)))))

theorem ld_v {K : PUnit.{1} → sProp 𝕄} {s : State F} {r : Rect S1x160x1792} {hl} {k : Vec F r.shape .fp8e4m3 → BProg F}
    (h : Holds c R s ⊢ Wp c E (k (rd r s.v)) K) : Holds c R s ⊢ Wp c E (Prog.lift (.load R.v r.toLoadRect hl) >>= k) K :=
  load_of_focus (focus_v R) rfl h

theorem focus_g {s : State F} : Focus (Holds c R s) (fun w => owns (c : Thread nD τ) R.g fullShare w) s.g
    (fun w => Holds c R { s with g := w }) :=
  focus_tail (focus_tail (focus_tail (focus_tail (focus_tail (focus_tail (focus_head))))))

theorem ld_g {K : PUnit.{1} → sProp 𝕄} {s : State F} {r : Rect S4x160x1792} {hl} {k : Vec F r.shape .fp8e5m2 → BProg F}
    (h : Holds c R s ⊢ Wp c E (k (rd r s.g)) K) : Holds c R s ⊢ Wp c E (Prog.lift (.load R.g r.toLoadRect hl) >>= k) K :=
  load_of_focus (focus_g R) rfl h

theorem focus_o {s : State F} : Focus (Holds c R s) (fun w => owns (c : Thread nD τ) R.o fullShare w) s.o
    (fun w => Holds c R { s with o := w }) :=
  focus_tail (focus_tail (focus_tail (focus_tail (focus_tail (focus_tail (focus_tail (focus_head)))))))

theorem ld_o {K : PUnit.{1} → sProp 𝕄} {s : State F} {r : Rect S4x160x1792} {hl} {k : Vec F r.shape .bf16 → BProg F}
    (h : Holds c R s ⊢ Wp c E (k (rd r s.o)) K) : Holds c R s ⊢ Wp c E (Prog.lift (.load R.o r.toLoadRect hl) >>= k) K :=
  load_of_focus (focus_o R) rfl h

theorem focus_lse {s : State F} : Focus (Holds c R s) (fun w => owns (c : Thread nD τ) R.lse fullShare w) s.lse
    (fun w => Holds c R { s with lse := w }) :=
  focus_tail (focus_tail (focus_tail (focus_tail (focus_tail (focus_tail (focus_tail (focus_tail (focus_head))))))))

theorem ld_lse {K : PUnit.{1} → sProp 𝕄} {s : State F} {r : Rect S1x4x1792} {hl} {k : Vec F r.shape .f32 → BProg F}
    (h : Holds c R s ⊢ Wp c E (k (rd r s.lse)) K) : Holds c R s ⊢ Wp c E (Prog.lift (.load R.lse r.toLoadRect hl) >>= k) K :=
  load_of_focus (focus_lse R) rfl h

theorem focus_dos {s : State F} : Focus (Holds c R s) (fun w => owns (c : Thread nD τ) R.dos fullShare w) s.dos
    (fun w => Holds c R { s with dos := w }) :=
  focus_tail (focus_tail (focus_tail (focus_tail (focus_tail (focus_tail (focus_tail (focus_tail (focus_tail (focus_head)))))))))

theorem ld_dos {K : PUnit.{1} → sProp 𝕄} {s : State F} {r : Rect S1x1792} {hl} {k : Vec F r.shape .f32 → BProg F}
    (h : Holds c R s ⊢ Wp c E (k (rd r s.dos)) K) : Holds c R s ⊢ Wp c E (Prog.lift (.load R.dos r.toLoadRect hl) >>= k) K :=
  load_of_focus (focus_dos R) rfl h

theorem focus_cos {s : State F} : Focus (Holds c R s) (fun w => owns (c : Thread nD τ) R.cos fullShare w) s.cos
    (fun w => Holds c R { s with cos := w }) :=
  focus_tail (focus_tail (focus_tail (focus_tail (focus_tail (focus_tail (focus_tail (focus_tail (focus_tail (focus_tail (focus_head))))))))))

theorem ld_cos {K : PUnit.{1} → sProp 𝕄} {s : State F} {r : Rect S80x1792} {hl} {k : Vec F r.shape .f32 → BProg F}
    (h : Holds c R s ⊢ Wp c E (k (rd r s.cos)) K) : Holds c R s ⊢ Wp c E (Prog.lift (.load R.cos r.toLoadRect hl) >>= k) K :=
  load_of_focus (focus_cos R) rfl h

theorem focus_sin {s : State F} : Focus (Holds c R s) (fun w => owns (c : Thread nD τ) R.sin fullShare w) s.sin
    (fun w => Holds c R { s with sin := w }) :=
  focus_tail (focus_tail (focus_tail (focus_tail (focus_tail (focus_tail (focus_tail (focus_tail (focus_tail (focus_tail (focus_tail (focus_head)))))))))))

theorem ld_sin {K : PUnit.{1} → sProp 𝕄} {s : State F} {r : Rect S80x1792} {hl} {k : Vec F r.shape .f32 → BProg F}
    (h : Holds c R s ⊢ Wp c E (k (rd r s.sin)) K) : Holds c R s ⊢ Wp c E (Prog.lift (.load R.sin r.toLoadRect hl) >>= k) K :=
  load_of_focus (focus_sin R) rfl h

theorem focus_dq {s : State F} : Focus (Holds c R s) (fun w => owns (c : Thread nD τ) R.dq fullShare w) s.dq
    (fun w => Holds c R { s with dq := w }) :=
  focus_tail (focus_tail (focus_tail (focus_tail (focus_tail (focus_tail (focus_tail (focus_tail (focus_tail (focus_tail (focus_tail (focus_tail (focus_head))))))))))))

theorem ld_dq {K : PUnit.{1} → sProp 𝕄} {s : State F} {r : Rect S4x160x1792} {hl} {k : Vec F r.shape .bf16 → BProg F}
    (h : Holds c R s ⊢ Wp c E (k (rd r s.dq)) K) : Holds c R s ⊢ Wp c E (Prog.lift (.load R.dq r.toLoadRect hl) >>= k) K :=
  load_of_focus (focus_dq R) rfl h

theorem st_dq {K : PUnit.{1} → sProp 𝕄} {s : State F} {r : Rect S4x160x1792} {w : Vec F r.shape .bf16} {hx hm} {k : PUnit → BProg F}
    (h : Holds c R { s with dq := up r w s.dq } ⊢ Wp c E (k ⟨⟩) K) : Holds c R s ⊢ Wp c E (Prog.lift (.store R.dq r w Finset.univ hx hm) >>= k) K :=
  store_of_focus (focus_dq R) h

theorem focus_dk {s : State F} : Focus (Holds c R s) (fun w => owns (c : Thread nD τ) R.dk fullShare w) s.dk
    (fun w => Holds c R { s with dk := w }) :=
  focus_tail (focus_tail (focus_tail (focus_tail (focus_tail (focus_tail (focus_tail (focus_tail (focus_tail (focus_tail (focus_tail (focus_tail (focus_tail (focus_head)))))))))))))

theorem ld_dk {K : PUnit.{1} → sProp 𝕄} {s : State F} {r : Rect S1x160x1792} {hl} {k : Vec F r.shape .bf16 → BProg F}
    (h : Holds c R s ⊢ Wp c E (k (rd r s.dk)) K) : Holds c R s ⊢ Wp c E (Prog.lift (.load R.dk r.toLoadRect hl) >>= k) K :=
  load_of_focus (focus_dk R) rfl h

theorem st_dk {K : PUnit.{1} → sProp 𝕄} {s : State F} {r : Rect S1x160x1792} {w : Vec F r.shape .bf16} {hx hm} {k : PUnit → BProg F}
    (h : Holds c R { s with dk := up r w s.dk } ⊢ Wp c E (k ⟨⟩) K) : Holds c R s ⊢ Wp c E (Prog.lift (.store R.dk r w Finset.univ hx hm) >>= k) K :=
  store_of_focus (focus_dk R) h

theorem focus_dv {s : State F} : Focus (Holds c R s) (fun w => owns (c : Thread nD τ) R.dv fullShare w) s.dv
    (fun w => Holds c R { s with dv := w }) :=
  focus_tail (focus_tail (focus_tail (focus_tail (focus_tail (focus_tail (focus_tail (focus_tail (focus_tail (focus_tail (focus_tail (focus_tail (focus_tail (focus_tail (focus_head))))))))))))))

theorem ld_dv {K : PUnit.{1} → sProp 𝕄} {s : State F} {r : Rect S1x160x1792} {hl} {k : Vec F r.shape .bf16 → BProg F}
    (h : Holds c R s ⊢ Wp c E (k (rd r s.dv)) K) : Holds c R s ⊢ Wp c E (Prog.lift (.load R.dv r.toLoadRect hl) >>= k) K :=
  load_of_focus (focus_dv R) rfl h

theorem st_dv {K : PUnit.{1} → sProp 𝕄} {s : State F} {r : Rect S1x160x1792} {w : Vec F r.shape .bf16} {hx hm} {k : PUnit → BProg F}
    (h : Holds c R { s with dv := up r w s.dv } ⊢ Wp c E (k ⟨⟩) K) : Holds c R s ⊢ Wp c E (Prog.lift (.store R.dv r w Finset.univ hx hm) >>= k) K :=
  store_of_focus (focus_dv R) h

theorem focus_qx {s : State F} : Focus (Holds c R s) (fun w => owns (c : Thread nD τ) R.qx fullShare w) s.qx
    (fun w => Holds c R { s with qx := w }) :=
  focus_tail (focus_tail (focus_tail (focus_tail (focus_tail (focus_tail (focus_tail (focus_tail (focus_tail (focus_tail (focus_tail (focus_tail (focus_tail (focus_tail (focus_tail (focus_head)))))))))))))))

theorem ld_qx {K : PUnit.{1} → sProp 𝕄} {s : State F} {r : Rect S7x1024x256} {hl} {k : Vec F r.shape .fp8e4m3 → BProg F}
    (h : Holds c R s ⊢ Wp c E (k (rd r s.qx)) K) : Holds c R s ⊢ Wp c E (Prog.lift (.load R.qx r.toLoadRect hl) >>= k) K :=
  load_of_focus (focus_qx R) rfl h

theorem st_qx {K : PUnit.{1} → sProp 𝕄} {s : State F} {r : Rect S7x1024x256} {w : Vec F r.shape .fp8e4m3} {hx hm} {k : PUnit → BProg F}
    (h : Holds c R { s with qx := up r w s.qx } ⊢ Wp c E (k ⟨⟩) K) : Holds c R s ⊢ Wp c E (Prog.lift (.store R.qx r w Finset.univ hx hm) >>= k) K :=
  store_of_focus (focus_qx R) h

theorem focus_dox {s : State F} : Focus (Holds c R s) (fun w => owns (c : Thread nD τ) R.dox fullShare w) s.dox
    (fun w => Holds c R { s with dox := w }) :=
  focus_tail (focus_tail (focus_tail (focus_tail (focus_tail (focus_tail (focus_tail (focus_tail (focus_tail (focus_tail (focus_tail (focus_tail (focus_tail (focus_tail (focus_tail (focus_tail (focus_head))))))))))))))))

theorem ld_dox {K : PUnit.{1} → sProp 𝕄} {s : State F} {r : Rect S7x1024x256} {hl} {k : Vec F r.shape .bf16 → BProg F}
    (h : Holds c R s ⊢ Wp c E (k (rd r s.dox)) K) : Holds c R s ⊢ Wp c E (Prog.lift (.load R.dox r.toLoadRect hl) >>= k) K :=
  load_of_focus (focus_dox R) rfl h

theorem st_dox {K : PUnit.{1} → sProp 𝕄} {s : State F} {r : Rect S7x1024x256} {w : Vec F r.shape .bf16} {hx hm} {k : PUnit → BProg F}
    (h : Holds c R { s with dox := up r w s.dox } ⊢ Wp c E (k ⟨⟩) K) : Holds c R s ⊢ Wp c E (Prog.lift (.store R.dox r w Finset.univ hx hm) >>= k) K :=
  store_of_focus (focus_dox R) h

theorem focus_lsex {s : State F} : Focus (Holds c R s) (fun w => owns (c : Thread nD τ) R.lsex fullShare w) s.lsex
    (fun w => Holds c R { s with lsex := w }) :=
  focus_tail (focus_tail (focus_tail (focus_tail (focus_tail (focus_tail (focus_tail (focus_tail (focus_tail (focus_tail (focus_tail (focus_tail (focus_tail (focus_tail (focus_tail (focus_tail (focus_tail (focus_head)))))))))))))))))

theorem ld_lsex {K : PUnit.{1} → sProp 𝕄} {s : State F} {r : Rect S7x1024x128} {hl} {k : Vec F r.shape .f32 → BProg F}
    (h : Holds c R s ⊢ Wp c E (k (rd r s.lsex)) K) : Holds c R s ⊢ Wp c E (Prog.lift (.load R.lsex r.toLoadRect hl) >>= k) K :=
  load_of_focus (focus_lsex R) rfl h

theorem st_lsex {K : PUnit.{1} → sProp 𝕄} {s : State F} {r : Rect S7x1024x128} {w : Vec F r.shape .f32} {hx hm} {k : PUnit → BProg F}
    (h : Holds c R { s with lsex := up r w s.lsex } ⊢ Wp c E (k ⟨⟩) K) : Holds c R s ⊢ Wp c E (Prog.lift (.store R.lsex r w Finset.univ hx hm) >>= k) K :=
  store_of_focus (focus_lsex R) h

theorem focus_delx {s : State F} : Focus (Holds c R s) (fun w => owns (c : Thread nD τ) R.delx fullShare w) s.delx
    (fun w => Holds c R { s with delx := w }) :=
  focus_tail (focus_tail (focus_tail (focus_tail (focus_tail (focus_tail (focus_tail (focus_tail (focus_tail (focus_tail (focus_tail (focus_tail (focus_tail (focus_tail (focus_tail (focus_tail (focus_tail (focus_tail (focus_head))))))))))))))))))

theorem ld_delx {K : PUnit.{1} → sProp 𝕄} {s : State F} {r : Rect S7x1024x128} {hl} {k : Vec F r.shape .f32 → BProg F}
    (h : Holds c R s ⊢ Wp c E (k (rd r s.delx)) K) : Holds c R s ⊢ Wp c E (Prog.lift (.load R.delx r.toLoadRect hl) >>= k) K :=
  load_of_focus (focus_delx R) rfl h

theorem st_delx {K : PUnit.{1} → sProp 𝕄} {s : State F} {r : Rect S7x1024x128} {w : Vec F r.shape .f32} {hx hm} {k : PUnit → BProg F}
    (h : Holds c R { s with delx := up r w s.delx } ⊢ Wp c E (k ⟨⟩) K) : Holds c R s ⊢ Wp c E (Prog.lift (.store R.delx r w Finset.univ hx hm) >>= k) K :=
  store_of_focus (focus_delx R) h

theorem focus_dow {s : State F} : Focus (Holds c R s) (fun w => owns (c : Thread nD τ) R.dow fullShare w) s.dow
    (fun w => Holds c R { s with dow := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_head)))))))))))))))))))

theorem ld_dow {K : PUnit.{1} → sProp 𝕄} {s : State F} {r : Rect S7x160x1024} {hl} {k : Vec F r.shape .bf16 → BProg F}
    (h : Holds c R s ⊢ Wp c E (k (rd r s.dow)) K) : Holds c R s ⊢ Wp c E (Prog.lift (.load R.dow r.toLoadRect hl) >>= k) K :=
  load_of_focus (focus_dow R) rfl h

theorem st_dow {K : PUnit.{1} → sProp 𝕄} {s : State F} {r : Rect S7x160x1024} {w : Vec F r.shape .bf16} {hx hm} {k : PUnit → BProg F}
    (h : Holds c R { s with dow := up r w s.dow } ⊢ Wp c E (k ⟨⟩) K) : Holds c R s ⊢ Wp c E (Prog.lift (.store R.dow r w Finset.univ hx hm) >>= k) K :=
  store_of_focus (focus_dow R) h

theorem focus_qw {s : State F} : Focus (Holds c R s) (fun w => owns (c : Thread nD τ) R.qw fullShare w) s.qw
    (fun w => Holds c R { s with qw := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_head))))))))))))))))))))

theorem ld_qw {K : PUnit.{1} → sProp 𝕄} {s : State F} {r : Rect S7x160x1024} {hl} {k : Vec F r.shape .bf16 → BProg F}
    (h : Holds c R s ⊢ Wp c E (k (rd r s.qw)) K) : Holds c R s ⊢ Wp c E (Prog.lift (.load R.qw r.toLoadRect hl) >>= k) K :=
  load_of_focus (focus_qw R) rfl h

theorem st_qw {K : PUnit.{1} → sProp 𝕄} {s : State F} {r : Rect S7x160x1024} {w : Vec F r.shape .bf16} {hx hm} {k : PUnit → BProg F}
    (h : Holds c R { s with qw := up r w s.qw } ⊢ Wp c E (k ⟨⟩) K) : Holds c R s ⊢ Wp c E (Prog.lift (.store R.qw r w Finset.univ hx hm) >>= k) K :=
  store_of_focus (focus_qw R) h

theorem focus_kx {s : State F} : Focus (Holds c R s) (fun w => owns (c : Thread nD τ) R.kx fullShare w) s.kx
    (fun w => Holds c R { s with kx := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head)))))))))))))))))))))

theorem ld_kx {K : PUnit.{1} → sProp 𝕄} {s : State F} {r : Rect S256x1792} {hl} {k : Vec F r.shape .fp8e4m3 → BProg F}
    (h : Holds c R s ⊢ Wp c E (k (rd r s.kx)) K) : Holds c R s ⊢ Wp c E (Prog.lift (.load R.kx r.toLoadRect hl) >>= k) K :=
  load_of_focus (focus_kx R) rfl h

theorem st_kx {K : PUnit.{1} → sProp 𝕄} {s : State F} {r : Rect S256x1792} {w : Vec F r.shape .fp8e4m3} {hx hm} {k : PUnit → BProg F}
    (h : Holds c R { s with kx := up r w s.kx } ⊢ Wp c E (k ⟨⟩) K) : Holds c R s ⊢ Wp c E (Prog.lift (.store R.kx r w Finset.univ hx hm) >>= k) K :=
  store_of_focus (focus_kx R) h

theorem focus_vx {s : State F} : Focus (Holds c R s) (fun w => owns (c : Thread nD τ) R.vx fullShare w) s.vx
    (fun w => Holds c R { s with vx := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head))))))))))))))))))))))

theorem ld_vx {K : PUnit.{1} → sProp 𝕄} {s : State F} {r : Rect S256x1792} {hl} {k : Vec F r.shape .bf16 → BProg F}
    (h : Holds c R s ⊢ Wp c E (k (rd r s.vx)) K) : Holds c R s ⊢ Wp c E (Prog.lift (.load R.vx r.toLoadRect hl) >>= k) K :=
  load_of_focus (focus_vx R) rfl h

theorem st_vx {K : PUnit.{1} → sProp 𝕄} {s : State F} {r : Rect S256x1792} {w : Vec F r.shape .bf16} {hx hm} {k : PUnit → BProg F}
    (h : Holds c R { s with vx := up r w s.vx } ⊢ Wp c E (k ⟨⟩) K) : Holds c R s ⊢ Wp c E (Prog.lift (.store R.vx r w Finset.univ hx hm) >>= k) K :=
  store_of_focus (focus_vx R) h

theorem focus_kb {s : State F} : Focus (Holds c R s) (fun w => owns (c : Thread nD τ) R.kb fullShare w) s.kb
    (fun w => Holds c R { s with kb := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head)))))))))))))))))))))))

theorem ld_kb {K : PUnit.{1} → sProp 𝕄} {s : State F} {r : Rect S160x1792} {hl} {k : Vec F r.shape .bf16 → BProg F}
    (h : Holds c R s ⊢ Wp c E (k (rd r s.kb)) K) : Holds c R s ⊢ Wp c E (Prog.lift (.load R.kb r.toLoadRect hl) >>= k) K :=
  load_of_focus (focus_kb R) rfl h

theorem st_kb {K : PUnit.{1} → sProp 𝕄} {s : State F} {r : Rect S160x1792} {w : Vec F r.shape .bf16} {hx hm} {k : PUnit → BProg F}
    (h : Holds c R { s with kb := up r w s.kb } ⊢ Wp c E (k ⟨⟩) K) : Holds c R s ⊢ Wp c E (Prog.lift (.store R.kb r w Finset.univ hx hm) >>= k) K :=
  store_of_focus (focus_kb R) h

theorem focus_dqa {s : State F} : Focus (Holds c R s) (fun w => owns (c : Thread nD τ) R.dqa fullShare w) s.dqa
    (fun w => Holds c R { s with dqa := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head))))))))))))))))))))))))

theorem ld_dqa {K : PUnit.{1} → sProp 𝕄} {s : State F} {r : Rect S4x160x1792} {hl} {k : Vec F r.shape .f32 → BProg F}
    (h : Holds c R s ⊢ Wp c E (k (rd r s.dqa)) K) : Holds c R s ⊢ Wp c E (Prog.lift (.load R.dqa r.toLoadRect hl) >>= k) K :=
  load_of_focus (focus_dqa R) rfl h

theorem st_dqa {K : PUnit.{1} → sProp 𝕄} {s : State F} {r : Rect S4x160x1792} {w : Vec F r.shape .f32} {hx hm} {k : PUnit → BProg F}
    (h : Holds c R { s with dqa := up r w s.dqa } ⊢ Wp c E (k ⟨⟩) K) : Holds c R s ⊢ Wp c E (Prog.lift (.store R.dqa r w Finset.univ hx hm) >>= k) K :=
  store_of_focus (focus_dqa R) h

theorem focus_dka {s : State F} : Focus (Holds c R s) (fun w => owns (c : Thread nD τ) R.dka fullShare w) s.dka
    (fun w => Holds c R { s with dka := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head)))))))))))))))))))))))))

theorem ld_dka {K : PUnit.{1} → sProp 𝕄} {s : State F} {r : Rect S160x1792} {hl} {k : Vec F r.shape .f32 → BProg F}
    (h : Holds c R s ⊢ Wp c E (k (rd r s.dka)) K) : Holds c R s ⊢ Wp c E (Prog.lift (.load R.dka r.toLoadRect hl) >>= k) K :=
  load_of_focus (focus_dka R) rfl h

theorem st_dka {K : PUnit.{1} → sProp 𝕄} {s : State F} {r : Rect S160x1792} {w : Vec F r.shape .f32} {hx hm} {k : PUnit → BProg F}
    (h : Holds c R { s with dka := up r w s.dka } ⊢ Wp c E (k ⟨⟩) K) : Holds c R s ⊢ Wp c E (Prog.lift (.store R.dka r w Finset.univ hx hm) >>= k) K :=
  store_of_focus (focus_dka R) h

theorem focus_dva {s : State F} : Focus (Holds c R s) (fun w => owns (c : Thread nD τ) R.dva fullShare w) s.dva
    (fun w => Holds c R { s with dva := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head))))))))))))))))))))))))))

theorem ld_dva {K : PUnit.{1} → sProp 𝕄} {s : State F} {r : Rect S160x1792} {hl} {k : Vec F r.shape .f32 → BProg F}
    (h : Holds c R s ⊢ Wp c E (k (rd r s.dva)) K) : Holds c R s ⊢ Wp c E (Prog.lift (.load R.dva r.toLoadRect hl) >>= k) K :=
  load_of_focus (focus_dva R) rfl h

theorem st_dva {K : PUnit.{1} → sProp 𝕄} {s : State F} {r : Rect S160x1792} {w : Vec F r.shape .f32} {hx hm} {k : PUnit → BProg F}
    (h : Holds c R { s with dva := up r w s.dva } ⊢ Wp c E (k ⟨⟩) K) : Holds c R s ⊢ Wp c E (Prog.lift (.store R.dva r w Finset.univ hx hm) >>= k) K :=
  store_of_focus (focus_dva R) h

theorem focus_pb {s : State F} : Focus (Holds c R s) (fun w => owns (c : Thread nD τ) R.pb fullShare w) s.pb
    (fun w => Holds c R { s with pb := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_head)))))))))))))))))))))))))))

theorem ld_pb {K : PUnit.{1} → sProp 𝕄} {s : State F} {r : Rect S2x1024x256} {hl} {k : Vec F r.shape .bf16 → BProg F}
    (h : Holds c R s ⊢ Wp c E (k (rd r s.pb)) K) : Holds c R s ⊢ Wp c E (Prog.lift (.load R.pb r.toLoadRect hl) >>= k) K :=
  load_of_focus (focus_pb R) rfl h

theorem st_pb {K : PUnit.{1} → sProp 𝕄} {s : State F} {r : Rect S2x1024x256} {w : Vec F r.shape .bf16} {hx hm} {k : PUnit → BProg F}
    (h : Holds c R { s with pb := up r w s.pb } ⊢ Wp c E (k ⟨⟩) K) : Holds c R s ⊢ Wp c E (Prog.lift (.store R.pb r w Finset.univ hx hm) >>= k) K :=
  store_of_focus (focus_pb R) h

theorem focus_dsb {s : State F} : Focus (Holds c R s) (fun w => owns (c : Thread nD τ) R.dsb fullShare w) s.dsb
    (fun w => Holds c R { s with dsb := w }) :=
  focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_tail (focus_last))))))))))))))))))))))))))))

theorem ld_dsb {K : PUnit.{1} → sProp 𝕄} {s : State F} {r : Rect S2x1024x256} {hl} {k : Vec F r.shape .bf16 → BProg F}
    (h : Holds c R s ⊢ Wp c E (k (rd r s.dsb)) K) : Holds c R s ⊢ Wp c E (Prog.lift (.load R.dsb r.toLoadRect hl) >>= k) K :=
  load_of_focus (focus_dsb R) rfl h

theorem st_dsb {K : PUnit.{1} → sProp 𝕄} {s : State F} {r : Rect S2x1024x256} {w : Vec F r.shape .bf16} {hx hm} {k : PUnit → BProg F}
    (h : Holds c R { s with dsb := up r w s.dsb } ⊢ Wp c E (k ⟨⟩) K) : Holds c R s ⊢ Wp c E (Prog.lift (.store R.dsb r w Finset.univ hx hm) >>= k) K :=
  store_of_focus (focus_dsb R) h

end Cert.KernelIdeal.Body
-- ==== Proof.Body.Triples.lean ====
/- Running the pieces of the body, and the whole body. -/
module

public import proofs.«01_k».proof.Proof.Body.Rules

@[expose] public section

set_option synthInstance.maxSize 4096

noncomputable section

namespace Cert.KernelIdeal.Body

open Idealize.ShloMosaic Idealize.SL.Sem
open Cert.KernelIdeal Facts₀ Facts
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

variable {c : Dev nD} {R : Refs} {E : Set ℕ}

theorem prep_run (t : grid0.Coords) (inv : F .f32) (i : ℕ) (hi : i < 7) (h : ℕ) (hh : h < 4) {K : PUnit.{1} → sProp 𝕄} {s : State F} {rest : BProg F}
    (hr : Holds c R (prepS t inv i hi h hh s) ⊢ Wp c E rest K) : Holds c R s ⊢ Wp c E (prepP R t inv i hi h hh rest) K := by
  unfold prepP
  refine ld_dos R ?_
  refine sm_qs R ?_
  refine ld_g R ?_
  refine ld_o R ?_
  refine ld_dox R ?_
  refine st_dox R ?_
  refine ld_dow R ?_
  refine st_dow R ?_
  refine ld_q R ?_
  refine ld_qx R ?_
  refine st_qx R ?_
  refine ld_qw R ?_
  refine st_qw R ?_
  refine ld_lse R ?_
  refine ld_lsex R ?_
  refine st_lsex R ?_
  refine ld_delx R ?_
  refine st_delx R ?_
  refine ld_lsex R ?_
  refine st_lsex R ?_
  refine ld_delx R ?_
  refine st_delx R ?_
  exact hr

theorem headSet_run (t : grid0.Coords) (ks : Elt F .f32) (mask : Bool) (i : ℕ) (hi : i < 7) (j : ℕ) (hj : j < 7) (h : ℕ) (hh : h < 4) {K : PUnit.{1} → sProp 𝕄} {s : State F} {rest : BProg F}
    (hr : Holds c R (headSetS t ks mask i hi j hj h hh s) ⊢ Wp c E rest K) : Holds c R s ⊢ Wp c E (headSetP R t ks mask i hi j hj h hh rest) K := by
  unfold headSetP
  refine sm_qs R ?_
  refine ld_qx R ?_
  refine ld_kx R ?_
  refine ld_lsex R ?_
  refine ld_dox R ?_
  refine ld_vx R ?_
  refine ld_delx R ?_
  refine ld_pb R ?_
  refine st_pb R ?_
  refine ld_dsb R ?_
  refine st_dsb R ?_
  refine ld_kb R ?_
  refine ld_dqa R ?_
  refine st_dqa R ?_
  exact hr

theorem headAdd_run (t : grid0.Coords) (ks : Elt F .f32) (mask : Bool) (i : ℕ) (hi : i < 7) (j : ℕ) (hj : j < 7) (h : ℕ) (hh : h < 4) {K : PUnit.{1} → sProp 𝕄} {s : State F} {rest : BProg F}
    (hr : Holds c R (headAddS t ks mask i hi j hj h hh s) ⊢ Wp c E rest K) : Holds c R s ⊢ Wp c E (headAddP R t ks mask i hi j hj h hh rest) K := by
  unfold headAddP
  refine sm_qs R ?_
  refine ld_qx R ?_
  refine ld_kx R ?_
  refine ld_lsex R ?_
  refine ld_dox R ?_
  refine ld_vx R ?_
  refine ld_delx R ?_
  refine ld_pb R ?_
  refine st_pb R ?_
  refine ld_dsb R ?_
  refine st_dsb R ?_
  refine ld_kb R ?_
  refine ld_dqa R ?_
  refine ld_dqa R ?_
  refine st_dqa R ?_
  exact hr

theorem tailSet_run (i : ℕ) (hi : i < 7) (j : ℕ) (hj : j < 7) {K : PUnit.{1} → sProp 𝕄} {s : State F} {rest : BProg F}
    (hr : Holds c R (tailSetS i hi j hj s) ⊢ Wp c E rest K) : Holds c R s ⊢ Wp c E (tailSetP R i hi j hj rest) K := by
  unfold tailSetP
  refine ld_dow R ?_
  refine ld_pb R ?_
  refine ld_qw R ?_
  refine ld_dsb R ?_
  refine ld_dka R ?_
  refine st_dka R ?_
  refine ld_dva R ?_
  refine st_dva R ?_
  exact hr

theorem tailAdd_run (i : ℕ) (hi : i < 7) (j : ℕ) (hj : j < 7) {K : PUnit.{1} → sProp 𝕄} {s : State F} {rest : BProg F}
    (hr : Holds c R (tailAddS i hi j hj s) ⊢ Wp c E rest K) : Holds c R s ⊢ Wp c E (tailAddP R i hi j hj rest) K := by
  unfold tailAddP
  refine ld_dow R ?_
  refine ld_pb R ?_
  refine ld_qw R ?_
  refine ld_dsb R ?_
  refine ld_dka R ?_
  refine ld_dka R ?_
  refine st_dka R ?_
  refine ld_dva R ?_
  refine ld_dva R ?_
  refine st_dva R ?_
  exact hr

theorem finDq_run (ks vs : Elt F .f32) (i : ℕ) (hi : i < 7) {K : PUnit.{1} → sProp 𝕄} {s : State F} {rest : BProg F}
    (hr : Holds c R (finDqS ks vs i hi s) ⊢ Wp c E rest K) : Holds c R s ⊢ Wp c E (finDqP R ks vs i hi rest) K := by
  unfold finDqP
  refine ld_cos R ?_
  refine ld_sin R ?_
  refine ld_dos R ?_
  refine ld_dqa R ?_
  refine ld_dq R ?_
  refine st_dq R ?_
  refine ld_dqa R ?_
  refine ld_dq R ?_
  refine st_dq R ?_
  refine ld_dqa R ?_
  refine ld_dq R ?_
  refine st_dq R ?_
  refine ld_dqa R ?_
  refine ld_dq R ?_
  refine st_dq R ?_
  exact hr

theorem finKv_run (vs : Elt F .f32) (j : ℕ) (hj : j < 7) {K : PUnit.{1} → sProp 𝕄} {s : State F} {rest : BProg F}
    (hr : Holds c R (finKvS vs j hj s) ⊢ Wp c E rest K) : Holds c R s ⊢ Wp c E (finKvP R vs j hj rest) K := by
  unfold finKvP
  refine ld_cos R ?_
  refine ld_sin R ?_
  refine ld_dka R ?_
  refine ld_dk R ?_
  refine st_dk R ?_
  refine ld_dva R ?_
  refine ld_dv R ?_
  refine st_dv R ?_
  exact hr

theorem init1_run (vs : Elt F .f32) {K : PUnit.{1} → sProp 𝕄} {s : State F} {rest : BProg F}
    (hr : Holds c R (init1S vs s) ⊢ Wp c E rest K) : Holds c R s ⊢ Wp c E (init1P R vs rest) K := by
  unfold init1P
  refine ld_k R ?_
  refine ld_kb R ?_
  refine st_kb R ?_
  refine ld_k R ?_
  refine ld_kx R ?_
  refine st_kx R ?_
  refine ld_kx R ?_
  refine st_kx R ?_
  refine ld_v R ?_
  refine ld_vx R ?_
  refine st_vx R ?_
  refine ld_vx R ?_
  refine st_vx R ?_
  exact hr

theorem head_run (t : grid0.Coords) (ks : Elt F .f32) (i : ℕ) (hi : i < 7) (j : ℕ) (hj : j < 7) (h : ℕ) (hh : h < 4) {K : PUnit.{1} → sProp 𝕄} {s : State F} {rest : BProg F}
    (hr : Holds c R (headS t ks i hi j hj h hh s) ⊢ Wp c E rest K) : Holds c R s ⊢ Wp c E (headP R t ks i hi j hj h hh rest) K := by
  unfold headP
  unfold headS at hr
  generalize Nat.beq j 0 = b at hr ⊢
  cases b
  · exact headAdd_run t ks _ i hi j hj h hh hr
  · exact headSet_run t ks _ i hi j hj h hh hr

theorem tail_run (i : ℕ) (hi : i < 7) (j : ℕ) (hj : j < 7) {K : PUnit.{1} → sProp 𝕄} {s : State F} {rest : BProg F}
    (hr : Holds c R (tailS i hi j hj s) ⊢ Wp c E rest K) : Holds c R s ⊢ Wp c E (tailP R i hi j hj rest) K := by
  unfold tailP
  unfold tailS at hr
  generalize Nat.beq i j = b at hr ⊢
  cases b
  · exact tailAdd_run i hi j hj hr
  · exact tailSet_run i hi j hj hr

theorem heads_run (t : grid0.Coords) (ks : Elt F .f32) (i : ℕ) (hi : i < 7) (j : ℕ) (hj : j < 7) (n : ℕ) : ∀ (hn : n ≤ 4) {K : PUnit.{1} → sProp 𝕄} {s : State F} {rest : BProg F}
    (hr : Holds c R (headsS t ks i hi j hj n hn s) ⊢ Wp c E rest K), Holds c R s ⊢ Wp c E (headsP R t ks i hi j hj n hn rest) K := by
  induction n with
  | zero => intro hn K s rest hr; exact hr
  | succ n ih => intro hn K s rest hr; exact ih _ (head_run _ _ _ _ _ _ _ _ hr)

theorem blocks_run (t : grid0.Coords) (ks : Elt F .f32) (i : ℕ) (hi : i < 7) (n : ℕ) : ∀ (hn : n ≤ 7) {K : PUnit.{1} → sProp 𝕄} {s : State F} {rest : BProg F}
    (hr : Holds c R (blocksS t ks i hi n hn s) ⊢ Wp c E rest K), Holds c R s ⊢ Wp c E (blocksP R t ks i hi n hn rest) K := by
  induction n with
  | zero => intro hn K s rest hr; exact hr
  | succ n ih => intro hn K s rest hr; exact ih _ (heads_run _ _ _ _ _ _ _ _ (tail_run _ _ _ _ hr))

theorem preps_run (t : grid0.Coords) (inv : F .f32) (i : ℕ) (hi : i < 7) (n : ℕ) : ∀ (hn : n ≤ 4) {K : PUnit.{1} → sProp 𝕄} {s : State F} {rest : BProg F}
    (hr : Holds c R (prepsS t inv i hi n hn s) ⊢ Wp c E rest K), Holds c R s ⊢ Wp c E (prepsP R t inv i hi n hn rest) K := by
  induction n with
  | zero => intro hn K s rest hr; exact hr
  | succ n ih => intro hn K s rest hr; exact ih _ (prep_run _ _ _ _ _ _ hr)

theorem rows_run (t : grid0.Coords) (ks vs : Elt F .f32) (n : ℕ) : ∀ (hn : n ≤ 7) {K : PUnit.{1} → sProp 𝕄} {s : State F} {rest : BProg F}
    (hr : Holds c R (rowsS t ks vs n hn s) ⊢ Wp c E rest K), Holds c R s ⊢ Wp c E (rowsP R t ks vs n hn rest) K := by
  induction n with
  | zero => intro hn K s rest hr; exact hr
  | succ n ih => intro hn K s rest hr; exact ih _ (preps_run _ _ _ _ _ _ (blocks_run _ _ _ _ _ _ (finDq_run _ _ _ _ hr)))

theorem cols_run (vs : Elt F .f32) (n : ℕ) : ∀ (hn : n ≤ 7) {K : PUnit.{1} → sProp 𝕄} {s : State F} {rest : BProg F}
    (hr : Holds c R (colsS vs n hn s) ⊢ Wp c E rest K), Holds c R s ⊢ Wp c E (colsP R vs n hn rest) K := by
  induction n with
  | zero => intro hn K s rest hr; exact hr
  | succ n ih => intro hn K s rest hr; exact ih _ (finKv_run _ _ _ hr)

theorem body_run (t : grid0.Coords) {K : PUnit.{1} → sProp 𝕄} {s : State F}
    (hr : Holds c R (bodyS t s) ⊢ K ⟨⟩) : Holds c R s ⊢ Wp c E (bodyP R t) K := by
  unfold bodyP
  refine sm_ks R ?_
  refine sm_vs R ?_
  refine init1_run _ (rows_run _ _ _ _ _ (cols_run _ _ _ ?_))
  exact Idealize.SL.BI.BIBase.Entails.trans hr (le_wp_ret _ _ _ _ _)

/-- Running the printed body. -/
theorem printed_run (t : grid0.Coords) {K : PUnit.{1} → sProp 𝕄} {s : State F}
    (hr : Holds c R (bodyS t s) ⊢ K ⟨⟩) :
    Holds c R s ⊢ Wp c E (cc0_gqa_bwd (F := F) t R.qs R.hqs R.ks R.hks R.vs R.hvs R.q R.hq R.k R.hk R.v R.hv R.g R.hg R.o R.ho R.lse R.hlse R.dos R.hdos R.cos R.hcos R.sin R.hsin R.dq R.hdq R.dk R.hdk R.dv R.hdv R.qx R.hqx R.dox R.hdox R.lsex R.hlsex R.delx R.hdelx R.dow R.hdow R.qw R.hqw R.kx R.hkx R.vx R.hvx R.kb R.hkb R.dqa R.hdqa R.dka R.hdka R.dva R.hdva R.pb R.hpb R.dsb R.hdsb) K := by
  rw [body_eq R t]
  exact body_run t hr

end Cert.KernelIdeal.Body
-- ==== Proof.Body.Inv.lean ====
/- The buffers of the body hold their closed forms, piece by piece. -/
module

public import proofs.«01_k».proof.Proof.Body.Closed

@[expose] public section

set_option synthInstance.maxSize 4096

noncomputable section

namespace Cert.KernelIdeal.Body

open Idealize.ShloMosaic Idealize.SL.Sem Idealize.ShloMosaic.ValueIdx
open Cert.KernelIdeal Facts₀ Facts

variable {F : FTy → Type} [FloatOps F] [Named F]

/-- Inputs and key and value tables. -/
def Fix (s : State F) := (inp s, s.kb, s.kx, s.vx)
/-- Row tables. -/
def Row (s : State F) := (s.qx, s.dox, s.lsex, s.delx, s.dow, s.qw)
/-- Key and value gradient sums. -/
def Acc (s : State F) := (s.dka, s.dva)
/-- Key and value gradients. -/
def Kv (s : State F) := (s.dk, s.dv)

variable {t : grid0.Coords} {I : Inp F}

/-- Inputs and tables are in place. -/
def Base (t : grid0.Coords) (I : Inp F) (s : State F) : Prop := Fix s = (I, KB I, KX I, VX t I)

section base
variable {s : State F} (hb : Base t I s)
include hb
theorem Base.inp : inp s = I := congrArg (fun x => x.1) hb
theorem Base.kb : s.kb = KB I := congrArg (fun x => x.2.1) hb
theorem Base.kx : s.kx = KX I := congrArg (fun x => x.2.2.1) hb
theorem Base.vx : s.vx = VX t I := congrArg (fun x => x.2.2.2) hb
theorem Base.qs : s.qs = I.qs := congrArg Inp.qs hb.inp
theorem Base.ks : s.ks = I.ks := congrArg Inp.ks hb.inp
theorem Base.vs : s.vs = I.vs := congrArg Inp.vs hb.inp
theorem Base.q : s.q = I.q := congrArg Inp.q hb.inp
theorem Base.k : s.k = I.k := congrArg Inp.k hb.inp
theorem Base.v : s.v = I.v := congrArg Inp.v hb.inp
theorem Base.g : s.g = I.g := congrArg Inp.g hb.inp
theorem Base.o : s.o = I.o := congrArg Inp.o hb.inp
theorem Base.lse : s.lse = I.lse := congrArg Inp.lse hb.inp
theorem Base.dos : s.dos = I.dos := congrArg Inp.dos hb.inp
theorem Base.cos : s.cos = I.cos := congrArg Inp.cos hb.inp
theorem Base.sin : s.sin = I.sin := congrArg Inp.sin hb.inp
end base

/-- The row tables of the first `n` heads are in place. -/
structure Tab (t : grid0.Coords) (I : Inp F) (i : ℕ) (hi : i < 7) (n : ℕ) (s : State F) : Prop where
  qx : ∀ h hh, h < n → rd (qx_r0 i hi h hh) s.qx = QX I i hi h hh
  dox : ∀ h hh, h < n → rd (dox_r0 i hi h hh) s.dox = DOX I i hi h hh
  lsex : ∀ h hh, h < n → rd (lsex_r2 i hi h hh) s.lsex = LSEX I i hi h hh
  delx : ∀ h hh, h < n → rd (delx_r2 i hi h hh) s.delx = DELX t I i hi h hh
  dow : ∀ h hh, h < n → rd (dow_r0 i hi h hh) s.dow = DOWB I i hi h hh
  qw : ∀ h hh, h < n → rd (qw_r0 i hi h hh) s.qw = QWB t I i hi h hh

theorem Tab.congr {i hi n} {s s' : State F} (h : Row s' = Row s) (ht : Tab t I i hi n s) : Tab t I i hi n s' := by
  simp only [Row, Prod.mk.injEq] at h
  obtain ⟨h1, h2, h3, h4, h5, h6⟩ := h
  exact ⟨h1 ▸ ht.qx, h2 ▸ ht.dox, h3 ▸ ht.lsex, h4 ▸ ht.delx, h5 ▸ ht.dow, h6 ▸ ht.qw⟩

/-! The first copies. -/

theorem init_base (s : State F) : Base t (inp s) (init1S (vsV t (inp s)) s) := by
  have h1 : (init1S (vsV t (inp s)) s).kb = KB (inp s) := by
    funext y
    refine (up_at (r := kb_r1) (x := ix2 (y 0) (y 1)) (ext2 ?_ ?_)).trans (congrArg _ (eq_ix2 y).symm) <;> simp
  have h2 : (init1S (vsV t (inp s)) s).kx = KX (inp s) := by
    funext y
    unfold KX
    split
    · rename_i hy
      refine (up_not fun x hx => ?_).trans (up_at (r := kx_r1) (ext2 ?_ ?_))
      · have := congrArg (fun i => (i 0 : ℕ)) hx
        simp at this
        omega
      · simp
      · simp
    · rename_i hy
      refine up_at (r := kx_r2) (ext2 ?_ ?_)
      · simp ; omega
      · simp
  have h3 : (init1S (vsV t (inp s)) s).vx = VX t (inp s) := by
    funext y
    unfold VX
    split
    · rename_i hy
      refine (up_not fun x hx => ?_).trans (up_at (r := vx_r1) (ext2 ?_ ?_))
      · have := congrArg (fun i => (i 0 : ℕ)) hx
        simp at this
        omega
      · simp
      · simp
    · rename_i hy
      refine up_at (r := vx_r2) (ext2 ?_ ?_)
      · simp ; omega
      · simp
  unfold Base Fix
  rw [h1, h2, h3]
  rfl

/-! Preparations. -/

theorem halves_rd (i : ℕ) (hi : i < 7) (h : ℕ) (hh : h < 4) {a b : Vec F S1x128x128 .f32} {v : Vec F S7x1024x128 .f32} :
    rd (lsex_r2 i hi h hh) (up (lsex_r1 i hi h hh) b (up (lsex_r0 i hi h hh) a v)) = halves a b := by
  funext y
  have hy0 : (y 0 : ℕ) < 1 := (y 0).isLt
  have hy1 : (y 1 : ℕ) < 256 := (y 1).isLt
  unfold halves rd
  split
  · rename_i hy
    refine (up_not fun x hx => ?_).trans (up_at (r := lsex_r0 i hi h hh) (ext3 ?_ ?_ ?_))
    · have := congrArg (fun i => (i 1 : ℕ)) hx
      simp at this
      omega
    · simp; omega
    · simp
    · simp
  · rename_i hy
    refine up_at (r := lsex_r1 i hi h hh) (ext3 ?_ ?_ ?_)
    · simp; omega
    · simp ; omega
    · simp

theorem prep_fix (inv : F .f32) (i : ℕ) (hi : i < 7) (h : ℕ) (hh : h < 4) (s : State F) : Fix (prepS t inv i hi h hh s) = Fix s := rfl
theorem prep_acc (inv : F .f32) (i : ℕ) (hi : i < 7) (h : ℕ) (hh : h < 4) (s : State F) : Acc (prepS t inv i hi h hh s) = Acc s := rfl
theorem prep_kv (inv : F .f32) (i : ℕ) (hi : i < 7) (h : ℕ) (hh : h < 4) (s : State F) : Kv (prepS t inv i hi h hh s) = Kv s := rfl
theorem prep_dq (inv : F .f32) (i : ℕ) (hi : i < 7) (h : ℕ) (hh : h < 4) (s : State F) : (prepS t inv i hi h hh s).dq = s.dq := rfl

theorem prep_qx (inv : F .f32) (i : ℕ) (hi : i < 7) (h : ℕ) (hh : h < 4) (s : State F) : (prepS t inv i hi h hh s).qx = up (qx_r0 i hi h hh) (QX (inp s) i hi h hh) s.qx := rfl
theorem prep_dox (inv : F .f32) (i : ℕ) (hi : i < 7) (h : ℕ) (hh : h < 4) (s : State F) : (prepS t inv i hi h hh s).dox = up (dox_r0 i hi h hh) (DOX (inp s) i hi h hh) s.dox := rfl
theorem prep_dow (inv : F .f32) (i : ℕ) (hi : i < 7) (h : ℕ) (hh : h < 4) (s : State F) : (prepS t inv i hi h hh s).dow = up (dow_r0 i hi h hh) (DOWB (inp s) i hi h hh) s.dow := rfl
theorem prep_qw (inv : F .f32) (i : ℕ) (hi : i < 7) (h : ℕ) (hh : h < 4) (s : State F) : (prepS t inv i hi h hh s).qw = up (qw_r0 i hi h hh) (QWB t (inp s) i hi h hh) s.qw := rfl
theorem prep_lsex (inv : F .f32) (i : ℕ) (hi : i < 7) (h : ℕ) (hh : h < 4) (s : State F) : (prepS t inv i hi h hh s).lsex =
    up (lsex_r1 i hi h hh) (payLse1 (rd (lse_r0 i hi h hh) s.lse)) (up (lsex_r0 i hi h hh) (payLse0 (rd (lse_r0 i hi h hh) s.lse)) s.lsex) := rfl
theorem prep_delx (inv : F .f32) (i : ℕ) (hi : i < 7) (h : ℕ) (hh : h < 4) (s : State F) : (prepS t inv i hi h hh s).delx =
    up (delx_r1 i hi h hh) (payDel1 inv (rd (g_r0 i hi h hh) s.g) (rd (o_r0 i hi h hh) s.o)) (up (delx_r0 i hi h hh) (payDel0 inv (rd (g_r0 i hi h hh) s.g) (rd (o_r0 i hi h hh) s.o)) s.delx) := rfl

theorem prep_tab {i hi n hn} {s : State F} (hb : Base t I s) (ht : Tab t I i hi n s) :
    Tab t I i hi (n + 1) (prepS t (invVs (vsV t I)) i hi n hn s) := by
  constructor
  · intro h hh hlt
    rw [prep_qx]
    rcases Nat.lt_succ_iff_lt_or_eq.mp hlt with hlt | rfl
    · exact (rd_up_of_ne (unit_ne 1 (by show 256 * h + 256 ≤ 256 * n ∨ _; omega))).trans (ht.qx h hh hlt)
    · obtain rfl := hb.inp
      exact rd_up
  · intro h hh hlt
    rw [prep_dox]
    rcases Nat.lt_succ_iff_lt_or_eq.mp hlt with hlt | rfl
    · exact (rd_up_of_ne (unit_ne 1 (by show 256 * h + 256 ≤ 256 * n ∨ _; omega))).trans (ht.dox h hh hlt)
    · obtain rfl := hb.inp
      exact rd_up
  · intro h hh hlt
    rw [prep_lsex]
    rcases Nat.lt_succ_iff_lt_or_eq.mp hlt with hlt | rfl
    · exact ((rd_up_of_ne (unit_ne 1 (by show 256 * h + 256 ≤ 256 * n + 128 ∨ _; omega))).trans (rd_up_of_ne (unit_ne 1 (by show 256 * h + 256 ≤ 256 * n ∨ _; omega)))).trans (ht.lsex h hh hlt)
    · obtain rfl := hb.inp
      exact halves_rd i hi _ hn
  · intro h hh hlt
    rw [prep_delx]
    rcases Nat.lt_succ_iff_lt_or_eq.mp hlt with hlt | rfl
    · exact ((rd_up_of_ne (unit_ne 1 (by show 256 * h + 256 ≤ 256 * n + 128 ∨ _; omega))).trans (rd_up_of_ne (unit_ne 1 (by show 256 * h + 256 ≤ 256 * n ∨ _; omega)))).trans (ht.delx h hh hlt)
    · obtain rfl := hb.inp
      exact halves_rd i hi _ hn
  · intro h hh hlt
    rw [prep_dow]
    rcases Nat.lt_succ_iff_lt_or_eq.mp hlt with hlt | rfl
    · exact (rd_up_of_ne (unit_ne 2 (by show 256 * h + 256 ≤ 256 * n ∨ _; omega))).trans (ht.dow h hh hlt)
    · obtain rfl := hb.inp
      exact rd_up
  · intro h hh hlt
    rw [prep_qw]
    rcases Nat.lt_succ_iff_lt_or_eq.mp hlt with hlt | rfl
    · exact (rd_up_of_ne (unit_ne 2 (by show 256 * h + 256 ≤ 256 * n ∨ _; omega))).trans (ht.qw h hh hlt)
    · obtain rfl := hb.inp
      exact rd_up

theorem preps_facts {i hi} (n : ℕ) (hn : n ≤ 4) {s : State F} (hb : Base t I s) :
    let s' := prepsS t (invVs (vsV t I)) i hi n hn s
    Fix s' = Fix s ∧ Acc s' = Acc s ∧ Kv s' = Kv s ∧ s'.dq = s.dq ∧ Tab t I i hi n s' := by
  induction n with
  | zero => exact ⟨rfl, rfl, rfl, rfl, ⟨fun _ _ h => absurd h (Nat.not_lt_zero _), fun _ _ h => absurd h (Nat.not_lt_zero _), fun _ _ h => absurd h (Nat.not_lt_zero _), fun _ _ h => absurd h (Nat.not_lt_zero _), fun _ _ h => absurd h (Nat.not_lt_zero _), fun _ _ h => absurd h (Nat.not_lt_zero _)⟩⟩
  | succ n ih =>
    obtain ⟨h1, h2, h3, h4, h5⟩ := ih (Nat.le_of_succ_le hn)
    exact ⟨h1, h2, h3, h4, prep_tab (h1.trans hb) h5⟩

end Cert.KernelIdeal.Body
-- ==== Proof.Body.Blocks.lean ====
/- Blocks and rows of the body hold their closed forms. -/
module

public import proofs.«01_k».proof.Proof.Body.Inv

@[expose] public section

set_option synthInstance.maxSize 4096

noncomputable section

namespace Cert.KernelIdeal.Body

open Idealize.ShloMosaic Idealize.SL.Sem Idealize.ShloMosaic.ValueIdx
open Cert.KernelIdeal Facts₀ Facts

variable {F : FTy → Type} [FloatOps F] [Named F]

variable {t : grid0.Coords} {I : Inp F}

section head
variable (t : grid0.Coords) (ks : Elt F .f32) (i : ℕ) (hi : i < 7) (j : ℕ) (hj : j < 7) (h : ℕ) (hh : h < 4) (s : State F)
/-- The probabilities a head computes. -/
def hp : FVec F S256x256 .f32 :=
  probs (Nat.beq i j) ks (rd1 (Rect.unit (s := S24) (k0_off2 t (BitVec.ofNat 32 h)) S1.size (k0_off2_inb t ⟨h, hh⟩)) numel1_S1 s.qs)
    (rd (qx_r0 i hi h hh) s.qx) (rd (kx_r0 j hj) s.kx) (rd (lsex_r2 i hi h hh) s.lsex)
/-- The score gradients a head computes. -/
def hd : FVec F S256x256 .bf16 :=
  payDs (hp t ks i hi j hj h hh s) (rd (dox_r0 i hi h hh) s.dox) (rd (vx_r0 j hj) s.vx) (rd (delx_r2 i hi h hh) s.delx)
/-- What a head leaves in the query gradient sums. -/
def hq : Vec F S1x160x256 .f32 :=
  match Nat.beq j 0 with
  | true => payDqSet (hd t ks i hi j hj h hh s) (rd (kb_r0 j hj) s.kb)
  | false => payDqAdd (hd t ks i hi j hj h hh s) (rd (kb_r0 j hj) s.kb) (rd (dqa_r0 i hi h hh) s.dqa)

theorem head_fix : Fix (headS t ks i hi j hj h hh s) = Fix s := by
  unfold headS; generalize Nat.beq j 0 = b; cases b <;> rfl
theorem head_row : Row (headS t ks i hi j hj h hh s) = Row s := by
  unfold headS; generalize Nat.beq j 0 = b; cases b <;> rfl
theorem head_acc : Acc (headS t ks i hi j hj h hh s) = Acc s := by
  unfold headS; generalize Nat.beq j 0 = b; cases b <;> rfl
theorem head_kv : Kv (headS t ks i hi j hj h hh s) = Kv s := by
  unfold headS; generalize Nat.beq j 0 = b; cases b <;> rfl
theorem head_dq : (headS t ks i hi j hj h hh s).dq = s.dq := by
  unfold headS; generalize Nat.beq j 0 = b; cases b <;> rfl
theorem head_pb : (headS t ks i hi j hj h hh s).pb = up (pb_r0 i hi j hj h hh) (payPb (hp t ks i hi j hj h hh s)) s.pb := by
  unfold headS; generalize Nat.beq j 0 = b; cases b <;> rfl
theorem head_dsb : (headS t ks i hi j hj h hh s).dsb = up (dsb_r0 i hi j hj h hh) (payDsb (hd t ks i hi j hj h hh s)) s.dsb := by
  unfold headS; generalize Nat.beq j 0 = b; cases b <;> rfl
theorem head_dqa : (headS t ks i hi j hj h hh s).dqa = up (dqa_r0 i hi h hh) (hq t ks i hi j hj h hh s) s.dqa := by
  unfold headS hq; generalize Nat.beq j 0 = b; cases b <;> rfl

variable {t ks i hi j hj h hh s}
theorem hp_eq (hb : Base t I s) (ht : Tab t I i hi 4 s) : hp t (ksV t I) i hi j hj h hh s = PR t I i hi j hj h hh := by
  unfold hp PR
  rw [ht.qx h hh hh, ht.lsex h hh hh, hb.kx, hb.qs]; rfl
theorem hd_eq (hb : Base t I s) (ht : Tab t I i hi 4 s) : hd t (ksV t I) i hi j hj h hh s = DS t I i hi j hj h hh := by
  unfold hd DS
  rw [hp_eq hb ht, ht.dox h hh hh, ht.delx h hh hh, hb.vx]
theorem hq_eq (hb : Base t I s) (ht : Tab t I i hi 4 s)
    (hp : ∀ j' (e : j = j' + 1), rd (dqa_r0 i hi h hh) s.dqa = DQA t I i hi h hh j' (by omega)) :
    hq t (ksV t I) i hi j hj h hh s = DQA t I i hi h hh j hj := by
  unfold hq
  rw [hd_eq hb ht, hb.kb]
  cases j with
  | zero => rfl
  | succ j' => rw [hp j' rfl]; rfl
end head

/-- The first `n` heads of a block are done. -/
structure Heads (t : grid0.Coords) (I : Inp F) (i : ℕ) (hi : i < 7) (j : ℕ) (hj : j < 7) (n : ℕ) (s0 s : State F) : Prop where
  fix : Fix s = Fix s0
  row : Row s = Row s0
  acc : Acc s = Acc s0
  kv : Kv s = Kv s0
  dq : s.dq = s0.dq
  pb : ∀ h hh, h < n → rd (pb_r0 i hi j hj h hh) s.pb = payPb (PR t I i hi j hj h hh)
  dsb : ∀ h hh, h < n → rd (dsb_r0 i hi j hj h hh) s.dsb = payDsb (DS t I i hi j hj h hh)
  dqa : ∀ h hh, h < n → rd (dqa_r0 i hi h hh) s.dqa = DQA t I i hi h hh j hj
  old : ∀ h hh, n ≤ h → rd (dqa_r0 i hi h hh) s.dqa = rd (dqa_r0 i hi h hh) s0.dqa

theorem heads_facts {i hi j hj} (n : ℕ) (hn : n ≤ 4) {s : State F} (hb : Base t I s) (ht : Tab t I i hi 4 s)
    (hp : ∀ j' (e : j = j' + 1) h hh, rd (dqa_r0 i hi h hh) s.dqa = DQA t I i hi h hh j' (by omega)) :
    Heads t I i hi j hj n s (headsS t (ksV t I) i hi j hj n hn s) := by
  induction n with
  | zero => exact ⟨rfl, rfl, rfl, rfl, rfl, fun _ _ h => absurd h (Nat.not_lt_zero _), fun _ _ h => absurd h (Nat.not_lt_zero _), fun _ _ h => absurd h (Nat.not_lt_zero _), fun _ _ _ => rfl⟩
  | succ n ih =>
    have H := ih (Nat.le_of_succ_le hn) hp
    show Heads t I i hi j hj (n + 1) s (headS t (ksV t I) i hi j hj n hn (headsS t (ksV t I) i hi j hj n (Nat.le_of_succ_le hn) s))
    revert H
    generalize headsS t (ksV t I) i hi j hj n (Nat.le_of_succ_le hn) s = s1
    intro H
    have hb1 : Base t I s1 := H.fix.trans hb
    have ht1 : Tab t I i hi 4 s1 := ht.congr H.row
    constructor
    · rw [head_fix]; exact H.fix
    · rw [head_row]; exact H.row
    · rw [head_acc]; exact H.acc
    · rw [head_kv]; exact H.kv
    · rw [head_dq]; exact H.dq
    · intro h hh hlt
      rw [head_pb, hp_eq hb1 ht1]
      rcases Nat.lt_succ_iff_lt_or_eq.mp hlt with hlt | rfl
      · exact (rd_up_of_ne (unit_ne 1 (by show 256 * h + 256 ≤ 256 * n ∨ _; omega))).trans (H.pb h hh hlt)
      · exact rd_up
    · intro h hh hlt
      rw [head_dsb, hd_eq hb1 ht1]
      rcases Nat.lt_succ_iff_lt_or_eq.mp hlt with hlt | rfl
      · exact (rd_up_of_ne (unit_ne 1 (by show 256 * h + 256 ≤ 256 * n ∨ _; omega))).trans (H.dsb h hh hlt)
      · exact rd_up
    · intro h hh hlt
      rw [head_dqa, hq_eq hb1 ht1 (fun j' e => (H.old n hn le_rfl).trans (hp j' e n hn))]
      rcases Nat.lt_succ_iff_lt_or_eq.mp hlt with hlt | rfl
      · exact (rd_up_of_ne (unit_ne 0 (by show h + 1 ≤ n ∨ _; omega))).trans (H.dqa h hh hlt)
      · exact rd_up
    · intro h hh hle
      rw [head_dqa]
      exact (rd_up_of_ne (unit_ne 0 (by show _ ∨ n + 1 ≤ h; omega))).trans (H.old h hh (by omega))

theorem lanes4_rd {i hi} {v : Vec F S7x160x1024 .bf16} {w : (h : ℕ) → h < 4 → Vec F S1x160x256 .bf16}
    (hw : ∀ h hh, rd (dow_r0 i hi h hh) v = w h hh) : rd (dow_r1 i hi) v = lanes4 w := by
  funext y
  have hy0 : (y 0 : ℕ) < 1 := (y 0).isLt
  have hy2 : (y 2 : ℕ) < 1024 := (y 2).isLt
  refine at_of_rd (hw ((y 2 : ℕ) / 256) (by omega)) (ext3 ?_ ?_ ?_)
  · simp; omega
  · simp
  · simp; omega

theorem rows4_rd {i hi j hj} {v : Vec F S2x1024x256 .bf16} {w : (h : ℕ) → h < 4 → Vec F S1x256x256 .bf16}
    (hw : ∀ h hh, rd (pb_r0 i hi j hj h hh) v = w h hh) : rd (pb_r1 i hi j hj) v = rows4 w := by
  funext y
  have hy0 : (y 0 : ℕ) < 1 := (y 0).isLt
  have hy1 : (y 1 : ℕ) < 1024 := (y 1).isLt
  refine at_of_rd (hw ((y 1 : ℕ) / 256) (by omega)) (ext3 ?_ ?_ ?_)
  · simp; omega
  · simp; omega
  · simp

section tail
variable (i : ℕ) (hi : i < 7) (j : ℕ) (hj : j < 7) (s : State F)
/-- What the end of a block leaves in a sum. -/
def tsum (old C : Vec F S160x256 .f32) : Vec F S160x256 .f32 :=
  match Nat.beq i j with
  | true => paySet C
  | false => payAdd old C
theorem tail_fix : Fix (tailS i hi j hj s) = Fix s := by unfold tailS; generalize Nat.beq i j = b; cases b <;> rfl
theorem tail_row : Row (tailS i hi j hj s) = Row s := by unfold tailS; generalize Nat.beq i j = b; cases b <;> rfl
theorem tail_kv : Kv (tailS i hi j hj s) = Kv s := by unfold tailS; generalize Nat.beq i j = b; cases b <;> rfl
theorem tail_dq : (tailS i hi j hj s).dq = s.dq := by unfold tailS; generalize Nat.beq i j = b; cases b <;> rfl
theorem tail_dqa : (tailS i hi j hj s).dqa = s.dqa := by unfold tailS; generalize Nat.beq i j = b; cases b <;> rfl
theorem tail_dka : (tailS i hi j hj s).dka =
    up (dka_r0 j hj) (tsum i j (rd (dka_r0 j hj) s.dka) (payAcc (rd (qw_r1 i hi) s.qw) (rd (dsb_r1 i hi j hj) s.dsb))) s.dka := by
  unfold tailS tsum; generalize Nat.beq i j = b; cases b <;> rfl
theorem tail_dva : (tailS i hi j hj s).dva =
    up (dva_r0 j hj) (tsum i j (rd (dva_r0 j hj) s.dva) (payAcc (rd (dow_r1 i hi) s.dow) (rd (pb_r1 i hi j hj) s.pb))) s.dva := by
  unfold tailS tsum; generalize Nat.beq i j = b; cases b <;> rfl
end tail

theorem tsum_eq {i hi j} (hij : j ≤ i) {C : (i : ℕ) → i < 7 → FVec F S160x256 .f32} {old : Vec F S160x256 .f32}
    (ho : ∀ i' (e : i = i' + 1), j ≤ i' → old = colSum j C i' (by omega)) : tsum i j old (C i hi) = colSum j C i hi := by
  unfold tsum
  cases i with
  | zero => obtain rfl : j = 0 := by omega
            rfl
  | succ i =>
    unfold colSum
    rcases Nat.lt_or_ge i j with h | h
    · obtain rfl : i + 1 = j := by omega
      rw [if_pos le_rfl, show Nat.beq (i + 1) (i + 1) = true from Nat.beq_eq ▸ by simp]
    · rw [if_neg (by omega), show Nat.beq (i + 1) j = false from by
        rw [← Bool.not_eq_true, Nat.beq_eq]; omega, ← ho i rfl h]

/-- The first `n` blocks of a row are done, the sums of the columns behind them being up to date. -/
structure Blocks (t : grid0.Coords) (I : Inp F) (i : ℕ) (hi : i < 7) (n : ℕ) (s0 s : State F) : Prop where
  fix : Fix s = Fix s0
  row : Row s = Row s0
  kv : Kv s = Kv s0
  dq : s.dq = s0.dq
  dqa : ∀ j hj, n = j + 1 → ∀ h hh, rd (dqa_r0 i hi h hh) s.dqa = DQA t I i hi h hh j hj
  dka : ∀ j hj, j < n → rd (dka_r0 j hj) s.dka = DKA t I j hj i hi
  dva : ∀ j hj, j < n → rd (dva_r0 j hj) s.dva = DVA t I j hj i hi
  oka : ∀ j hj, n ≤ j → rd (dka_r0 j hj) s.dka = rd (dka_r0 j hj) s0.dka
  ova : ∀ j hj, n ≤ j → rd (dva_r0 j hj) s.dva = rd (dva_r0 j hj) s0.dva

theorem blocks_facts {i hi} (n : ℕ) (hn : n ≤ 7) (hni : n ≤ i + 1) {s : State F} (hb : Base t I s) (ht : Tab t I i hi 4 s)
    (hk : ∀ i' (e : i = i' + 1) j hj, j ≤ i' → rd (dka_r0 j hj) s.dka = DKA t I j hj i' (by omega))
    (hv : ∀ i' (e : i = i' + 1) j hj, j ≤ i' → rd (dva_r0 j hj) s.dva = DVA t I j hj i' (by omega)) :
    Blocks t I i hi n s (blocksS t (ksV t I) i hi n hn s) := by
  induction n with
  | zero => exact ⟨rfl, rfl, rfl, rfl, fun _ _ h => absurd h (by omega), fun _ _ h => absurd h (Nat.not_lt_zero _), fun _ _ h => absurd h (Nat.not_lt_zero _), fun _ _ _ => rfl, fun _ _ _ => rfl⟩
  | succ n ih =>
    have H := ih (Nat.le_of_succ_le hn) (by omega) hk hv
    show Blocks t I i hi (n + 1) s (tailS i hi n hn (headsS t (ksV t I) i hi n hn 4 le_rfl (blocksS t (ksV t I) i hi n (Nat.le_of_succ_le hn) s)))
    revert H
    generalize blocksS t (ksV t I) i hi n (Nat.le_of_succ_le hn) s = s1
    intro H
    have hb1 : Base t I s1 := H.fix.trans hb
    have ht1 : Tab t I i hi 4 s1 := ht.congr H.row
    have G := heads_facts (j := n) (hj := hn) 4 le_rfl hb1 ht1 (fun j' e h hh => H.dqa j' (by omega) e h hh)
    revert G
    generalize headsS t (ksV t I) i hi n hn 4 le_rfl s1 = s2
    intro G
    have ht2 : Tab t I i hi 4 s2 := ht1.congr G.row
    have hacc := G.acc
    simp only [Acc, Prod.mk.injEq] at hacc
    have e1 : rd (qw_r1 i hi) s2.qw = lanes4 (QWB t I i hi) := lanes4_rd (hi := hi) fun h hh => ht2.qw h hh hh
    have e2 : rd (dow_r1 i hi) s2.dow = lanes4 (DOWB I i hi) := lanes4_rd (hi := hi) fun h hh => ht2.dow h hh hh
    have e3 : rd (dsb_r1 i hi n hn) s2.dsb = rows4 fun h hh => payDsb (DS t I i hi n hn h hh) := rows4_rd (hi := hi) (hj := hn) fun h hh => G.dsb h hh hh
    have e4 : rd (pb_r1 i hi n hn) s2.pb = rows4 fun h hh => payPb (PR t I i hi n hn h hh) := rows4_rd (hi := hi) (hj := hn) fun h hh => G.pb h hh hh
    have k1 : tsum i n (rd (dka_r0 n hn) s1.dka) (DKC t I i hi n hn) = DKA t I n hn i hi :=
      tsum_eq (C := fun i hi => DKC t I i hi n hn) (by omega) fun i' e hle => (H.oka n hn le_rfl).trans (hk i' e n hn hle)
    have k2 : tsum i n (rd (dva_r0 n hn) s1.dva) (DVC t I i hi n hn) = DVA t I n hn i hi :=
      tsum_eq (C := fun i hi => DVC t I i hi n hn) (by omega) fun i' e hle => (H.ova n hn le_rfl).trans (hv i' e n hn hle)
    constructor
    · rw [tail_fix, G.fix]; exact H.fix
    · rw [tail_row, G.row]; exact H.row
    · rw [tail_kv, G.kv]; exact H.kv
    · rw [tail_dq, G.dq]; exact H.dq
    · intro j hj e h hh
      obtain rfl : n = j := by omega
      rw [tail_dqa]; exact G.dqa h hh hh
    · intro j hj hlt
      rw [tail_dka, e1, e3, hacc.1]
      rcases Nat.lt_succ_iff_lt_or_eq.mp hlt with hlt | rfl
      · exact (rd_up_of_ne (unit_ne 1 (by show 256 * j + 256 ≤ 256 * n ∨ _; omega))).trans (H.dka j hj hlt)
      · exact rd_up.trans k1
    · intro j hj hlt
      rw [tail_dva, e2, e4, hacc.2]
      rcases Nat.lt_succ_iff_lt_or_eq.mp hlt with hlt | rfl
      · exact (rd_up_of_ne (unit_ne 1 (by show 256 * j + 256 ≤ 256 * n ∨ _; omega))).trans (H.dva j hj hlt)
      · exact rd_up.trans k2
    · intro j hj hle
      rw [tail_dka, hacc.1]
      exact (rd_up_of_ne (unit_ne 1 (by show _ ∨ 256 * n + 256 ≤ 256 * j; omega))).trans (H.oka j hj (by omega))
    · intro j hj hle
      rw [tail_dva, hacc.2]
      exact (rd_up_of_ne (unit_ne 1 (by show _ ∨ 256 * n + 256 ≤ 256 * j; omega))).trans (H.ova j hj (by omega))

end Cert.KernelIdeal.Body
-- ==== Proof.Body.Final.lean ====
/- The whole body leaves the three gradients in closed form. -/
module

public import proofs.«01_k».proof.Proof.Body.Blocks

@[expose] public section

set_option synthInstance.maxSize 4096

noncomputable section

namespace Cert.KernelIdeal.Body

open Idealize.ShloMosaic Idealize.SL.Sem Idealize.ShloMosaic.ValueIdx
open Cert.KernelIdeal Facts₀ Facts

variable {F : FTy → Type} [FloatOps F] [Named F]

variable {t : grid0.Coords} {I : Inp F}

section fin
variable (ks vs : Elt F .f32) (i : ℕ) (hi : i < 7) (s : State F)
theorem finDq_fix : Fix (finDqS ks vs i hi s) = Fix s := rfl
theorem finDq_acc : Acc (finDqS ks vs i hi s) = Acc s := rfl
theorem finDq_kv : Kv (finDqS ks vs i hi s) = Kv s := rfl
/-- The block of the query gradient that a row stores for a head. -/
def fq (h : ℕ) (hh : h < 4) : Vec F S1x160x256 .bf16 :=
  payDq ks (vsEff vs) (rd (cos_r0 i hi) s.cos) (rd (sin_r0 i hi) s.sin) (rd (dos_r0 i hi) s.dos) (rd (dqa_r0 i hi h hh) s.dqa)
theorem finDq_dq : (finDqS ks vs i hi s).dq =
    up (dqa_r0 i hi 3 (by norm_num)) (fq ks vs i hi s 3 (by norm_num)) (up (dqa_r0 i hi 2 (by norm_num)) (fq ks vs i hi s 2 (by norm_num))
      (up (dqa_r0 i hi 1 (by norm_num)) (fq ks vs i hi s 1 (by norm_num)) (up (dqa_r0 i hi 0 (by norm_num)) (fq ks vs i hi s 0 (by norm_num)) s.dq))) := rfl
theorem finDq_same (h : ℕ) (hh : h < 4) : rd (dqa_r0 i hi h hh) (finDqS ks vs i hi s).dq = fq ks vs i hi s h hh := by
  rw [finDq_dq]
  have a : ∀ {k : ℕ} {hk : k < 4} {w} {v : Vec F S4x160x1792 .bf16}, h < k → rd (dqa_r0 i hi h hh) (up (dqa_r0 i hi k hk) w v) = rd (dqa_r0 i hi h hh) v :=
    fun {k hk w v} hlt => rd_up_of_ne (unit_ne 0 (by show h + 1 ≤ k ∨ _; omega))
  obtain rfl | rfl | rfl | rfl : h = 0 ∨ h = 1 ∨ h = 2 ∨ h = 3 := by omega
  · rw [a (by norm_num), a (by norm_num), a (by norm_num)]; exact rd_up
  · rw [a (by norm_num), a (by norm_num)]; exact rd_up
  · rw [a (by norm_num)]; exact rd_up
  · exact rd_up
theorem finDq_other (i' : ℕ) (hi' : i' < 7) (hlt : i' < i) (h : ℕ) (hh : h < 4) :
    rd (dqa_r0 i' hi' h hh) (finDqS ks vs i hi s).dq = rd (dqa_r0 i' hi' h hh) s.dq := by
  rw [finDq_dq]
  have a : ∀ {k : ℕ} {hk : k < 4} {w} {v : Vec F S4x160x1792 .bf16}, rd (dqa_r0 i' hi' h hh) (up (dqa_r0 i hi k hk) w v) = rd (dqa_r0 i' hi' h hh) v :=
    fun {k hk w v} => rd_up_of_ne (unit_ne 2 (by show 256 * i' + 256 ≤ 256 * i ∨ _; omega))
  rw [a, a, a, a]
end fin

/-- The first `n` rows are done. -/
structure Rows (t : grid0.Coords) (I : Inp F) (n : ℕ) (s : State F) : Prop where
  base : Base t I s
  dka : ∀ i hi, n = i + 1 → ∀ j hj, j ≤ i → rd (dka_r0 j hj) s.dka = DKA t I j hj i hi
  dva : ∀ i hi, n = i + 1 → ∀ j hj, j ≤ i → rd (dva_r0 j hj) s.dva = DVA t I j hj i hi
  dq : ∀ i hi, i < n → ∀ h hh, rd (dqa_r0 i hi h hh) s.dq = DQB t I i hi h hh

theorem rows_facts (n : ℕ) (hn : n ≤ 7) {s : State F} (hb : Base t I s) : Rows t I n (rowsS t (ksV t I) (vsV t I) n hn s) := by
  induction n with
  | zero => exact ⟨hb, fun _ _ h => absurd h (by omega), fun _ _ h => absurd h (by omega), fun _ _ h => absurd h (Nat.not_lt_zero _)⟩
  | succ n ih =>
    have H := ih (Nat.le_of_succ_le hn)
    show Rows t I (n + 1) (finDqS (ksV t I) (vsV t I) n hn (blocksS t (ksV t I) n hn (n + 1) hn (prepsS t (invVs (vsV t I)) n hn 4 le_rfl (rowsS t (ksV t I) (vsV t I) n (Nat.le_of_succ_le hn) s))))
    revert H
    generalize rowsS t (ksV t I) (vsV t I) n (Nat.le_of_succ_le hn) s = s1
    intro H
    have P := preps_facts (i := n) (hi := hn) 4 le_rfl H.base
    revert P
    generalize prepsS t (invVs (vsV t I)) n hn 4 le_rfl s1 = s2
    intro P
    obtain ⟨p1, p2, p3, p4, p5⟩ := P
    simp only [Acc, Prod.mk.injEq] at p2
    have hb2 : Base t I s2 := p1.trans H.base
    have B := blocks_facts (i := n) (hi := hn) (n + 1) hn le_rfl hb2 p5
      (fun i' e j hj hle => by rw [p2.1]; exact H.dka i' (by omega) e j hj hle)
      (fun i' e j hj hle => by rw [p2.2]; exact H.dva i' (by omega) e j hj hle)
    revert B
    generalize blocksS t (ksV t I) n hn (n + 1) hn s2 = s3
    intro B
    have hb3 : Base t I s3 := B.fix.trans hb2
    constructor
    · exact (finDq_fix _ _ _ _ _).trans hb3
    · intro i hi e j hj hle
      obtain rfl : n = i := by omega
      exact B.dka j hj (by omega)
    · intro i hi e j hj hle
      obtain rfl : n = i := by omega
      exact B.dva j hj (by omega)
    · intro i hi hlt h hh
      rcases Nat.lt_succ_iff_lt_or_eq.mp hlt with hlt | rfl
      · rw [finDq_other _ _ _ _ _ i hi hlt, B.dq, p4]
        exact H.dq i hi hlt h hh
      · rw [finDq_same]
        unfold fq DQB
        rw [hb3.cos, hb3.sin, hb3.dos, B.dqa _ _ rfl h hh]

section kv
variable (vs : Elt F .f32) (j : ℕ) (hj : j < 7) (s : State F)
theorem finKv_fix : Fix (finKvS vs j hj s) = Fix s := rfl
theorem finKv_acc : Acc (finKvS vs j hj s) = Acc s := rfl
theorem finKv_dq : (finKvS vs j hj s).dq = s.dq := rfl
theorem finKv_dk : (finKvS vs j hj s).dk = up (dk_r0 j hj) (payDk (vsEff vs) (rd (cos_r1 j hj) s.cos) (rd (sin_r1 j hj) s.sin) (rd (dka_r0 j hj) s.dka)) s.dk := rfl
theorem finKv_dv : (finKvS vs j hj s).dv = up (dv_r0 j hj) (payDv (rd (dva_r0 j hj) s.dva)) s.dv := rfl
end kv

/-- The first `n` column finishes are done. -/
structure Cols (t : grid0.Coords) (I : Inp F) (n : ℕ) (s0 s : State F) : Prop where
  fix : Fix s = Fix s0
  acc : Acc s = Acc s0
  dq : s.dq = s0.dq
  dk : ∀ j hj, j < n → rd (dk_r0 j hj) s.dk = DKB t I j hj
  dv : ∀ j hj, j < n → rd (dv_r0 j hj) s.dv = DVB t I j hj

theorem cols_facts (n : ℕ) (hn : n ≤ 7) {s : State F} (H : Rows t I 7 s) : Cols t I n s (colsS (vsV t I) n hn s) := by
  induction n with
  | zero => exact ⟨rfl, rfl, rfl, fun _ _ h => absurd h (Nat.not_lt_zero _), fun _ _ h => absurd h (Nat.not_lt_zero _)⟩
  | succ n ih =>
    have G := ih (Nat.le_of_succ_le hn)
    show Cols t I (n + 1) s (finKvS (vsV t I) n hn (colsS (vsV t I) n (Nat.le_of_succ_le hn) s))
    revert G
    generalize colsS (vsV t I) n (Nat.le_of_succ_le hn) s = s1
    intro G
    have hb1 : Base t I s1 := G.fix.trans H.base
    have hacc := G.acc
    simp only [Acc, Prod.mk.injEq] at hacc
    constructor
    · exact (finKv_fix _ _ _ _).trans G.fix
    · exact (finKv_acc _ _ _ _).trans G.acc
    · exact (finKv_dq _ _ _ _).trans G.dq
    · intro j hj hlt
      rw [finKv_dk]
      rcases Nat.lt_succ_iff_lt_or_eq.mp hlt with hlt | rfl
      · exact (rd_up_of_ne (unit_ne 2 (by show 256 * j + 256 ≤ 256 * n ∨ _; omega))).trans (G.dk j hj hlt)
      · refine rd_up.trans ?_
        unfold DKB
        rw [hb1.cos, hb1.sin, hacc.1, H.dka 6 (by norm_num) rfl j hj (by omega)]
    · intro j hj hlt
      rw [finKv_dv]
      rcases Nat.lt_succ_iff_lt_or_eq.mp hlt with hlt | rfl
      · exact (rd_up_of_ne (unit_ne 2 (by show 256 * j + 256 ≤ 256 * n ∨ _; omega))).trans (G.dv j hj hlt)
      · refine rd_up.trans ?_
        unfold DVB
        rw [hacc.2, H.dva 6 (by norm_num) rfl j hj (by omega)]

/-- The body leaves its inputs as they were and the three gradients in closed form. -/
theorem body_facts (t : grid0.Coords) (s : State F) :
    inp (bodyS t s) = inp s ∧ (bodyS t s).dq = DQ t (inp s) ∧ (bodyS t s).dk = DK t (inp s) ∧ (bodyS t s).dv = DV t (inp s) := by
  have H := rows_facts (t := t) 7 le_rfl (init_base (t := t) s)
  have G := cols_facts 7 le_rfl H
  have e : bodyS t s = colsS (vsV t (inp s)) 7 le_rfl (rowsS t (ksV t (inp s)) (vsV t (inp s)) 7 le_rfl (init1S (vsV t (inp s)) s)) := rfl
  rw [e]
  revert H G
  generalize rowsS t (ksV t (inp s)) (vsV t (inp s)) 7 le_rfl (init1S (vsV t (inp s)) s) = s1
  generalize colsS (vsV t (inp s)) 7 le_rfl s1 = s2
  intro H G
  refine ⟨Base.inp (t := t) (G.fix.trans H.base), ?_, ?_, ?_⟩
  · funext y
    have hy2 : (y 2 : ℕ) < 1792 := (y 2).isLt
    have hy0 : (y 0 : ℕ) < 4 := (y 0).isLt
    rw [G.dq]
    refine at_of_rd (H.dq ((y 2 : ℕ) / 256) (by omega) (by omega) (y 0) hy0) (ext3 ?_ ?_ ?_)
    · simp
    · simp
    · simp; omega
  · funext y
    have hy2 : (y 2 : ℕ) < 1792 := (y 2).isLt
    have hy0 : (y 0 : ℕ) < 1 := (y 0).isLt
    refine at_of_rd (G.dk ((y 2 : ℕ) / 256) (by omega) (by omega)) (ext3 ?_ ?_ ?_)
    · simp; omega
    · simp
    · simp; omega
  · funext y
    have hy2 : (y 2 : ℕ) < 1792 := (y 2).isLt
    have hy0 : (y 0 : ℕ) < 1 := (y 0).isLt
    refine at_of_rd (G.dv ((y 2 : ℕ) / 256) (by omega) (by omega)) (ext3 ?_ ?_ ?_)
    · simp; omega
    · simp
    · simp; omega

end Cert.KernelIdeal.Body
-- ==== Proof.Body.After.lean ====
/- What a run of the body leaves in its buffers. -/
module

public import proofs.«01_k».proof.Proof.Body.Triples
public import proofs.«01_k».proof.Proof.Body.Final

@[expose] public section

set_option synthInstance.maxSize 4096

noncomputable section

namespace Cert.KernelIdeal.Body

open Idealize.ShloMosaic Idealize.SL.Sem Idealize.ShloMosaic.ValueIdx
open Cert.KernelIdeal Facts₀ Facts
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

variable {c : Dev nD} {R : Refs}

/-- The body leaves its inputs, the three gradients in closed form, and something in its scratch buffers. -/
def After (c : Dev nD) (R : Refs) (t : grid0.Coords) (s : State F) : sProp 𝕄 :=
  iprop(owns (c : Thread nD τ) R.qs fullShare s.qs ∗ owns (c : Thread nD τ) R.ks fullShare s.ks ∗ owns (c : Thread nD τ) R.vs fullShare s.vs ∗ owns (c : Thread nD τ) R.q fullShare s.q ∗ owns (c : Thread nD τ) R.k fullShare s.k ∗ owns (c : Thread nD τ) R.v fullShare s.v ∗ owns (c : Thread nD τ) R.g fullShare s.g ∗ owns (c : Thread nD τ) R.o fullShare s.o ∗ owns (c : Thread nD τ) R.lse fullShare s.lse ∗ owns (c : Thread nD τ) R.dos fullShare s.dos ∗ owns (c : Thread nD τ) R.cos fullShare s.cos ∗ owns (c : Thread nD τ) R.sin fullShare s.sin ∗ owns (c : Thread nD τ) R.dq fullShare (DQ t (inp s)) ∗ owns (c : Thread nD τ) R.dk fullShare (DK t (inp s)) ∗ owns (c : Thread nD τ) R.dv fullShare (DV t (inp s)) ∗ (∃ d, owns (c : Thread nD τ) R.qx fullShare d) ∗ (∃ d, owns (c : Thread nD τ) R.dox fullShare d) ∗ (∃ d, owns (c : Thread nD τ) R.lsex fullShare d) ∗ (∃ d, owns (c : Thread nD τ) R.delx fullShare d) ∗ (∃ d, owns (c : Thread nD τ) R.dow fullShare d) ∗ (∃ d, owns (c : Thread nD τ) R.qw fullShare d) ∗ (∃ d, owns (c : Thread nD τ) R.kx fullShare d) ∗ (∃ d, owns (c : Thread nD τ) R.vx fullShare d) ∗ (∃ d, owns (c : Thread nD τ) R.kb fullShare d) ∗ (∃ d, owns (c : Thread nD τ) R.dqa fullShare d) ∗ (∃ d, owns (c : Thread nD τ) R.dka fullShare d) ∗ (∃ d, owns (c : Thread nD τ) R.dva fullShare d) ∗ (∃ d, owns (c : Thread nD τ) R.pb fullShare d) ∗ (∃ d, owns (c : Thread nD τ) R.dsb fullShare d))

theorem after_of (t : grid0.Coords) (s : State F) : Holds c R (bodyS t s) ⊢ After c R t s := by
  obtain ⟨h1, h2, h3, h4⟩ := body_facts t s
  revert h1 h2 h3 h4
  generalize bodyS t s = s'
  intro h1 h2 h3 h4
  simp only [inp, Inp.mk.injEq] at h1
  obtain ⟨e0, e1, e2, e3, e4, e5, e6, e7, e8, e9, e10, e11⟩ := h1
  unfold Holds After
  rw [e0, e1, e2, e3, e4, e5, e6, e7, e8, e9, e10, e11, h2, h3, h4]
  iintro ⟨H0, H1, H2, H3, H4, H5, H6, H7, H8, H9, H10, H11, H12, H13, H14, H15, H16, H17, H18, H19, H20, H21, H22, H23, H24, H25, H26, H27, H28⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iexists _; iexact H28

theorem run_after (t : grid0.Coords) (s : State F) : Holds c R s ⊢ Wp c Set.univ (cc0_gqa_bwd (F := F) t R.qs R.hqs R.ks R.hks R.vs R.hvs R.q R.hq R.k R.hk R.v R.hv R.g R.hg R.o R.ho R.lse R.hlse R.dos R.hdos R.cos R.hcos R.sin R.hsin R.dq R.hdq R.dk R.hdk R.dv R.hdv R.qx R.hqx R.dox R.hdox R.lsex R.hlsex R.delx R.hdelx R.dow R.hdow R.qw R.hqw R.kx R.hkx R.vx R.hvx R.kb R.hkb R.dqa R.hdqa R.dka R.hdka R.dva R.hdva R.pb R.hpb R.dsb R.hdsb) (fun _ => After c R t s) :=
  printed_run t (after_of t s)

/-- What a grid point hands the body. -/
def StepPre {c : Dev nD} (R : Refs) (x : Inp F) (A B : sProp 𝕄) (bdq : Vec F S4x160x1792 .bf16 → Vec F S4x160x1792 .bf16) (bdk : Vec F S1x160x1792 .bf16 → Vec F S1x160x1792 .bf16) (bdv : Vec F S1x160x1792 .bf16 → Vec F S1x160x1792 .bf16) : sProp 𝕄 :=
  iprop((((∃ d, owns (c : Thread nD τ) R.qx fullShare d) ∗ (∃ d, owns (c : Thread nD τ) R.dox fullShare d) ∗ (∃ d, owns (c : Thread nD τ) R.lsex fullShare d) ∗ (∃ d, owns (c : Thread nD τ) R.delx fullShare d) ∗ (∃ d, owns (c : Thread nD τ) R.dow fullShare d) ∗ (∃ d, owns (c : Thread nD τ) R.qw fullShare d) ∗ (∃ d, owns (c : Thread nD τ) R.kx fullShare d) ∗ (∃ d, owns (c : Thread nD τ) R.vx fullShare d) ∗ (∃ d, owns (c : Thread nD τ) R.kb fullShare d) ∗ (∃ d, owns (c : Thread nD τ) R.dqa fullShare d) ∗ (∃ d, owns (c : Thread nD τ) R.dka fullShare d) ∗ (∃ d, owns (c : Thread nD τ) R.dva fullShare d) ∗ (∃ d, owns (c : Thread nD τ) R.pb fullShare d) ∗ (∃ d, owns (c : Thread nD τ) R.dsb fullShare d)) ∗ A) ∗ B ∗ (∃ d : Vec F S24 .f32, owns (c : Thread nD τ) R.qs fullShare x.qs) ∗ (∃ d : Vec F S6 .f32, owns (c : Thread nD τ) R.ks fullShare x.ks) ∗ (∃ d : Vec F S6 .f32, owns (c : Thread nD τ) R.vs fullShare x.vs) ∗ (∃ d : Vec F S4x160x1792 .fp8e4m3, owns (c : Thread nD τ) R.q fullShare x.q) ∗ (∃ d : Vec F S1x160x1792 .fp8e4m3, owns (c : Thread nD τ) R.k fullShare x.k) ∗ (∃ d : Vec F S1x160x1792 .fp8e4m3, owns (c : Thread nD τ) R.v fullShare x.v) ∗ (∃ d : Vec F S4x160x1792 .fp8e5m2, owns (c : Thread nD τ) R.g fullShare x.g) ∗ (∃ d : Vec F S4x160x1792 .bf16, owns (c : Thread nD τ) R.o fullShare x.o) ∗ (∃ d : Vec F S1x4x1792 .f32, owns (c : Thread nD τ) R.lse fullShare x.lse) ∗ (∃ d : Vec F S1x1792 .f32, owns (c : Thread nD τ) R.dos fullShare x.dos) ∗ (∃ d : Vec F S80x1792 .f32, owns (c : Thread nD τ) R.cos fullShare x.cos) ∗ (∃ d : Vec F S80x1792 .f32, owns (c : Thread nD τ) R.sin fullShare x.sin) ∗ (∃ d, owns (c : Thread nD τ) R.dq fullShare (bdq d)) ∗ (∃ d, owns (c : Thread nD τ) R.dk fullShare (bdk d)) ∗ (∃ d, owns (c : Thread nD τ) R.dv fullShare (bdv d)))

/-- What the body hands back. -/
def StepPost (t : grid0.Coords) {c : Dev nD} (R : Refs) (x : Inp F) (A B : sProp 𝕄) : sProp 𝕄 :=
  iprop((((∃ d, owns (c : Thread nD τ) R.qx fullShare d) ∗ (∃ d, owns (c : Thread nD τ) R.dox fullShare d) ∗ (∃ d, owns (c : Thread nD τ) R.lsex fullShare d) ∗ (∃ d, owns (c : Thread nD τ) R.delx fullShare d) ∗ (∃ d, owns (c : Thread nD τ) R.dow fullShare d) ∗ (∃ d, owns (c : Thread nD τ) R.qw fullShare d) ∗ (∃ d, owns (c : Thread nD τ) R.kx fullShare d) ∗ (∃ d, owns (c : Thread nD τ) R.vx fullShare d) ∗ (∃ d, owns (c : Thread nD τ) R.kb fullShare d) ∗ (∃ d, owns (c : Thread nD τ) R.dqa fullShare d) ∗ (∃ d, owns (c : Thread nD τ) R.dka fullShare d) ∗ (∃ d, owns (c : Thread nD τ) R.dva fullShare d) ∗ (∃ d, owns (c : Thread nD τ) R.pb fullShare d) ∗ (∃ d, owns (c : Thread nD τ) R.dsb fullShare d)) ∗ A) ∗ B ∗ owns (c : Thread nD τ) R.qs fullShare x.qs ∗ owns (c : Thread nD τ) R.ks fullShare x.ks ∗ owns (c : Thread nD τ) R.vs fullShare x.vs ∗ owns (c : Thread nD τ) R.q fullShare x.q ∗ owns (c : Thread nD τ) R.k fullShare x.k ∗ owns (c : Thread nD τ) R.v fullShare x.v ∗ owns (c : Thread nD τ) R.g fullShare x.g ∗ owns (c : Thread nD τ) R.o fullShare x.o ∗ owns (c : Thread nD τ) R.lse fullShare x.lse ∗ owns (c : Thread nD τ) R.dos fullShare x.dos ∗ owns (c : Thread nD τ) R.cos fullShare x.cos ∗ owns (c : Thread nD τ) R.sin fullShare x.sin ∗ owns (c : Thread nD τ) R.dq fullShare (DQ t x) ∗ owns (c : Thread nD τ) R.dk fullShare (DK t x) ∗ owns (c : Thread nD τ) R.dv fullShare (DV t x))

/-- The same, as a grid point asks for it: whatever else is held stays. -/
theorem body_step {c : Dev nD} (R : Refs) (x : Inp F) (A B : sProp 𝕄) (t : grid0.Coords) bdq bdk bdv :
  StepPre (c := c) R x A B bdq bdk bdv ⊢ Wp c Set.univ (cc0_gqa_bwd (F := F) t R.qs R.hqs R.ks R.hks R.vs R.hvs R.q R.hq R.k R.hk R.v R.hv R.g R.hg R.o R.ho R.lse R.hlse R.dos R.hdos R.cos R.hcos R.sin R.hsin R.dq R.hdq R.dk R.hdk R.dv R.hdv R.qx R.hqx R.dox R.hdox R.lsex R.hlsex R.delx R.hdelx R.dow R.hdow R.qw R.hqw R.kx R.hkx R.vx R.hvx R.kb R.hkb R.dqa R.hdqa R.dka R.hdka R.dva R.hdva R.pb R.hpb R.dsb R.hdsb) (fun _ => StepPost (c := c) t R x A B) := by
  unfold StepPre StepPost
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩, ⟨%e10, HS10⟩, ⟨%e11, HS11⟩, ⟨%e12, HS12⟩, ⟨%e13, HS13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave Hw := (run_after (c := c) (R := R) t ⟨x.qs, x.ks, x.vs, x.q, x.k, x.v, x.g, x.o, x.lse, x.dos, x.cos, x.sin, bdq d12, bdk d13, bdv d14, e0, e1, e2, e3, e4, e5, e6, e7, e8, e9, e10, e11, e12, e13⟩) $$ [H0 H1 H2 H3 H4 H5 H6 H7 H8 H9 H10 H11 H12 H13 H14 HS0 HS1 HS2 HS3 HS4 HS5 HS6 HS7 HS8 HS9 HS10 HS11 HS12 HS13]
  · unfold Holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iexact HS13
  iapply (wp_wand_r frame (wpE (defs₀ (F := F)) Variants.none c none) Set.univ)
  isplitl [Hw]; · iexact Hw
  iintro %u HA
  unfold After
  icases HA with ⟨H0, H1, H2, H3, H4, H5, H6, H7, H8, H9, H10, H11, H12, H13, H14, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.KernelIdeal.Body
-- ==== Proof.Body.Frame0.lean ====
/- The launch, with what each grid point leaves in the outputs in closed form. -/
module

public import proofs.«01_k».proof.Proof.Body.After
public import proofs.«01_k».proof.Proof.Gen.KernelIdeal.Frame.Runs
public import Idealize.ShloMosaic.Lib.Claim

@[expose] public section

set_option synthInstance.maxSize 4096

noncomputable section

namespace Cert.KernelIdeal.Body

open Idealize.ShloMosaic Idealize.SL.Sem Idealize.ShloMosaic.ValueIdx
open Cert.KernelIdeal Facts₀ Facts
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of the body at a grid point. -/
def refsAt (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _, scM0_8, Memref.isWhole_whole _, scM0_9, Memref.isWhole_whole _, scM0_10, Memref.isWhole_whole _, scM0_11, Memref.isWhole_whole _, scM0_12, Memref.isWhole_whole _, scM0_13, Memref.isWhole_whole _⟩

/-- The inputs of the body at a grid point. -/
def inAt (c : Dev nD) (t : Fin cfg0.N) : Inp F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- The gradients the body leaves at a grid point. -/
def outsAt0 (c : Dev nD) (t : Fin cfg0.N) : Vec F S4x160x1792 .bf16 × Vec F S1x160x1792 .bf16 × Vec F S1x160x1792 .bf16 :=
  (DQ (grid0.coords t) (inAt m c t), DK (grid0.coords t) (inAt m c t), DV (grid0.coords t) (inAt m c t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2.1
    | ⟨14, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t).1 := by dsimp only [dats]
theorem after0_13 (c : Dev nD) (t : Fin cfg0.N) : (dats m 0 c).after 13 t = (outsAt0 m c t).2.1 := by dsimp only [dats]
theorem after0_14 (c : Dev nD) (t : Fin cfg0.N) : (dats m 0 c).after 14 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

end Cert.KernelIdeal.Body
-- ==== Proof.Body.Sound.lean ====
/- The launch, with what each grid point leaves in the outputs in closed form. -/
module

public import proofs.«01_k».proof.Proof.Body.Frame0
public import proofs.«01_k».proof.Proof.Gen.KernelIdeal.Frame.Runs
public import Idealize.ShloMosaic.Lib.Claim

@[expose] public section

set_option synthInstance.maxSize 4096

noncomputable section

namespace Cert.KernelIdeal.Body

open Idealize.ShloMosaic Idealize.SL.Sem Idealize.ShloMosaic.ValueIdx
open Cert.KernelIdeal Facts₀ Facts
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxRecDepth 16384
set_option maxHeartbeats 2000000

theorem body_at (t : Fin cfg0.N) : bodyAt0 (F := F) t = (fun R : Refs => (cc0_gqa_bwd (F := F) (grid0.coords t) R.qs R.hqs R.ks R.hks R.vs R.hvs R.q R.hq R.k R.hk R.v R.hv R.g R.hg R.o R.ho R.lse R.hlse R.dos R.hdos R.cos R.hcos R.sin R.hsin R.dq R.hdq R.dk R.hdk R.dv R.hdv R.qx R.hqx R.dox R.hdox R.lsex R.hlsex R.delx R.hdelx R.dow R.hdow R.qw R.hqw R.kx R.hkx R.vx R.hvx R.kb R.hkb R.dqa R.hdqa R.dka R.hdka R.dva R.hdva R.pb R.hpb R.dsb R.hdsb)) (refsAt t) := by
  unfold bodyAt0
  rfl

theorem pre_at (c : Dev nD) (t : Fin cfg0.N) : bodyPre m c t = StepPre (c := c) (refsAt t) (inAt m c t) (iprop(∃ r, prngReg c r)) ((dats m 0 c).owesAt () t.castSucc)
    (fun d => (dats m 0 c).before 12 t d) (fun d => (dats m 0 c).before 13 t d) (fun d => (dats m 0 c).before 14 t d) := by
  unfold bodyPre StepPre
  simp only [before0_0, before0_1, before0_2, before0_3, before0_4, before0_5, before0_6, before0_7, before0_8, before0_9, before0_10, before0_11]
  rw [show (dats m 0 c).Φ t.castSucc = Pipeline.ΦA spec0 c from rfl, PhiA0_eq]
  rfl

theorem post_at (c : Dev nD) (t : Fin cfg0.N) : bodyPost m c t = StepPost (c := c) (grid0.coords t) (refsAt t) (inAt m c t) (iprop(∃ r, prngReg c r)) ((dats m 0 c).owesAt () t.castSucc) := by
  unfold bodyPost StepPost
  rw [show (dats m 0 c).Φ t.succ = Pipeline.ΦA spec0 c from rfl, PhiA0_eq, show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rfl

theorem sound_body (c : Dev nD) (t : Fin cfg0.N) :
    bodyPre m c t ⊢ wp frame (wpE (defs₀ (F := F)) Variants.none c none) Set.univ (bodyAt0 t) (fun _ => bodyPost m c t) := by
  rw [pre_at, post_at, body_at]
  exact body_step (c := c) _ _ _ _ _ _ _ _

end Cert.KernelIdeal.Body
-- ==== Proof.Body.Launch.lean ====
/- The launch, with what each grid point leaves in the outputs in closed form. -/
module

public import proofs.«01_k».proof.Proof.Body.Sound
public import proofs.«01_k».proof.Proof.Gen.KernelIdeal.Frame.Runs
public import Idealize.ShloMosaic.Lib.Claim

@[expose] public section

set_option synthInstance.maxSize 4096

noncomputable section

namespace Cert.KernelIdeal.Body

open Idealize.ShloMosaic Idealize.SL.Sem Idealize.ShloMosaic.ValueIdx
open Cert.KernelIdeal Facts₀ Facts
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Body
-- ==== Proof.Body.Result.lean ====
/- What the launch leaves: the three gradients, and the arguments as they were. -/
module

public import proofs.«01_k».proof.Proof.Body.Launch
public import Idealize.ShloMosaic.Lib.Pipeline.Value

@[expose] public section

set_option synthInstance.maxSize 4096

noncomputable section

namespace Cert.KernelIdeal.Body

open Idealize.ShloMosaic Idealize.SL.Sem Idealize.ShloMosaic.ValueIdx
open Cert.KernelIdeal Facts₀ Facts
open Cert.KernelIdeal.Gen Idealize.ShloMosaic.TcCoe Idealize.ShloMosaic.StableHlo
open Idealize.ShloMosaic.Pipeline (Dat)

variable {F : FTy → Type} [FloatOps F] [Named F]

variable (m : (ℓ : Loc nD τ sig) → Buf (Elt F) ℓ) (ρ : Dev nD → PrngReg)

/-- What the region leaves in output window 12's array, then 13's and 14's. -/
theorem exit12 (c : Dev nD) : Pipeline.withArrays spec0 c (V0 m c) (fun w => (dats m 0 c).arrAt w cfg0.N) (Proc.devRef .tc main_v31_0) = (dats m 0 c).arrAt 12 cfg0.N :=
  Pipeline.withArrays_arr spec0 launch0.win.arr_inj c (V0 m c) _ 12
theorem exit13 (c : Dev nD) : Pipeline.withArrays spec0 c (V0 m c) (fun w => (dats m 0 c).arrAt w cfg0.N) (Proc.devRef .tc main_v31_1) = (dats m 0 c).arrAt 13 cfg0.N :=
  Pipeline.withArrays_arr spec0 launch0.win.arr_inj c (V0 m c) _ 13
theorem exit14 (c : Dev nD) : Pipeline.withArrays spec0 c (V0 m c) (fun w => (dats m 0 c).arrAt w cfg0.N) (Proc.devRef .tc main_v31_2) = (dats m 0 c).arrAt 14 cfg0.N :=
  Pipeline.withArrays_arr spec0 launch0.win.arr_inj c (V0 m c) _ 14

/-- The host's transpose of the query gradient: heads and features before tokens in, tokens first out. -/
def majQ (x : Vec F S24x160x1792 .bf16) : Vec F S1x1792x24x160 .bf16 :=
  transpose S1x1792x24x160 [0, 3, 1, 2] (broadcastInDim S1x24x160x1792 ![1, 2, 3] Gen.bcast_S24x160x1792_S1x24x160x1792_1_2_3 x) Gen.transposes_S1x24x160x1792_S1x1792x24x160_0_3_1_2
/-- The same of a key or value gradient. -/
def majK (x : Vec F S6x160x1792 .bf16) : Vec F S1x1792x6x160 .bf16 :=
  transpose S1x1792x6x160 [0, 3, 1, 2] (broadcastInDim S1x6x160x1792 ![1, 2, 3] Gen.bcast_S6x160x1792_S1x6x160x1792_1_2_3 x) Gen.transposes_S1x6x160x1792_S1x1792x6x160_0_3_1_2

theorem fin_main_v33 (c : Dev nD) : Pipeline.afterTail₀ cfgs (dats m) 0 (V0 m) [hostOps1] c main_v33 = majQ ((dats m 0 c).arrAt 12 cfg0.N) := by
  unfold Pipeline.afterTail₀
  simp only [hostOps1, List.flatten_cons, List.flatten_nil, List.append_nil]
  after_results_simp
  exact congrArg majQ (exit12 m c)
/-- After the frame run, the result `main_v33`. -/
theorem post12 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v33) = majQ ((dats m 0 c).arrAt 12 cfg0.N) :=
  ((h c).2 main_v33 (Pipeline.mem_restRefs_of main_v33 (by decide) (by decide))).trans (fin_main_v33 m c)

theorem fin_main_v35 (c : Dev nD) : Pipeline.afterTail₀ cfgs (dats m) 0 (V0 m) [hostOps1] c main_v35 = majK ((dats m 0 c).arrAt 13 cfg0.N) := by
  unfold Pipeline.afterTail₀
  simp only [hostOps1, List.flatten_cons, List.flatten_nil, List.append_nil]
  after_results_simp
  exact congrArg majK (exit13 m c)
/-- After the frame run, the result `main_v35`. -/
theorem post13 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v35) = majK ((dats m 0 c).arrAt 13 cfg0.N) :=
  ((h c).2 main_v35 (Pipeline.mem_restRefs_of main_v35 (by decide) (by decide))).trans (fin_main_v35 m c)

theorem fin_main_v37 (c : Dev nD) : Pipeline.afterTail₀ cfgs (dats m) 0 (V0 m) [hostOps1] c main_v37 = majK ((dats m 0 c).arrAt 14 cfg0.N) := by
  unfold Pipeline.afterTail₀
  simp only [hostOps1, List.flatten_cons, List.flatten_nil, List.append_nil]
  after_results_simp
  exact congrArg majK (exit14 m c)
/-- After the frame run, the result `main_v37`. -/
theorem post14 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v37) = majK ((dats m 0 c).arrAt 14 cfg0.N) :=
  ((h c).2 main_v37 (Pipeline.mem_restRefs_of main_v37 (by decide) (by decide))).trans (fin_main_v37 m c)

/-- After the frame run, argument `main_arg0` is as launched: no window stages it, and no line after the region writes it. -/
theorem kept_main_arg0 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- After the frame run, argument `main_arg1` is as launched: input window 0 stages it and never writes it back. -/
theorem kept_main_arg1 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: no window stages it, and no line after the region writes it. -/
theorem kept_main_arg2 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).2 main_arg2 (Pipeline.mem_restRefs_of main_arg2 (by decide) (by decide))).trans (W_main_arg2 m (dats m) c)

/-- After the frame run, argument `main_arg3` is as launched: input window 1 stages it and never writes it back. -/
theorem kept_main_arg3 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))

/-- After the frame run, argument `main_arg4` is as launched: no window stages it, and no line after the region writes it. -/
theorem kept_main_arg4 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).2 main_arg4 (Pipeline.mem_restRefs_of main_arg4 (by decide) (by decide))).trans (W_main_arg4 m (dats m) c)

/-- After the frame run, argument `main_arg5` is as launched: input window 2 stages it and never writes it back. -/
theorem kept_main_arg5 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- After the frame run, argument `main_arg6` is as launched: no window stages it, and no line after the region writes it. -/
theorem kept_main_arg6 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 (by decide) (by decide))).trans (W_main_arg6 m (dats m) c)

/-- After the frame run, argument `main_arg7` is as launched: no window stages it, and no line after the region writes it. -/
theorem kept_main_arg7 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)

/-- After the frame run, argument `main_arg8` is as launched: no window stages it, and no line after the region writes it. -/
theorem kept_main_arg8 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg8) = m ((c : Thread nD τ).loc main_arg8) :=
  ((h c).2 main_arg8 (Pipeline.mem_restRefs_of main_arg8 (by decide) (by decide))).trans (W_main_arg8 m (dats m) c)

/-- After the frame run, argument `main_arg9` is as launched: input window 9 stages it and never writes it back. -/
theorem kept_main_arg9 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: no window stages it, and no line after the region writes it. -/
theorem kept_main_arg10 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg10) = m ((c : Thread nD τ).loc main_arg10) :=
  ((h c).2 main_arg10 (Pipeline.mem_restRefs_of main_arg10 (by decide) (by decide))).trans (W_main_arg10 m (dats m) c)

/-- The run, with each result named and the arguments unchanged. -/
theorem run_blocks : θ_run defs (onTc (τ := τ) (main (F := F))) ⟨m, fun _ => 0, ρ⟩ fun r => ∀ c : Dev nD,
      r.2.mem ((c : Thread nD τ).loc main_v33) = majQ ((dats m 0 c).arrAt 12 cfg0.N)
      ∧ r.2.mem ((c : Thread nD τ).loc main_v35) = majK ((dats m 0 c).arrAt 13 cfg0.N)
      ∧ r.2.mem ((c : Thread nD τ).loc main_v37) = majK ((dats m 0 c).arrAt 14 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Body
-- ==== Proof.Body.Host.lean ====
/- The data of a group as the body sees it, from the arguments of the program. -/
module

public import proofs.«01_k».proof.Proof.Body.Vals
public import proofs.«01_k».proof.Proof.Body.Result
public import Idealize.ShloMosaic.Lib.Pipeline.ValueKit

@[expose] public section

set_option synthInstance.maxSize 4096
set_option maxRecDepth 16384

noncomputable section

namespace Cert.KernelIdeal.Body

open Idealize.ShloMosaic Idealize.SL.Sem
open Cert.KernelIdeal Facts₀ Facts
open Cert.Grad
open Cert.KernelIdeal.Gen Idealize.ShloMosaic.TcCoe

variable (m : (ℓ : Loc nD τ sig) → Buf (Elt Ideal) ℓ)

/-- Argument 0. -/
abbrev a0 (c : Dev nD) : Vec Ideal S1x1792x24x160 .fp8e4m3 := m ((c : Thread nD τ).loc main_arg0)
/-- Argument 1. -/
abbrev a1 (c : Dev nD) : Vec Ideal S24 .f32 := m ((c : Thread nD τ).loc main_arg1)
/-- Argument 2. -/
abbrev a2 (c : Dev nD) : Vec Ideal S1x1792x6x160 .fp8e4m3 := m ((c : Thread nD τ).loc main_arg2)
/-- Argument 3. -/
abbrev a3 (c : Dev nD) : Vec Ideal S6 .f32 := m ((c : Thread nD τ).loc main_arg3)
/-- Argument 4. -/
abbrev a4 (c : Dev nD) : Vec Ideal S1x1792x6x160 .fp8e4m3 := m ((c : Thread nD τ).loc main_arg4)
/-- Argument 5. -/
abbrev a5 (c : Dev nD) : Vec Ideal S6 .f32 := m ((c : Thread nD τ).loc main_arg5)
/-- Argument 6. -/
abbrev a6 (c : Dev nD) : Vec Ideal S1x1792x24x160 .bf16 := m ((c : Thread nD τ).loc main_arg6)
/-- Argument 7. -/
abbrev a7 (c : Dev nD) : Vec Ideal S1x24x1792 .f32 := m ((c : Thread nD τ).loc main_arg7)
/-- Argument 8. -/
abbrev a8 (c : Dev nD) : Vec Ideal S1x1792x24x160 .fp8e5m2 := m ((c : Thread nD τ).loc main_arg8)
/-- Argument 9. -/
abbrev a9 (c : Dev nD) : Vec Ideal S1x1792 .f32 := m ((c : Thread nD τ).loc main_arg9)
/-- Argument 10. -/
abbrev a10 (c : Dev nD) : Vec Ideal S1x1792 .i32 := m ((c : Thread nD τ).loc main_arg10)

/-- The data of one group, from the arguments. -/
def grpM (c : Dev nD) (a : Fin 6) : Grp where
  q h d s := a0 m c (ix4 0 s ⟨(a : ℕ) * 4 + h, by omega⟩ d)
  k d j := a2 m c (ix4 0 j a d)
  v d j := a4 m c (ix4 0 j a d)
  g h d s := a8 m c (ix4 0 s ⟨(a : ℕ) * 4 + h, by omega⟩ d)
  o h d s := a6 m c (ix4 0 s ⟨(a : ℕ) * 4 + h, by omega⟩ d)
  lse h s := a7 m c (ix3 0 ⟨(a : ℕ) * 4 + h, by omega⟩ s)
  dos s := a9 m c (ix2 0 s)
  qs h := a1 m c (ix1 ⟨(a : ℕ) * 4 + h, by omega⟩)
  ks := a3 m c (ix1 a)
  vs := a5 m c (ix1 a)
  co f s := Ideal.cos (angle (a10 m c (ix2 0 s)) f)
  si f s := Ideal.sin (angle (a10 m c (ix2 0 s)) f)
  sm := Ideal.ofBits .f32 0x3DA1E89B#32

/-! Where the blocks lie. -/
theorem idx0 : ∀ t : Fin cfg0.N, win0_0.index t = ![0] := by decide +kernel
theorem idx1 : ∀ t : Fin cfg0.N, win0_1.index t = ![0] := by decide +kernel
theorem idx2 : ∀ t : Fin cfg0.N, win0_2.index t = ![0] := by decide +kernel
theorem idx3 : ∀ t : Fin cfg0.N, win0_3.index t = ![(grid0.coords t 0).val, 0, 0] := by decide +kernel
theorem idx4 : ∀ t : Fin cfg0.N, win0_4.index t = ![(grid0.coords t 0).val, 0, 0] := by decide +kernel
theorem idx5 : ∀ t : Fin cfg0.N, win0_5.index t = ![(grid0.coords t 0).val, 0, 0] := by decide +kernel
theorem idx6 : ∀ t : Fin cfg0.N, win0_6.index t = ![(grid0.coords t 0).val, 0, 0] := by decide +kernel
theorem idx7 : ∀ t : Fin cfg0.N, win0_7.index t = ![(grid0.coords t 0).val, 0, 0] := by decide +kernel
theorem idx8 : ∀ t : Fin cfg0.N, win0_8.index t = ![(grid0.coords t 0).val, 0, 0] := by decide +kernel
theorem idx12 : ∀ t : Fin cfg0.N, win0_12.index t = ![(grid0.coords t 0).val, 0, 0] := by decide +kernel
theorem idx13 : ∀ t : Fin cfg0.N, win0_13.index t = ![(grid0.coords t 0).val, 0, 0] := by decide +kernel
theorem idx14 : ∀ t : Fin cfg0.N, win0_14.index t = ![(grid0.coords t 0).val, 0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel

/-! The blocks, read from the arguments. -/

section
variable (c : Dev nD) (t : Fin cfg0.N) (a : Fin 6) (ha : (grid0.coords t 0).val = a)
include ha

theorem blk_q (h : Fin 4) (d : Fin 160) (s : Fin 1792) : (iblk m c 3 t : Vec Ideal S4x160x1792 .fp8e4m3) (ix3 h d s) = a0 m c (ix4 0 s ⟨(a : ℕ) * 4 + h, by omega⟩ d) := by
  have e := idx3 t
  rw [ha] at e
  blk_simp [iblk, e]
  simp only [V, V0, List.flatten_cons, List.flatten_nil, List.append_nil]
  entry_read
  pointwise []
  blk_ext [iblk, V, V0, e]
theorem blk_g (h : Fin 4) (d : Fin 160) (s : Fin 1792) : (iblk m c 6 t : Vec Ideal S4x160x1792 .fp8e5m2) (ix3 h d s) = a8 m c (ix4 0 s ⟨(a : ℕ) * 4 + h, by omega⟩ d) := by
  have e := idx6 t
  rw [ha] at e
  blk_simp [iblk, e]
  simp only [V, V0, List.flatten_cons, List.flatten_nil, List.append_nil]
  entry_read
  pointwise []
  blk_ext [iblk, V, V0, e]
theorem blk_o (h : Fin 4) (d : Fin 160) (s : Fin 1792) : (iblk m c 7 t : Vec Ideal S4x160x1792 .bf16) (ix3 h d s) = a6 m c (ix4 0 s ⟨(a : ℕ) * 4 + h, by omega⟩ d) := by
  have e := idx7 t
  rw [ha] at e
  blk_simp [iblk, e]
  simp only [V, V0, List.flatten_cons, List.flatten_nil, List.append_nil]
  entry_read
  pointwise []
  blk_ext [iblk, V, V0, e]
theorem blk_k (d : Fin 160) (s : Fin 1792) : (iblk m c 4 t : Vec Ideal S1x160x1792 .fp8e4m3) (ix3 0 d s) = a2 m c (ix4 0 s a d) := by
  have e := idx4 t
  rw [ha] at e
  blk_simp [iblk, e]
  simp only [V, V0, List.flatten_cons, List.flatten_nil, List.append_nil]
  entry_read
  pointwise []
  blk_ext [iblk, V, V0, e]
theorem blk_v (d : Fin 160) (s : Fin 1792) : (iblk m c 5 t : Vec Ideal S1x160x1792 .fp8e4m3) (ix3 0 d s) = a4 m c (ix4 0 s a d) := by
  have e := idx5 t
  rw [ha] at e
  blk_simp [iblk, e]
  simp only [V, V0, List.flatten_cons, List.flatten_nil, List.append_nil]
  entry_read
  pointwise []
  blk_ext [iblk, V, V0, e]
theorem blk_lse (h : Fin 4) (s : Fin 1792) : (iblk m c 8 t : Vec Ideal S1x4x1792 .f32) (ix3 0 h s) = a7 m c (ix3 0 ⟨(a : ℕ) * 4 + h, by omega⟩ s) := by
  have e := idx8 t
  rw [ha] at e
  blk_simp [iblk, e]
  simp only [V, V0, List.flatten_cons, List.flatten_nil, List.append_nil]
  entry_read
  pointwise []
  blk_ext [iblk, V, V0, e]
end

section
variable (c : Dev nD) (t : Fin cfg0.N)

theorem blk_dos (s : Fin 1792) : (iblk m c 9 t : Vec Ideal S1x1792 .f32) (ix2 0 s) = a9 m c (ix2 0 s) := by
  have e := idx9 t
  blk_ext [iblk, V, V0, e]
theorem blk_qs (i : Fin 24) : (iblk m c 0 t : Vec Ideal S24 .f32) (ix1 i) = a1 m c (ix1 i) := by
  have e := idx0 t
  blk_ext [iblk, V, V0, e]
theorem blk_ks (i : Fin 6) : (iblk m c 1 t : Vec Ideal S6 .f32) (ix1 i) = a3 m c (ix1 i) := by
  have e := idx1 t
  blk_ext [iblk, V, V0, e]
theorem blk_vs (i : Fin 6) : (iblk m c 2 t : Vec Ideal S6 .f32) (ix1 i) = a5 m c (ix1 i) := by
  have e := idx2 t
  blk_ext [iblk, V, V0, e]
theorem entry_cos (f : Fin 80) (s : Fin 1792) : (V m c main_v18 : Vec Ideal S80x1792 .f32) (ix2 f s) = (Ideal.cos (angle (a10 m c (ix2 0 s)) f) : EReal) := by
  simp only [V, V0, List.flatten_cons, List.flatten_nil, List.append_nil]
  entry_read
  pointwise [angle]
theorem blk_cos (f : Fin 80) (s : Fin 1792) : (iblk m c 10 t : Vec Ideal S80x1792 .f32) (ix2 f s) = (Ideal.cos (angle (a10 m c (ix2 0 s)) f) : EReal) := by
  have e := idx10 t
  have h : (iblk m c 10 t : Vec Ideal S80x1792 .f32) (ix2 f s) = (V m c main_v18 : Vec Ideal S80x1792 .f32) (ix2 f s) := by
    blk_ext [iblk, e]
  exact h.trans (entry_cos m c f s)
theorem entry_sin (f : Fin 80) (s : Fin 1792) : (V m c main_v19 : Vec Ideal S80x1792 .f32) (ix2 f s) = (Ideal.sin (angle (a10 m c (ix2 0 s)) f) : EReal) := by
  simp only [V, V0, List.flatten_cons, List.flatten_nil, List.append_nil]
  entry_read
  pointwise [angle]
theorem blk_sin (f : Fin 80) (s : Fin 1792) : (iblk m c 11 t : Vec Ideal S80x1792 .f32) (ix2 f s) = (Ideal.sin (angle (a10 m c (ix2 0 s)) f) : EReal) := by
  have e := idx11 t
  have h : (iblk m c 11 t : Vec Ideal S80x1792 .f32) (ix2 f s) = (V m c main_v19 : Vec Ideal S80x1792 .f32) (ix2 f s) := by
    blk_ext [iblk, e]
  exact h.trans (entry_sin m c f s)
end

theorem ksV_eq (t : grid0.Coords) (I : Inp Ideal) (a : Fin 6) (ha : (t 0).val = a) : ksV t I = I.ks (ix1 a) :=
  congrArg I.ks (funext fun z => Fin.ext (by obtain rfl : z = 0 := Subsingleton.elim _ _; simp [k0_off1_eq, ha, ix1]))
theorem vsV_eq (t : grid0.Coords) (I : Inp Ideal) (a : Fin 6) (ha : (t 0).val = a) : vsV t I = I.vs (ix1 a) :=
  congrArg I.vs (funext fun z => Fin.ext (by obtain rfl : z = 0 := Subsingleton.elim _ _; simp [k0_off1_eq, ha, ix1]))
theorem qsV_eq (t : grid0.Coords) (I : Inp Ideal) (a : Fin 6) (ha : (t 0).val = a) (h : Fin 4) :
    qsV t I h h.isLt = I.qs (ix1 ⟨(a : ℕ) * 4 + h, by omega⟩) :=
  congrArg I.qs (funext fun z => Fin.ext (by
    obtain rfl : z = 0 := Subsingleton.elim _ _
    have e := congrFun (k0_off2_eq t h) 0
    simp at e
    simp [e, ha, ix1]; omega))

set_option maxHeartbeats 2000000 in
/-- The data of the group of a grid point. -/
theorem grp_eq (c : Dev nD) (t : Fin cfg0.N) (a : Fin 6) (ha : (grid0.coords t 0).val = a) :
    grpI (grid0.coords t) (inAt m c t) = grpM m c a := by
  simp only [grpI, grpM, Grp.mk.injEq]
  refine ⟨?_, ?_, ?_, ?_, ?_, ?_, ?_, ?_, ?_, ?_, ?_, ?_, rfl⟩
  · funext h d s; exact blk_q m c t a ha h d s
  · funext d s; exact blk_k m c t a ha d s
  · funext d s; exact blk_v m c t a ha d s
  · funext h d s; exact blk_g m c t a ha h d s
  · funext h d s; exact blk_o m c t a ha h d s
  · funext h s; exact blk_lse m c t a ha h s
  · funext s; exact blk_dos m c t s
  · funext h; rw [qsV_eq (grid0.coords t) (inAt m c t) a ha h]; exact blk_qs m c t _
  · rw [ksV_eq (grid0.coords t) (inAt m c t) a ha]; exact blk_ks m c t a
  · rw [vsV_eq (grid0.coords t) (inAt m c t) a ha]; exact blk_vs m c t a
  · funext f s; exact blk_cos m c t f s
  · funext f s; exact blk_sin m c t f s

end Cert.KernelIdeal.Body
-- ==== Proof.Body.Arrays.lean ====
/- The arrays that the launch leaves, in terms of the arguments. -/
module

public import proofs.«01_k».proof.Proof.Body.Host

@[expose] public section

set_option synthInstance.maxSize 4096
set_option maxRecDepth 16384

noncomputable section

namespace Cert.KernelIdeal.Body

open Idealize.ShloMosaic Idealize.SL.Sem
open Cert.KernelIdeal Facts₀ Facts
open Cert.Grad
open Cert.KernelIdeal.Gen Idealize.ShloMosaic.TcCoe

variable (m : (ℓ : Loc nD τ sig) → Buf (Elt Ideal) ℓ)

theorem ext4 {n0 n1 n2 n3 : ℕ} {x y : (Shape.mk 4 ![n0, n1, n2, n3]).Idx} (h0 : (x 0 : ℕ) = y 0) (h1 : (x 1 : ℕ) = y 1) (h2 : (x 2 : ℕ) = y 2)
    (h3 : (x 3 : ℕ) = y 3) : x = y := by
  funext i
  fin_cases i
  exacts [Fin.ext h0, Fin.ext h1, Fin.ext h2, Fin.ext h3]

/-- The query gradient that the call returns. -/
def GDQ (c : Dev nD) : Vec Ideal S24x160x1792 .bf16 := fun i =>
  (grpM m c ⟨(i 0 : ℕ) / 4, by have := (i 0).isLt; simp at this; omega⟩).dqK ⟨(i 0 : ℕ) % 4, Nat.mod_lt _ (by norm_num)⟩ (i 1) (i 2)
/-- The key gradient. -/
def GDK (c : Dev nD) : Vec Ideal S6x160x1792 .bf16 := fun i => (grpM m c (i 0)).dkK (i 1) (i 2)
/-- The value gradient. -/
def GDV (c : Dev nD) : Vec Ideal S6x160x1792 .bf16 := fun i => (grpM m c (i 0)).dvK (i 1) (i 2)

theorem GDQ_at (c : Dev nD) (a : Fin 6) (h : Fin 4) (d : Fin 160) (s : Fin 1792) :
    GDQ m c (ix3 ⟨(a : ℕ) * 4 + h, by omega⟩ d s) = (grpM m c a).dqK h d s := by
  have key : ∀ (b : Fin 6) (g : Fin 4), b = a → g = h → (grpM m c b).dqK g d s = (grpM m c a).dqK h d s := by
    rintro b g rfl rfl; rfl
  exact key _ _ (Fin.ext (show ((a : ℕ) * 4 + h) / 4 = a by omega)) (Fin.ext (show ((a : ℕ) * 4 + h) % 4 = h by omega))

theorem arr_DQ (c : Dev nD) : (dats m 0 c).arrAt 12 cfg0.N = GDQ m c := by
  refine (dats m 0 c).arrAt_eq_of_covers 12 _ (by decide +kernel) fun t hf y => ?_
  have e := idx12 t
  blk_simp
  rw [after0_12]
  obtain ⟨h, d, s, rfl⟩ : ∃ h d s, y = (ix3 h d s : S4x160x1792.Idx) := ⟨_, _, _, eq_ix3 y⟩
  have he : ((win0_12.blk t).view.emb (ix3 h d s : S4x160x1792.Idx) : S24x160x1792.Idx) = ix3 ⟨(grid0.coords t 0).val * 4 + h, by have := h.isLt; have : (grid0.coords t 0).val < 6 := (grid0.coords t 0).isLt; omega⟩ d s := by
    refine ext3 ?_ ?_ ?_ <;> blk_simp [e]
  rw [he]
  exact (DQ_at (grid0.coords t) (inAt m c t) h d s).trans (by rw [grp_eq m c t ⟨(grid0.coords t 0).val, (grid0.coords t 0).isLt⟩ rfl]; exact (GDQ_at m c ⟨(grid0.coords t 0).val, (grid0.coords t 0).isLt⟩ h d s).symm)
theorem arr_DK (c : Dev nD) : (dats m 0 c).arrAt 13 cfg0.N = GDK m c := by
  refine (dats m 0 c).arrAt_eq_of_covers 13 _ (by decide +kernel) fun t hf y => ?_
  have e := idx13 t
  blk_simp
  rw [after0_13]
  obtain ⟨h, d, s, rfl⟩ : ∃ h d s, y = (ix3 h d s : S1x160x1792.Idx) := ⟨_, _, _, eq_ix3 y⟩
  have he : ((win0_13.blk t).view.emb (ix3 h d s : S1x160x1792.Idx) : S6x160x1792.Idx) = ix3 ⟨(grid0.coords t 0).val, (grid0.coords t 0).isLt⟩ d s := by
    refine ext3 ?_ ?_ ?_ <;> blk_simp [e]
  obtain rfl : h = 0 := Subsingleton.elim _ _
  rw [he]
  exact (DK_at (grid0.coords t) (inAt m c t) d s).trans (by rw [grp_eq m c t ⟨(grid0.coords t 0).val, (grid0.coords t 0).isLt⟩ rfl]; rfl)
theorem arr_DV (c : Dev nD) : (dats m 0 c).arrAt 14 cfg0.N = GDV m c := by
  refine (dats m 0 c).arrAt_eq_of_covers 14 _ (by decide +kernel) fun t hf y => ?_
  have e := idx14 t
  blk_simp
  rw [after0_14]
  obtain ⟨h, d, s, rfl⟩ : ∃ h d s, y = (ix3 h d s : S1x160x1792.Idx) := ⟨_, _, _, eq_ix3 y⟩
  have he : ((win0_14.blk t).view.emb (ix3 h d s : S1x160x1792.Idx) : S6x160x1792.Idx) = ix3 ⟨(grid0.coords t 0).val, (grid0.coords t 0).isLt⟩ d s := by
    refine ext3 ?_ ?_ ?_ <;> blk_simp [e]
  obtain rfl : h = 0 := Subsingleton.elim _ _
  rw [he]
  exact (DV_at (grid0.coords t) (inAt m c t) d s).trans (by rw [grp_eq m c t ⟨(grid0.coords t 0).val, (grid0.coords t 0).isLt⟩ rfl]; rfl)

/-- The host's transposes of the gradients, at an index. -/
theorem majQ_at (x : Vec Ideal S24x160x1792 .bf16) (s : Fin 1792) (h : Fin 24) (d : Fin 160) : majQ x (ix4 0 s h d) = x (ix3 h d s) := by
  unfold majQ
  pointwise []
theorem majK_at (x : Vec Ideal S6x160x1792 .bf16) (s : Fin 1792) (h : Fin 6) (d : Fin 160) : majK x (ix4 0 s h d) = x (ix3 h d s) := by
  unfold majK
  pointwise []

end Cert.KernelIdeal.Body
-- ==== Proof.Body.Scales.lean ====
/- The precondition, read off its predicate: the scales that the reference divides out are nonnegative and finite. -/
module

public import proofs.«01_k».proof.Defs
public import proofs.«01_k».proof.Proof.Body.Arrays
public import Idealize.ShloMosaic.Lib.ReduceAll
public import Idealize.ShloMosaic.Lib.Affine

@[expose] public section

set_option maxRecDepth 16384

noncomputable section

namespace Cert.Scales

open Idealize.ShloMosaic Idealize.SL.Sem
open Cert.Grad

/-- The side conditions of the predicate's operations. -/
instance facts : Cert.Pre_scales_ok.Facts where
  bcast_S_S1x1792 := by decide
  reducesTo_S1x1792_S_d0_1 := by decide
  h_S_ := by decide
  bcast_S_S6 := by decide
  reducesTo_S6_S_d0 := by decide
  bcast_S_S1 := by decide
  concatenates_S1_S1_S2_d0 := by decide

theorem cat0 (a b : IVec Cert.Pre_scales_ok.S1 1) (h : Shape.Concatenates [Cert.Pre_scales_ok.S1, Cert.Pre_scales_ok.S1] Cert.Pre_scales_ok.S2 0) :
    concatenate Cert.Pre_scales_ok.S2 0 [⟨Cert.Pre_scales_ok.S1, a⟩, ⟨Cert.Pre_scales_ok.S1, b⟩] h (ix1 0) = a (ix1 0) := by
  pointwise []
theorem cat1 (a b : IVec Cert.Pre_scales_ok.S1 1) (h : Shape.Concatenates [Cert.Pre_scales_ok.S1, Cert.Pre_scales_ok.S1] Cert.Pre_scales_ok.S2 0) :
    concatenate Cert.Pre_scales_ok.S2 0 [⟨Cert.Pre_scales_ok.S1, a⟩, ⟨Cert.Pre_scales_ok.S1, b⟩] h (ix1 1) = b (ix1 0) := by
  pointwise []

theorem top_bits : Ideal.ofBits .f32 0x7F800000#32 = (⊤ : EReal) := by
  simp [Ideal.ofBits, Ideal.ieee]
theorem zero_bits : Ideal.ofBits .f32 0x00000000#32 = (0 : EReal) := by
  simp [Ideal.ofBits, Ideal.ieee]

/-- An element that passes the two comparisons. -/
theorem elem_ok (x : EReal)
    (h : IntOp.andi (FloatOps.cmpf (F := Ideal) (φ := .f32) .oge x (Ideal.ofBits .f32 0x00000000#32)) (FloatOps.cmpf (F := Ideal) (φ := .f32) .olt x (Ideal.ofBits .f32 0x7F800000#32)) = 1#1) :
    0 ≤ x ∧ x ≠ ⊤ := by
  rw [zero_bits, top_bits] at h
  change (BitVec.ofBool (decide ((0 : EReal) ≤ x))) &&& (BitVec.ofBool (decide (x < ⊤))) = 1#1 at h
  by_cases h0 : (0 : EReal) ≤ x
  · by_cases h1 : x < ⊤
    · exact ⟨h0, h1.ne⟩
    · simp [h1] at h
  · simp [h0] at h

/-- What the predicate says. -/
theorem fn_ok (q : FVec Ideal Cert.Pre_scales_ok.S1x1792x24x160 .fp8e4m3) (qs : FVec Ideal Cert.Pre_scales_ok.S24 .f32)
    (k : FVec Ideal Cert.Pre_scales_ok.S1x1792x6x160 .fp8e4m3) (ks : FVec Ideal Cert.Pre_scales_ok.S6 .f32)
    (v : FVec Ideal Cert.Pre_scales_ok.S1x1792x6x160 .fp8e4m3) (vs : FVec Ideal Cert.Pre_scales_ok.S6 .f32)
    (o : FVec Ideal Cert.Pre_scales_ok.S1x1792x24x160 .bf16) (lse : FVec Ideal Cert.Pre_scales_ok.S1x24x1792 .f32)
    (g : FVec Ideal Cert.Pre_scales_ok.S1x1792x24x160 .fp8e5m2) (dos : FVec Ideal Cert.Pre_scales_ok.S1x1792 .f32) (pos : IVec Cert.Pre_scales_ok.S1x1792 32)
    (h : Cert.Pre_scales_ok.fn (F := Ideal) q qs k ks v vs o lse g dos pos = fun _ => 1#1) :
    (∀ s, 0 ≤ (dos (ix2 0 s) : EReal) ∧ (dos (ix2 0 s) : EReal) ≠ ⊤) ∧ ∀ a, 0 ≤ (vs (ix1 a) : EReal) ∧ (vs (ix1 a) : EReal) ≠ ⊤ := by
  dsimp only [Cert.Pre_scales_ok.fn] at h
  have h0 := (cat0 _ _ _).symm.trans (congrFun h (ix1 0))
  have h1 := (cat1 _ _ _).symm.trans (congrFun h (ix1 1))
  refine ⟨fun s => elem_ok _ ?_, fun a => elem_ok _ ?_⟩
  · exact Host.reduce_andi_all _ _ _ _ _ h0 (ix2 0 s)
  · exact Host.reduce_andi_all _ _ _ _ _ h1 (ix1 a)

/-- The scales of every group are as the mathematics asks. -/
theorem ok (m : (ℓ : Loc Cert.KernelIdeal.nD Cert.KernelIdeal.τ Cert.KernelIdeal.sig) → Buf (Elt Ideal) ℓ) (h : Cert.Pre_KernelIdeal_scales_ok m)
    (c : Dev Cert.KernelIdeal.nD) (a : Fin 6) : Ok (Cert.KernelIdeal.Body.grpM m c a) :=
  have e := fn_ok _ _ _ _ _ _ _ _ _ _ _ (h c)
  ⟨fun s => (e.1 s).1, fun s => (e.1 s).2, (e.2 a).1, (e.2 a).2⟩

end Cert.Scales
-- ==== Proof.Ref.At.lean ====
/- The reference's values, read at an index over the extended reals. -/
module

public import proofs.«01_k».proof.Proof.Gen.ReferenceIdeal.Run
public import proofs.«01_k».proof.Proof.Math.Grad
public import Idealize.ShloMosaic.Lib.Pointwise
public import Idealize.ShloMosaic.Lib.Tactic.CleanTypes
public import Idealize.ShloMosaic.Lib.IdealHost

@[expose] public section

set_option maxRecDepth 16384
set_option maxHeartbeats 1000000

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Grad

/-- The reference's data of one group, from the contents after the widening. -/
def grpOf (V0 : Valuation τ sig (Elt Ideal)) (a : Fin 6) : Grp where
  q h d s := (V0 (Proc.devRef .tc main_v0_0) : Vec Ideal S1x1792x24x160 .bf16) (ix4 0 s ⟨(a : ℕ) * 4 + h, by omega⟩ d)
  k d j := (V0 (Proc.devRef .tc main_v0_1) : Vec Ideal S1x1792x6x160 .bf16) (ix4 0 j a d)
  v d j := (V0 (Proc.devRef .tc main_v0_2) : Vec Ideal S1x1792x6x160 .bf16) (ix4 0 j a d)
  g h d s := (V0 (Proc.devRef .tc main_v0_3) : Vec Ideal S1x1792x24x160 .bf16) (ix4 0 s ⟨(a : ℕ) * 4 + h, by omega⟩ d)
  o h d s := (V0 (Proc.devRef .tc main_arg6) : Vec Ideal S1x1792x24x160 .bf16) (ix4 0 s ⟨(a : ℕ) * 4 + h, by omega⟩ d)
  lse h s := (V0 (Proc.devRef .tc main_arg7) : Vec Ideal S1x24x1792 .f32) (ix3 0 ⟨(a : ℕ) * 4 + h, by omega⟩ s)
  dos s := (V0 (Proc.devRef .tc main_arg9) : Vec Ideal S1x1792 .f32) (ix2 0 s)
  qs h := (V0 (Proc.devRef .tc main_arg1) : Vec Ideal S24 .f32) (ix1 ⟨(a : ℕ) * 4 + h, by omega⟩)
  ks := (V0 (Proc.devRef .tc main_arg3) : Vec Ideal S6 .f32) (ix1 a)
  vs := (V0 (Proc.devRef .tc main_arg5) : Vec Ideal S6 .f32) (ix1 a)
  co f s := Ideal.cos (angle ((V0 (Proc.devRef .tc main_arg10) : Vec Ideal S1x1792 .i32) (ix2 0 s)) f)
  si f s := Ideal.sin (angle ((V0 (Proc.devRef .tc main_arg10) : Vec Ideal S1x1792 .i32) (ix2 0 s)) f)
  sm := Ideal.ofBits .f32 0x3DA1E89B#32

variable (V0 : Valuation τ sig (Elt Ideal))

theorem res_v71_at (s : Fin 1792) (f : Fin 80) :
    (res_main_v71 V0 : Vec Ideal S1792x80 .f32) (ix2 s f) = (angle ((V0 (Proc.devRef .tc main_arg10) : Vec Ideal S1x1792 .i32) (ix2 0 s)) f : EReal) := by
  unfold res_main_v71
  clean_types
  pointwise [angle]

theorem res_v73_at (s : Fin 1792) (f : Fin 80) (a : Fin 6) :
    (res_main_v73 V0 : Vec Ideal S1792x1x80 .f32) (ix3 s 0 f) = (grpOf V0 a).co f s := by
  unfold res_main_v73
  clean_types
  pointwise [grpOf]
  rw [res_v71_at]

theorem res_v75_at (s : Fin 1792) (f : Fin 80) (a : Fin 6) :
    (res_main_v75 V0 : Vec Ideal S1792x1x80 .f32) (ix3 s 0 f) = (grpOf V0 a).si f s := by
  unfold res_main_v75
  clean_types
  pointwise [grpOf]
  rw [res_v71_at]

theorem res_v39_at (a : Fin 6) (h : Fin 4) (s j : Fin 1792) :
    (res_main_v39 V0 : Vec Ideal S6x4x1792x1792 .f32) (ix4 a h s j) = (grpOf V0 a).prR h s j := by
  unfold res_main_v39 res_main_v1 res_main_v2 res_main_v28
  clean_types
  pointwise [grpOf, Grp.prR]
  refine congrArg (fun x => Ideal.exp (x - _)) ?_
  have hs : (s : ℕ) < 1792 := s.isLt
  have hj : (j : ℕ) < 1792 := j.isLt
  have hi : ∀ x : ℕ, x < 1792 → (BitVec.ofNat 32 x).toInt = x := fun x hx => by
    rw [BitVec.toInt_ofNat']; exact Int.bmod_eq_of_le (by omega) (by omega)
  by_cases h : (j : ℕ) ≤ s
  · rw [if_pos h]
    have : IntOp.cmpi .sle (BitVec.ofNat 32 (j : ℕ)) (BitVec.ofNat 32 (s : ℕ)) = 1#1 := by
      simp [IntOp.cmpi, BitVec.sle, hi _ hs, hi _ hj, h]
    rw [this]; rfl
  · rw [if_neg h]
    have : IntOp.cmpi .sle (BitVec.ofNat 32 (j : ℕ)) (BitVec.ofNat 32 (s : ℕ)) = 0#1 := by
      simp [IntOp.cmpi, BitVec.sle, hi _ hs, hi _ hj]
      rw [decide_eq_false (show ¬ j ≤ s from h)]; rfl
    rw [this]
    show Ideal.ofBits .f32 0xFF800000#32 = ⊥
    simp [Ideal.ofBits, Ideal.ieee]

theorem res_v53_at (a : Fin 6) (h : Fin 4) (s j : Fin 1792) :
    (res_main_v53 V0 : Vec Ideal S6x4x1792x1792 .f32) (ix4 a h s j) = (grpOf V0 a).dsR h s j := by
  unfold Grp.dsR
  rw [← res_v39_at]
  unfold res_main_v53 res_main_v5 res_main_v7
  clean_types
  pointwise [grpOf]

theorem res_v104_at (s : Fin 1792) (a : Fin 6) (h : Fin 4) (d : Fin 160) :
    (res_main_v104 V0 : Vec Ideal S1792x24x160 .f32) (ix3 s ⟨(a : ℕ) * 4 + h, by omega⟩ d) = ((∑ j, (grpOf V0 a).k d j * (grpOf V0 a).dsR h s j) * ((grpOf V0 a).ks * (grpOf V0 a).sm) : EReal) := by
  simp only [← res_v53_at]
  unfold res_main_v104 res_main_v2
  clean_types
  pointwise [grpOf]

theorem res_v100_at (j : Fin 1792) (a : Fin 6) (d : Fin 160) :
    (res_main_v100 V0 : Vec Ideal S1792x6x160 .f32) (ix3 j a d) = ((∑ h, ∑ s, ((grpOf V0 a).q h d s * (grpOf V0 a).qs h) * (grpOf V0 a).dsR h s j) * (grpOf V0 a).sm : EReal) := by
  simp only [← res_v53_at]
  unfold res_main_v100 res_main_v1
  clean_types
  pointwise [grpOf]

/-- The first half of the features of the query gradient. -/
theorem res_v105_at (s : Fin 1792) (H : Fin 24) (f : Fin 80) :
    (res_main_v105 V0 : Vec Ideal S1792x24x80 .f32) (ix3 s H f) = (res_main_v104 V0 : Vec Ideal S1792x24x160 .f32) (ix3 s H ⟨f, by omega⟩) := by
  unfold res_main_v105
  clean_types
  pointwise []
/-- The second half. -/
theorem res_v106_at (s : Fin 1792) (H : Fin 24) (f : Fin 80) :
    (res_main_v106 V0 : Vec Ideal S1792x24x80 .f32) (ix3 s H f) = (res_main_v104 V0 : Vec Ideal S1792x24x160 .f32) (ix3 s H ⟨80 + f, by omega⟩) := by
  unfold res_main_v106
  clean_types
  pointwise []
/-- The first half of the features of the key gradient. -/
theorem res_v119_at (s : Fin 1792) (a : Fin 6) (f : Fin 80) :
    (res_main_v119 V0 : Vec Ideal S1792x6x80 .f32) (ix3 s a f) = (res_main_v100 V0 : Vec Ideal S1792x6x160 .f32) (ix3 s a ⟨f, by omega⟩) := by
  unfold res_main_v119
  clean_types
  pointwise []
/-- The second half. -/
theorem res_v120_at (s : Fin 1792) (a : Fin 6) (f : Fin 80) :
    (res_main_v120 V0 : Vec Ideal S1792x6x80 .f32) (ix3 s a f) = (res_main_v100 V0 : Vec Ideal S1792x6x160 .f32) (ix3 s a ⟨80 + f, by omega⟩) := by
  unfold res_main_v120
  clean_types
  pointwise []

/-- The query gradient that is returned. -/
def outDq : Vec Ideal S1x1792x24x160 .bf16 := broadcastInDim S1x1792x24x160 ![1, 2, 3] bcast_S1792x24x160_S1x1792x24x160_1_2_3 (truncf .bf16 (concatenate S1792x24x160 2 [⟨S1792x24x80, (addf (mulf (res_main_v105 V0) (broadcastInDim S1792x24x80 ![0, 1, 2] bcast_S1792x1x80_S1792x24x80_0_1_2 (res_main_v73 V0))) (mulf (res_main_v106 V0) (broadcastInDim S1792x24x80 ![0, 1, 2] bcast_S1792x1x80_S1792x24x80_0_1_2 (res_main_v75 V0))))⟩, ⟨S1792x24x80, (subf (mulf (res_main_v106 V0) (broadcastInDim S1792x24x80 ![0, 1, 2] bcast_S1792x1x80_S1792x24x80_0_1_2 (res_main_v73 V0))) (mulf (res_main_v105 V0) (broadcastInDim S1792x24x80 ![0, 1, 2] bcast_S1792x1x80_S1792x24x80_0_1_2 (res_main_v75 V0))))⟩] concatenates_S1792x24x80_S1792x24x80_S1792x24x160_d2) bitsLt_bf16_f32)
/-- The key gradient that is returned. -/
def outDk : Vec Ideal S1x1792x6x160 .bf16 := broadcastInDim S1x1792x6x160 ![1, 2, 3] bcast_S1792x6x160_S1x1792x6x160_1_2_3 (truncf .bf16 (concatenate S1792x6x160 2 [⟨S1792x6x80, (addf (mulf (res_main_v119 V0) (broadcastInDim S1792x6x80 ![0, 1, 2] bcast_S1792x1x80_S1792x6x80_0_1_2 (res_main_v73 V0))) (mulf (res_main_v120 V0) (broadcastInDim S1792x6x80 ![0, 1, 2] bcast_S1792x1x80_S1792x6x80_0_1_2 (res_main_v75 V0))))⟩, ⟨S1792x6x80, (subf (mulf (res_main_v120 V0) (broadcastInDim S1792x6x80 ![0, 1, 2] bcast_S1792x1x80_S1792x6x80_0_1_2 (res_main_v73 V0))) (mulf (res_main_v119 V0) (broadcastInDim S1792x6x80 ![0, 1, 2] bcast_S1792x1x80_S1792x6x80_0_1_2 (res_main_v75 V0))))⟩] concatenates_S1792x6x80_S1792x6x80_S1792x6x160_d2) bitsLt_bf16_f32)
/-- The value gradient that is returned. -/
def outDv : Vec Ideal S1x1792x6x160 .bf16 := truncf .bf16 (broadcastInDim S1x1792x6x160 ![1, 2, 3] bcast_S1792x6x160_S1x1792x6x160_1_2_3 (transpose S1792x6x160 [2, 0, 1] (Host.dotGeneral dot_S1792x6x4x160_S6x4x1792x1792_S6x160x1792_20_12_3_3_1_0 none (shapeCast _ (mulf (res_main_v5 V0) (broadcastInDim S1792x24x160 ![0, 1, 2] bcast_S1792x1x1_S1792x24x160_0_1_2 (broadcastInDim S1792x1x1 ![0] bcast_S1792_S1792x1x1_0 (truncf .bf16 (shapeCast _ (V0 (Proc.devRef .tc main_arg9)) shapeCasts_S1x1792_S1792) bitsLt_bf16_f32)))) shapeCasts_S1792x24x160_S1792x6x4x160) (truncf .bf16 (res_main_v39 V0) bitsLt_bf16_f32)) transposes_S6x160x1792_S1792x6x160_2_0_1)) bitsLt_bf16_f32

theorem outDq_at (a : Fin 6) (h : Fin 4) (d : Fin 160) (s : Fin 1792) :
    outDq V0 (ix4 0 s ⟨(a : ℕ) * 4 + h, by omega⟩ d) = (grpOf V0 a).dqR h d s := by
  unfold Grp.dqR
  simp only [← res_v104_at]
  unfold outDq
  clean_types
  pointwise [unrope]
  simp only [res_v105_at, res_v106_at, res_v73_at V0 _ _ a, res_v75_at V0 _ _ a]

theorem outDk_at (a : Fin 6) (d : Fin 160) (j : Fin 1792) :
    outDk V0 (ix4 0 j a d) = (grpOf V0 a).dkR d j := by
  unfold Grp.dkR
  simp only [← res_v100_at]
  unfold outDk
  clean_types
  pointwise [unrope]
  simp only [res_v119_at, res_v120_at, res_v73_at V0 _ _ a, res_v75_at V0 _ _ a]

theorem outDv_at (a : Fin 6) (d : Fin 160) (j : Fin 1792) :
    outDv V0 (ix4 0 j a d) = (grpOf V0 a).dvR d j := by
  unfold Grp.dvR
  simp only [← res_v39_at]
  unfold outDv res_main_v5
  clean_types
  pointwise [grpOf]

end Cert.ReferenceIdeal.Value
-- ==== Proof.Ref.Widen.lean ====
/- The reference's widening call: its four arrays hold the arguments. -/
module

public import proofs.«01_k».proof.Proof.Ref.At
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem widened0 (c : Dev nD) : (reg_main_v0_0 m c : Vec Ideal S1x1792x24x160 .bf16) = (m ((c.tc : Thread nD τ).loc main_arg0) : Vec Ideal S1x1792x24x160 .fp8e4m3) := by
  unfold reg_main_v0_0
  refine (dats m 0 c).arrAt_eq_of_covers 4 _ (by decide +kernel) fun t hf y => ?_
  blk_simp
  rw [after0_4]
  frame_out
  pointwise []
  blk_ext [iblk, V]

theorem widened1 (c : Dev nD) : (reg_main_v0_1 m c : Vec Ideal S1x1792x6x160 .bf16) = (m ((c.tc : Thread nD τ).loc main_arg2) : Vec Ideal S1x1792x6x160 .fp8e4m3) := by
  unfold reg_main_v0_1
  refine (dats m 0 c).arrAt_eq_of_covers 5 _ (by decide +kernel) fun t hf y => ?_
  blk_simp
  rw [after0_5]
  frame_out
  pointwise []
  blk_ext [iblk, V]

theorem widened2 (c : Dev nD) : (reg_main_v0_2 m c : Vec Ideal S1x1792x6x160 .bf16) = (m ((c.tc : Thread nD τ).loc main_arg4) : Vec Ideal S1x1792x6x160 .fp8e4m3) := by
  unfold reg_main_v0_2
  refine (dats m 0 c).arrAt_eq_of_covers 6 _ (by decide +kernel) fun t hf y => ?_
  blk_simp
  rw [after0_6]
  frame_out
  pointwise []
  blk_ext [iblk, V]

theorem widened3 (c : Dev nD) : (reg_main_v0_3 m c : Vec Ideal S1x1792x24x160 .bf16) = (m ((c.tc : Thread nD τ).loc main_arg8) : Vec Ideal S1x1792x24x160 .fp8e5m2) := by
  unfold reg_main_v0_3
  refine (dats m 0 c).arrAt_eq_of_covers 7 _ (by decide +kernel) fun t hf y => ?_
  blk_simp
  rw [after0_7]
  frame_out
  pointwise []
  blk_ext [iblk, V]

end Cert.ReferenceIdeal.Value
-- ==== Proof.Algebraic.lean ====
/- The value claim: from equal arguments the kernel and the reference return equal gradients. -/
module

public import proofs.«01_k».proof.Proof.Body.Scales
public import proofs.«01_k».proof.Proof.Ref.Widen

@[expose] public section

set_option maxRecDepth 16384

noncomputable section

namespace Cert.Proof

open Idealize.ShloMosaic Idealize.SL.Sem Idealize.ShloMosaic.TcCoe
open Cert.Grad
open Cert.KernelIdeal.Body (grpM GDQ GDK GDV GDQ_at majQ majK majQ_at majK_at ext4 arr_DQ arr_DK arr_DV run_blocks)
open Cert.ReferenceIdeal.Value (grpOf exitV outDq outDk outDv)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The arguments agree on a device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- Both programs see the same group. -/
theorem grp_agree (c : Dev Cert.KernelIdeal.nD) (h : Agree m m' c) (a : Fin 6) : grpOf (exitV m' c) a = grpM m c a := by
  obtain ⟨h0, h1, h2, h3, h4, h5, h6, h7, h8, h9, h10⟩ := h
  have e0 : (exitV m' c (Proc.devRef .tc Cert.ReferenceIdeal.main_v0_0) : Vec Ideal Cert.ReferenceIdeal.S1x1792x24x160 .bf16) = (m ((c.tc : Thread Cert.KernelIdeal.nD Cert.KernelIdeal.τ).loc Cert.KernelIdeal.main_arg0) : Vec Ideal Cert.KernelIdeal.S1x1792x24x160 .fp8e4m3) :=
    (Cert.ReferenceIdeal.Value.exit_main_v0_0 m' c).trans ((Cert.ReferenceIdeal.Value.widened0 m' c).trans h0)
  have e2 : (exitV m' c (Proc.devRef .tc Cert.ReferenceIdeal.main_v0_1) : Vec Ideal Cert.ReferenceIdeal.S1x1792x6x160 .bf16) = (m ((c.tc : Thread Cert.KernelIdeal.nD Cert.KernelIdeal.τ).loc Cert.KernelIdeal.main_arg2) : Vec Ideal Cert.KernelIdeal.S1x1792x6x160 .fp8e4m3) :=
    (Cert.ReferenceIdeal.Value.exit_main_v0_1 m' c).trans ((Cert.ReferenceIdeal.Value.widened1 m' c).trans h2)
  have e4 : (exitV m' c (Proc.devRef .tc Cert.ReferenceIdeal.main_v0_2) : Vec Ideal Cert.ReferenceIdeal.S1x1792x6x160 .bf16) = (m ((c.tc : Thread Cert.KernelIdeal.nD Cert.KernelIdeal.τ).loc Cert.KernelIdeal.main_arg4) : Vec Ideal Cert.KernelIdeal.S1x1792x6x160 .fp8e4m3) :=
    (Cert.ReferenceIdeal.Value.exit_main_v0_2 m' c).trans ((Cert.ReferenceIdeal.Value.widened2 m' c).trans h4)
  have e8 : (exitV m' c (Proc.devRef .tc Cert.ReferenceIdeal.main_v0_3) : Vec Ideal Cert.ReferenceIdeal.S1x1792x24x160 .bf16) = (m ((c.tc : Thread Cert.KernelIdeal.nD Cert.KernelIdeal.τ).loc Cert.KernelIdeal.main_arg8) : Vec Ideal Cert.KernelIdeal.S1x1792x24x160 .fp8e5m2) :=
    (Cert.ReferenceIdeal.Value.exit_main_v0_3 m' c).trans ((Cert.ReferenceIdeal.Value.widened3 m' c).trans h8)
  have e1 := (Cert.ReferenceIdeal.Value.exit_main_arg1 m' c).trans h1
  have e3 := (Cert.ReferenceIdeal.Value.exit_main_arg3 m' c).trans h3
  have e5 := (Cert.ReferenceIdeal.Value.exit_main_arg5 m' c).trans h5
  have e6 := (Cert.ReferenceIdeal.Value.exit_main_arg6 m' c).trans h6
  have e7 := (Cert.ReferenceIdeal.Value.exit_main_arg7 m' c).trans h7
  have e9 := (Cert.ReferenceIdeal.Value.exit_main_arg9 m' c).trans h9
  have e10 := (Cert.ReferenceIdeal.Value.exit_main_arg10 m' c).trans h10
  simp only [grpOf, grpM, Grp.mk.injEq]
  refine ⟨?_, ?_, ?_, ?_, ?_, ?_, ?_, ?_, ?_, ?_, ?_, ?_, trivial⟩
  · funext h d s; exact congrFun e0 _
  · funext d s; exact congrFun e2 _
  · funext d s; exact congrFun e4 _
  · funext h d s; exact congrFun e8 _
  · funext h d s; exact congrFun e6 _
  · funext h s; exact congrFun e7 _
  · funext s; exact congrFun e9 _
  · funext h; exact congrFun e1 _
  · exact congrFun e3 _
  · exact congrFun e5 _
  · funext f s; exact congrArg (fun p => Ideal.cos (angle p f)) (congrFun e10 (ix2 0 s))
  · funext f s; exact congrArg (fun p => Ideal.sin (angle p f)) (congrFun e10 (ix2 0 s))

variable (hp : Cert.Pre_KernelIdeal_scales_ok m)
include hp

/-- The query gradients are equal, -/
theorem dq_eq (c : Dev Cert.KernelIdeal.nD) (h : Agree m m' c) : outDq (exitV m' c) = majQ (GDQ m c) := by
  funext i
  obtain ⟨a, g, d, s, rfl⟩ : ∃ (a : Fin 6) (g : Fin 4) (d : Fin 160) (s : Fin 1792), i = ix4 0 s ⟨(a : ℕ) * 4 + g, by omega⟩ d := by
    have hi : (i 2 : ℕ) < 24 := (i 2).isLt
    refine ⟨⟨(i 2 : ℕ) / 4, by omega⟩, ⟨(i 2 : ℕ) % 4, Nat.mod_lt _ (by norm_num)⟩, i 3, i 1, ?_⟩
    exact (eq_ix4 i).trans (ext4 (congrArg Fin.val (Subsingleton.elim (α := Fin 1) (i 0) 0)) rfl (show (i 2 : ℕ) = (i 2 : ℕ) / 4 * 4 + (i 2 : ℕ) % 4 by omega) rfl)
  refine (Cert.ReferenceIdeal.Value.outDq_at _ a g d s).trans (Eq.trans ?_ ((majQ_at (GDQ m c) s _ d).trans (GDQ_at m c a g d s)).symm)
  rw [grp_agree m m' c h a]
  exact dqR_eq (Cert.Scales.ok m hp c a) g d s

/-- the key gradients too, -/
theorem dk_eq (c : Dev Cert.KernelIdeal.nD) (h : Agree m m' c) : outDk (exitV m' c) = majK (GDK m c) := by
  funext i
  obtain ⟨a, d, s, rfl⟩ : ∃ (a : Fin 6) (d : Fin 160) (s : Fin 1792), i = ix4 0 s a d :=
    ⟨i 2, i 3, i 1, (eq_ix4 i).trans (ext4 (congrArg Fin.val (Subsingleton.elim (α := Fin 1) (i 0) 0)) rfl rfl rfl)⟩
  refine (Cert.ReferenceIdeal.Value.outDk_at _ a d s).trans (Eq.trans ?_ (majK_at (GDK m c) s a d).symm)
  rw [grp_agree m m' c h a]
  exact dkR_eq (Cert.Scales.ok m hp c a) d s

omit hp in
/-- and the value gradients. -/
theorem dv_eq (c : Dev Cert.KernelIdeal.nD) (h : Agree m m' c) : outDv (exitV m' c) = majK (GDV m c) := by
  funext i
  obtain ⟨a, d, s, rfl⟩ : ∃ (a : Fin 6) (d : Fin 160) (s : Fin 1792), i = ix4 0 s a d :=
    ⟨i 2, i 3, i 1, (eq_ix4 i).trans (ext4 (congrArg Fin.val (Subsingleton.elim (α := Fin 1) (i 0) 0)) rfl rfl rfl)⟩
  refine (Cert.ReferenceIdeal.Value.outDv_at _ a d s).trans (Eq.trans ?_ (majK_at (GDV m c) s a d).symm)
  rw [grp_agree m m' c h a]
  exact dvR_eq d s

omit hp in
/-- `Cert.algebraic_KernelIdeal_ReferenceIdeal_pre_scales_ok`. -/
theorem algebraic : Cert.algebraic_KernelIdeal_ReferenceIdeal_pre_scales_ok (hKernelIdeal := Cert.KernelIdeal.Gen.facts)
    (hReferenceIdeal := Cert.ReferenceIdeal.Gen.facts) (hPre_scales_ok := Cert.Scales.facts) := by
  intro m g m' g' hp hargs
  refine ⟨fun c => majQ (GDQ m c), fun c => majK (GDK m c), fun c => majK (GDV m c), ?_, ?_⟩
  · refine (θ_run (Cert.KernelIdeal.defs (F := Ideal)) _ _).mono (fun r h c => ?_) (run_blocks (F := Ideal) m g)
    obtain ⟨h0, h1, h2, hr⟩ := h c
    exact ⟨h0.trans (congrArg majQ (arr_DQ m c)), h1.trans (congrArg majK (arr_DK m c)), h2.trans (congrArg majK (arr_DV m c)), hr⟩
  · refine (θ_run (Cert.ReferenceIdeal.defs (F := Ideal)) _ _).mono (fun r h c => ?_) (Cert.ReferenceIdeal.Value.run (F := Ideal) m' g')
    obtain ⟨h0, h1, h2, hr⟩ := h c
    exact ⟨h0.trans (dq_eq m m' hp c (hargs c)), h1.trans (dk_eq m m' hp c (hargs c)), h2.trans (dv_eq m m' c (hargs c)), hr⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The two named constants have the values they are named for. -/
theorem preserves : Cert.preserves_Kernel_KernelIdeal :=
  ⟨IdealRules.named_const.statement Cert.KernelIdeal.κ "log2e" .f32 0x3FB8AA3B#32 _ rfl,
    IdealRules.named_const.statement Cert.KernelIdeal.κ "sm_log2e" .f32 0x3DE995B3#32 _ rfl⟩

theorem claim : Cert.Claim := ⟨Cert.Kernel.Gen.facts, Cert.KernelIdeal.Gen.facts, Cert.ReferenceIdeal.Gen.facts, Cert.Scales.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
